-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Updx (m : (ℓ : Loc Cert.Updx.nD Cert.Updx.τ Cert.Updx.sig) → Buf (Elt Bits) ℓ) : Prop :=
  True

def Pre_UpdxIdeal (m : (ℓ : Loc Cert.UpdxIdeal.nD Cert.UpdxIdeal.τ Cert.UpdxIdeal.sig) → Buf (Elt Ideal) ℓ) : Prop :=
  True

def Pre_UpdxRefIdeal (m : (ℓ : Loc Cert.UpdxRefIdeal.nD Cert.UpdxRefIdeal.τ Cert.UpdxRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Indx (m : (ℓ : Loc Cert.Indx.nD Cert.Indx.τ Cert.Indx.sig) → Buf (Elt Bits) ℓ) : Prop :=
  True

def Pre_IndxIdeal (m : (ℓ : Loc Cert.IndxIdeal.nD Cert.IndxIdeal.τ Cert.IndxIdeal.sig) → Buf (Elt Ideal) ℓ) : Prop :=
  True

def Pre_IndxRefIdeal (m : (ℓ : Loc Cert.IndxRefIdeal.nD Cert.IndxRefIdeal.τ Cert.IndxRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Xatt (m : (ℓ : Loc Cert.Xatt.nD Cert.Xatt.τ Cert.Xatt.sig) → Buf (Elt Bits) ℓ) : Prop :=
  True

def Pre_XattIdeal (m : (ℓ : Loc Cert.XattIdeal.nD Cert.XattIdeal.τ Cert.XattIdeal.sig) → Buf (Elt Ideal) ℓ) : Prop :=
  True

def Pre_XattRefIdeal (m : (ℓ : Loc Cert.XattRefIdeal.nD Cert.XattRefIdeal.τ Cert.XattRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Norms (m : (ℓ : Loc Cert.Norms.nD Cert.Norms.τ Cert.Norms.sig) → Buf (Elt Bits) ℓ) : Prop :=
  True

def Pre_NormsIdeal (m : (ℓ : Loc Cert.NormsIdeal.nD Cert.NormsIdeal.τ Cert.NormsIdeal.sig) → Buf (Elt Ideal) ℓ) : Prop :=
  True

def Pre_NormsRefIdeal (m : (ℓ : Loc Cert.NormsRefIdeal.nD Cert.NormsRefIdeal.τ Cert.NormsRefIdeal.sig) → Buf (Elt Ideal) ℓ) : Prop :=
  True

def Pre_Memn (m : (ℓ : Loc Cert.Memn.nD Cert.Memn.τ Cert.Memn.sig) → Buf (Elt Bits) ℓ) : Prop :=
  True

def Pre_MemnIdeal (m : (ℓ : Loc Cert.MemnIdeal.nD Cert.MemnIdeal.τ Cert.MemnIdeal.sig) → Buf (Elt Ideal) ℓ) : Prop :=
  True

def Pre_MemnRefIdeal (m : (ℓ : Loc Cert.MemnRefIdeal.nD Cert.MemnRefIdeal.τ Cert.MemnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Updx [hUpdx : Cert.Updx.Facts] : Prop :=
  ∀ (m : (ℓ : Loc Cert.Updx.nD Cert.Updx.τ Cert.Updx.sig) → Buf (Elt Bits) ℓ) (g : Dev Cert.Updx.nD → PrngReg), Pre_Updx m →
    θ_run (Cert.Updx.defs (F := Bits)) (onTc (τ := Cert.Updx.τ) (Cert.Updx.main (F := Bits))) ⟨m, fun _ => 0, g⟩ (fun r => (∀ c : Dev Cert.Updx.nD,
      r.2.mem ((c.tc : Thread Cert.Updx.nD Cert.Updx.τ).loc Cert.Updx.main_arg0) = m ((c.tc : Thread Cert.Updx.nD Cert.Updx.τ).loc Cert.Updx.main_arg0)
      ∧ r.2.mem ((c.tc : Thread Cert.Updx.nD Cert.Updx.τ).loc Cert.Updx.main_arg1) = m ((c.tc : Thread Cert.Updx.nD Cert.Updx.τ).loc Cert.Updx.main_arg1))
      ∧ r.2.sem = fun _ => 0)

def quiescent_UpdxIdeal [hUpdxIdeal : Cert.UpdxIdeal.Facts] : Prop :=
  ∀ (m : (ℓ : Loc Cert.UpdxIdeal.nD Cert.UpdxIdeal.τ Cert.UpdxIdeal.sig) → Buf (Elt Ideal) ℓ) (g : Dev Cert.UpdxIdeal.nD → PrngReg), Pre_UpdxIdeal m →
    θ_run (Cert.UpdxIdeal.defs (F := Ideal)) (onTc (τ := Cert.UpdxIdeal.τ) (Cert.UpdxIdeal.main (F := Ideal))) ⟨m, fun _ => 0, g⟩ (fun r => (∀ c : Dev Cert.UpdxIdeal.nD,
      r.2.mem ((c.tc : Thread Cert.UpdxIdeal.nD Cert.UpdxIdeal.τ).loc Cert.UpdxIdeal.main_arg0) = m ((c.tc : Thread Cert.UpdxIdeal.nD Cert.UpdxIdeal.τ).loc Cert.UpdxIdeal.main_arg0)
      ∧ r.2.mem ((c.tc : Thread Cert.UpdxIdeal.nD Cert.UpdxIdeal.τ).loc Cert.UpdxIdeal.main_arg1) = m ((c.tc : Thread Cert.UpdxIdeal.nD Cert.UpdxIdeal.τ).loc Cert.UpdxIdeal.main_arg1))
      ∧ r.2.sem = fun _ => 0)

def quiescent_UpdxRefIdeal [hUpdxRefIdeal : Cert.UpdxRefIdeal.Facts] : Prop :=
  ∀ (m : (ℓ : Loc Cert.UpdxRefIdeal.nD Cert.UpdxRefIdeal.τ Cert.UpdxRefIdeal.sig) → Buf (Elt Ideal) ℓ) (g : Dev Cert.UpdxRefIdeal.nD → PrngReg), Pre_UpdxRefIdeal m →
    θ_run (Cert.UpdxRefIdeal.defs (F := Ideal)) (onTc (τ := Cert.UpdxRefIdeal.τ) (Cert.UpdxRefIdeal.main (F := Ideal))) ⟨m, fun _ => 0, g⟩ (fun r => (∀ c : Dev Cert.UpdxRefIdeal.nD,
      r.2.mem ((c.tc : Thread Cert.UpdxRefIdeal.nD Cert.UpdxRefIdeal.τ).loc Cert.UpdxRefIdeal.main_arg0) = m ((c.tc : Thread Cert.UpdxRefIdeal.nD Cert.UpdxRefIdeal.τ).loc Cert.UpdxRefIdeal.main_arg0)
      ∧ r.2.mem ((c.tc : Thread Cert.UpdxRefIdeal.nD Cert.UpdxRefIdeal.τ).loc Cert.UpdxRefIdeal.main_arg1) = m ((c.tc : Thread Cert.UpdxRefIdeal.nD Cert.UpdxRefIdeal.τ).loc Cert.UpdxRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Indx [hIndx : Cert.Indx.Facts] : Prop :=
  ∀ (m : (ℓ : Loc Cert.Indx.nD Cert.Indx.τ Cert.Indx.sig) → Buf (Elt Bits) ℓ) (g : Dev Cert.Indx.nD → PrngReg), Pre_Indx m →
    θ_run (Cert.Indx.defs (F := Bits)) (onTc (τ := Cert.Indx.τ) (Cert.Indx.main (F := Bits))) ⟨m, fun _ => 0, g⟩ (fun r => (∀ c : Dev Cert.Indx.nD,
      r.2.mem ((c.tc : Thread Cert.Indx.nD Cert.Indx.τ).loc Cert.Indx.main_arg0) = m ((c.tc : Thread Cert.Indx.nD Cert.Indx.τ).loc Cert.Indx.main_arg0)
      ∧ r.2.mem ((c.tc : Thread Cert.Indx.nD Cert.Indx.τ).loc Cert.Indx.main_arg1) = m ((c.tc : Thread Cert.Indx.nD Cert.Indx.τ).loc Cert.Indx.main_arg1))
      ∧ r.2.sem = fun _ => 0)

def quiescent_IndxIdeal [hIndxIdeal : Cert.IndxIdeal.Facts] : Prop :=
  ∀ (m : (ℓ : Loc Cert.IndxIdeal.nD Cert.IndxIdeal.τ Cert.IndxIdeal.sig) → Buf (Elt Ideal) ℓ) (g : Dev Cert.IndxIdeal.nD → PrngReg), Pre_IndxIdeal m →
    θ_run (Cert.IndxIdeal.defs (F := Ideal)) (onTc (τ := Cert.IndxIdeal.τ) (Cert.IndxIdeal.main (F := Ideal))) ⟨m, fun _ => 0, g⟩ (fun r => (∀ c : Dev Cert.IndxIdeal.nD,
      r.2.mem ((c.tc : Thread Cert.IndxIdeal.nD Cert.IndxIdeal.τ).loc Cert.IndxIdeal.main_arg0) = m ((c.tc : Thread Cert.IndxIdeal.nD Cert.IndxIdeal.τ).loc Cert.IndxIdeal.main_arg0)
      ∧ r.2.mem ((c.tc : Thread Cert.IndxIdeal.nD Cert.IndxIdeal.τ).loc Cert.IndxIdeal.main_arg1) = m ((c.tc : Thread Cert.IndxIdeal.nD Cert.IndxIdeal.τ).loc Cert.IndxIdeal.main_arg1))
      ∧ r.2.sem = fun _ => 0)

def quiescent_IndxRefIdeal [hIndxRefIdeal : Cert.IndxRefIdeal.Facts] : Prop :=
  ∀ (m : (ℓ : Loc Cert.IndxRefIdeal.nD Cert.IndxRefIdeal.τ Cert.IndxRefIdeal.sig) → Buf (Elt Ideal) ℓ) (g : Dev Cert.IndxRefIdeal.nD → PrngReg), Pre_IndxRefIdeal m →
    θ_run (Cert.IndxRefIdeal.defs (F := Ideal)) (onTc (τ := Cert.IndxRefIdeal.τ) (Cert.IndxRefIdeal.main (F := Ideal))) ⟨m, fun _ => 0, g⟩ (fun r => (∀ c : Dev Cert.IndxRefIdeal.nD,
      r.2.mem ((c.tc : Thread Cert.IndxRefIdeal.nD Cert.IndxRefIdeal.τ).loc Cert.IndxRefIdeal.main_arg0) = m ((c.tc : Thread Cert.IndxRefIdeal.nD Cert.IndxRefIdeal.τ).loc Cert.IndxRefIdeal.main_arg0)
      ∧ r.2.mem ((c.tc : Thread Cert.IndxRefIdeal.nD Cert.IndxRefIdeal.τ).loc Cert.IndxRefIdeal.main_arg1) = m ((c.tc : Thread Cert.IndxRefIdeal.nD Cert.IndxRefIdeal.τ).loc Cert.IndxRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Xatt [hXatt : Cert.Xatt.Facts] : Prop :=
  ∀ (m : (ℓ : Loc Cert.Xatt.nD Cert.Xatt.τ Cert.Xatt.sig) → Buf (Elt Bits) ℓ) (g : Dev Cert.Xatt.nD → PrngReg), Pre_Xatt m →
    θ_run (Cert.Xatt.defs (F := Bits)) (onTc (τ := Cert.Xatt.τ) (Cert.Xatt.main (F := Bits))) ⟨m, fun _ => 0, g⟩ (fun r => (∀ c : Dev Cert.Xatt.nD,
      r.2.mem ((c.tc : Thread Cert.Xatt.nD Cert.Xatt.τ).loc Cert.Xatt.main_arg0) = m ((c.tc : Thread Cert.Xatt.nD Cert.Xatt.τ).loc Cert.Xatt.main_arg0)
      ∧ r.2.mem ((c.tc : Thread Cert.Xatt.nD Cert.Xatt.τ).loc Cert.Xatt.main_arg1) = m ((c.tc : Thread Cert.Xatt.nD Cert.Xatt.τ).loc Cert.Xatt.main_arg1)
      ∧ r.2.mem ((c.tc : Thread Cert.Xatt.nD Cert.Xatt.τ).loc Cert.Xatt.main_arg2) = m ((c.tc : Thread Cert.Xatt.nD Cert.Xatt.τ).loc Cert.Xatt.main_arg2)
      ∧ r.2.mem ((c.tc : Thread Cert.Xatt.nD Cert.Xatt.τ).loc Cert.Xatt.main_arg3) = m ((c.tc : Thread Cert.Xatt.nD Cert.Xatt.τ).loc Cert.Xatt.main_arg3)
      ∧ r.2.mem ((c.tc : Thread Cert.Xatt.nD Cert.Xatt.τ).loc Cert.Xatt.main_arg4) = m ((c.tc : Thread Cert.Xatt.nD Cert.Xatt.τ).loc Cert.Xatt.main_arg4)
      ∧ r.2.mem ((c.tc : Thread Cert.Xatt.nD Cert.Xatt.τ).loc Cert.Xatt.main_arg5) = m ((c.tc : Thread Cert.Xatt.nD Cert.Xatt.τ).loc Cert.Xatt.main_arg5)
      ∧ r.2.mem ((c.tc : Thread Cert.Xatt.nD Cert.Xatt.τ).loc Cert.Xatt.main_arg6) = m ((c.tc : Thread Cert.Xatt.nD Cert.Xatt.τ).loc Cert.Xatt.main_arg6))
      ∧ r.2.sem = fun _ => 0)

def quiescent_XattIdeal [hXattIdeal : Cert.XattIdeal.Facts] : Prop :=
  ∀ (m : (ℓ : Loc Cert.XattIdeal.nD Cert.XattIdeal.τ Cert.XattIdeal.sig) → Buf (Elt Ideal) ℓ) (g : Dev Cert.XattIdeal.nD → PrngReg), Pre_XattIdeal m →
    θ_run (Cert.XattIdeal.defs (F := Ideal)) (onTc (τ := Cert.XattIdeal.τ) (Cert.XattIdeal.main (F := Ideal))) ⟨m, fun _ => 0, g⟩ (fun r => (∀ c : Dev Cert.XattIdeal.nD,
      r.2.mem ((c.tc : Thread Cert.XattIdeal.nD Cert.XattIdeal.τ).loc Cert.XattIdeal.main_arg0) = m ((c.tc : Thread Cert.XattIdeal.nD Cert.XattIdeal.τ).loc Cert.XattIdeal.main_arg0)
      ∧ r.2.mem ((c.tc : Thread Cert.XattIdeal.nD Cert.XattIdeal.τ).loc Cert.XattIdeal.main_arg1) = m ((c.tc : Thread Cert.XattIdeal.nD Cert.XattIdeal.τ).loc Cert.XattIdeal.main_arg1)
      ∧ r.2.mem ((c.tc : Thread Cert.XattIdeal.nD Cert.XattIdeal.τ).loc Cert.XattIdeal.main_arg2) = m ((c.tc : Thread Cert.XattIdeal.nD Cert.XattIdeal.τ).loc Cert.XattIdeal.main_arg2)
      ∧ r.2.mem ((c.tc : Thread Cert.XattIdeal.nD Cert.XattIdeal.τ).loc Cert.XattIdeal.main_arg3) = m ((c.tc : Thread Cert.XattIdeal.nD Cert.XattIdeal.τ).loc Cert.XattIdeal.main_arg3)
      ∧ r.2.mem ((c.tc : Thread Cert.XattIdeal.nD Cert.XattIdeal.τ).loc Cert.XattIdeal.main_arg4) = m ((c.tc : Thread Cert.XattIdeal.nD Cert.XattIdeal.τ).loc Cert.XattIdeal.main_arg4)
      ∧ r.2.mem ((c.tc : Thread Cert.XattIdeal.nD Cert.XattIdeal.τ).loc Cert.XattIdeal.main_arg5) = m ((c.tc : Thread Cert.XattIdeal.nD Cert.XattIdeal.τ).loc Cert.XattIdeal.main_arg5)
      ∧ r.2.mem ((c.tc : Thread Cert.XattIdeal.nD Cert.XattIdeal.τ).loc Cert.XattIdeal.main_arg6) = m ((c.tc : Thread Cert.XattIdeal.nD Cert.XattIdeal.τ).loc Cert.XattIdeal.main_arg6))
      ∧ r.2.sem = fun _ => 0)

def quiescent_XattRefIdeal [hXattRefIdeal : Cert.XattRefIdeal.Facts] : Prop :=
  ∀ (m : (ℓ : Loc Cert.XattRefIdeal.nD Cert.XattRefIdeal.τ Cert.XattRefIdeal.sig) → Buf (Elt Ideal) ℓ) (g : Dev Cert.XattRefIdeal.nD → PrngReg), Pre_XattRefIdeal m →
    θ_run (Cert.XattRefIdeal.defs (F := Ideal)) (onTc (τ := Cert.XattRefIdeal.τ) (Cert.XattRefIdeal.main (F := Ideal))) ⟨m, fun _ => 0, g⟩ (fun r => (∀ c : Dev Cert.XattRefIdeal.nD,
      r.2.mem ((c.tc : Thread Cert.XattRefIdeal.nD Cert.XattRefIdeal.τ).loc Cert.XattRefIdeal.main_arg0) = m ((c.tc : Thread Cert.XattRefIdeal.nD Cert.XattRefIdeal.τ).loc Cert.XattRefIdeal.main_arg0)
      ∧ r.2.mem ((c.tc : Thread Cert.XattRefIdeal.nD Cert.XattRefIdeal.τ).loc Cert.XattRefIdeal.main_arg1) = m ((c.tc : Thread Cert.XattRefIdeal.nD Cert.XattRefIdeal.τ).loc Cert.XattRefIdeal.main_arg1)
      ∧ r.2.mem ((c.tc : Thread Cert.XattRefIdeal.nD Cert.XattRefIdeal.τ).loc Cert.XattRefIdeal.main_arg2) = m ((c.tc : Thread Cert.XattRefIdeal.nD Cert.XattRefIdeal.τ).loc Cert.XattRefIdeal.main_arg2)
      ∧ r.2.mem ((c.tc : Thread Cert.XattRefIdeal.nD Cert.XattRefIdeal.τ).loc Cert.XattRefIdeal.main_arg3) = m ((c.tc : Thread Cert.XattRefIdeal.nD Cert.XattRefIdeal.τ).loc Cert.XattRefIdeal.main_arg3)
      ∧ r.2.mem ((c.tc : Thread Cert.XattRefIdeal.nD Cert.XattRefIdeal.τ).loc Cert.XattRefIdeal.main_arg4) = m ((c.tc : Thread Cert.XattRefIdeal.nD Cert.XattRefIdeal.τ).loc Cert.XattRefIdeal.main_arg4)
      ∧ r.2.mem ((c.tc : Thread Cert.XattRefIdeal.nD Cert.XattRefIdeal.τ).loc Cert.XattRefIdeal.main_arg5) = m ((c.tc : Thread Cert.XattRefIdeal.nD Cert.XattRefIdeal.τ).loc Cert.XattRefIdeal.main_arg5)
      ∧ r.2.mem ((c.tc : Thread Cert.XattRefIdeal.nD Cert.XattRefIdeal.τ).loc Cert.XattRefIdeal.main_arg6) = m ((c.tc : Thread Cert.XattRefIdeal.nD Cert.XattRefIdeal.τ).loc Cert.XattRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Norms [hNorms : Cert.Norms.Facts] : Prop :=
  ∀ (m : (ℓ : Loc Cert.Norms.nD Cert.Norms.τ Cert.Norms.sig) → Buf (Elt Bits) ℓ) (g : Dev Cert.Norms.nD → PrngReg), Pre_Norms m →
    θ_run (Cert.Norms.defs (F := Bits)) (onTc (τ := Cert.Norms.τ) (Cert.Norms.main (F := Bits))) ⟨m, fun _ => 0, g⟩ (fun r => (∀ c : Dev Cert.Norms.nD,
      r.2.mem ((c.tc : Thread Cert.Norms.nD Cert.Norms.τ).loc Cert.Norms.main_arg0) = m ((c.tc : Thread Cert.Norms.nD Cert.Norms.τ).loc Cert.Norms.main_arg0)
      ∧ r.2.mem ((c.tc : Thread Cert.Norms.nD Cert.Norms.τ).loc Cert.Norms.main_arg1) = m ((c.tc : Thread Cert.Norms.nD Cert.Norms.τ).loc Cert.Norms.main_arg1)
      ∧ r.2.mem ((c.tc : Thread Cert.Norms.nD Cert.Norms.τ).loc Cert.Norms.main_arg2) = m ((c.tc : Thread Cert.Norms.nD Cert.Norms.τ).loc Cert.Norms.main_arg2)
      ∧ r.2.mem ((c.tc : Thread Cert.Norms.nD Cert.Norms.τ).loc Cert.Norms.main_arg3) = m ((c.tc : Thread Cert.Norms.nD Cert.Norms.τ).loc Cert.Norms.main_arg3)
      ∧ r.2.mem ((c.tc : Thread Cert.Norms.nD Cert.Norms.τ).loc Cert.Norms.main_arg4) = m ((c.tc : Thread Cert.Norms.nD Cert.Norms.τ).loc Cert.Norms.main_arg4)
      ∧ r.2.mem ((c.tc : Thread Cert.Norms.nD Cert.Norms.τ).loc Cert.Norms.main_arg5) = m ((c.tc : Thread Cert.Norms.nD Cert.Norms.τ).loc Cert.Norms.main_arg5))
      ∧ r.2.sem = fun _ => 0)

def quiescent_NormsIdeal [hNormsIdeal : Cert.NormsIdeal.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
      ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
      ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
      ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
      ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5))
      ∧ r.2.sem = fun _ => 0)

def quiescent_NormsRefIdeal [hNormsRefIdeal : Cert.NormsRefIdeal.Facts] : Prop :=
  ∀ (m : (ℓ : Loc Cert.NormsRefIdeal.nD Cert.NormsRefIdeal.τ Cert.NormsRefIdeal.sig) → Buf (Elt Ideal) ℓ) (g : Dev Cert.NormsRefIdeal.nD → PrngReg), Pre_NormsRefIdeal m →
    θ_run (Cert.NormsRefIdeal.defs (F := Ideal)) (onTc (τ := Cert.NormsRefIdeal.τ) (Cert.NormsRefIdeal.main (F := Ideal))) ⟨m, fun _ => 0, g⟩ (fun r => (∀ c : Dev Cert.NormsRefIdeal.nD,
      r.2.mem ((c.tc : Thread Cert.NormsRefIdeal.nD Cert.NormsRefIdeal.τ).loc Cert.NormsRefIdeal.main_arg0) = m ((c.tc : Thread Cert.NormsRefIdeal.nD Cert.NormsRefIdeal.τ).loc Cert.NormsRefIdeal.main_arg0)
      ∧ r.2.mem ((c.tc : Thread Cert.NormsRefIdeal.nD Cert.NormsRefIdeal.τ).loc Cert.NormsRefIdeal.main_arg1) = m ((c.tc : Thread Cert.NormsRefIdeal.nD Cert.NormsRefIdeal.τ).loc Cert.NormsRefIdeal.main_arg1)
      ∧ r.2.mem ((c.tc : Thread Cert.NormsRefIdeal.nD Cert.NormsRefIdeal.τ).loc Cert.NormsRefIdeal.main_arg2) = m ((c.tc : Thread Cert.NormsRefIdeal.nD Cert.NormsRefIdeal.τ).loc Cert.NormsRefIdeal.main_arg2)
      ∧ r.2.mem ((c.tc : Thread Cert.NormsRefIdeal.nD Cert.NormsRefIdeal.τ).loc Cert.NormsRefIdeal.main_arg3) = m ((c.tc : Thread Cert.NormsRefIdeal.nD Cert.NormsRefIdeal.τ).loc Cert.NormsRefIdeal.main_arg3)
      ∧ r.2.mem ((c.tc : Thread Cert.NormsRefIdeal.nD Cert.NormsRefIdeal.τ).loc Cert.NormsRefIdeal.main_arg4) = m ((c.tc : Thread Cert.NormsRefIdeal.nD Cert.NormsRefIdeal.τ).loc Cert.NormsRefIdeal.main_arg4)
      ∧ r.2.mem ((c.tc : Thread Cert.NormsRefIdeal.nD Cert.NormsRefIdeal.τ).loc Cert.NormsRefIdeal.main_arg5) = m ((c.tc : Thread Cert.NormsRefIdeal.nD Cert.NormsRefIdeal.τ).loc Cert.NormsRefIdeal.main_arg5))
      ∧ r.2.sem = fun _ => 0)

def quiescent_Memn [hMemn : Cert.Memn.Facts] : Prop :=
  ∀ (m : (ℓ : Loc Cert.Memn.nD Cert.Memn.τ Cert.Memn.sig) → Buf (Elt Bits) ℓ) (g : Dev Cert.Memn.nD → PrngReg), Pre_Memn m →
    θ_run (Cert.Memn.defs (F := Bits)) (onTc (τ := Cert.Memn.τ) (Cert.Memn.main (F := Bits))) ⟨m, fun _ => 0, g⟩ (fun r => (∀ c : Dev Cert.Memn.nD,
      r.2.mem ((c.tc : Thread Cert.Memn.nD Cert.Memn.τ).loc Cert.Memn.main_arg0) = m ((c.tc : Thread Cert.Memn.nD Cert.Memn.τ).loc Cert.Memn.main_arg0)
      ∧ r.2.mem ((c.tc : Thread Cert.Memn.nD Cert.Memn.τ).loc Cert.Memn.main_arg1) = m ((c.tc : Thread Cert.Memn.nD Cert.Memn.τ).loc Cert.Memn.main_arg1)
      ∧ r.2.mem ((c.tc : Thread Cert.Memn.nD Cert.Memn.τ).loc Cert.Memn.main_arg2) = m ((c.tc : Thread Cert.Memn.nD Cert.Memn.τ).loc Cert.Memn.main_arg2))
      ∧ r.2.sem = fun _ => 0)

def quiescent_MemnIdeal [hMemnIdeal : Cert.MemnIdeal.Facts] : Prop :=
  ∀ (m : (ℓ : Loc Cert.MemnIdeal.nD Cert.MemnIdeal.τ Cert.MemnIdeal.sig) → Buf (Elt Ideal) ℓ) (g : Dev Cert.MemnIdeal.nD → PrngReg), Pre_MemnIdeal m →
    θ_run (Cert.MemnIdeal.defs (F := Ideal)) (onTc (τ := Cert.MemnIdeal.τ) (Cert.MemnIdeal.main (F := Ideal))) ⟨m, fun _ => 0, g⟩ (fun r => (∀ c : Dev Cert.MemnIdeal.nD,
      r.2.mem ((c.tc : Thread Cert.MemnIdeal.nD Cert.MemnIdeal.τ).loc Cert.MemnIdeal.main_arg0) = m ((c.tc : Thread Cert.MemnIdeal.nD Cert.MemnIdeal.τ).loc Cert.MemnIdeal.main_arg0)
      ∧ r.2.mem ((c.tc : Thread Cert.MemnIdeal.nD Cert.MemnIdeal.τ).loc Cert.MemnIdeal.main_arg1) = m ((c.tc : Thread Cert.MemnIdeal.nD Cert.MemnIdeal.τ).loc Cert.MemnIdeal.main_arg1)
      ∧ r.2.mem ((c.tc : Thread Cert.MemnIdeal.nD Cert.MemnIdeal.τ).loc Cert.MemnIdeal.main_arg2) = m ((c.tc : Thread Cert.MemnIdeal.nD Cert.MemnIdeal.τ).loc Cert.MemnIdeal.main_arg2))
      ∧ r.2.sem = fun _ => 0)

def quiescent_MemnRefIdeal [hMemnRefIdeal : Cert.MemnRefIdeal.Facts] : Prop :=
  ∀ (m : (ℓ : Loc Cert.MemnRefIdeal.nD Cert.MemnRefIdeal.τ Cert.MemnRefIdeal.sig) → Buf (Elt Ideal) ℓ) (g : Dev Cert.MemnRefIdeal.nD → PrngReg), Pre_MemnRefIdeal m →
    θ_run (Cert.MemnRefIdeal.defs (F := Ideal)) (onTc (τ := Cert.MemnRefIdeal.τ) (Cert.MemnRefIdeal.main (F := Ideal))) ⟨m, fun _ => 0, g⟩ (fun r => (∀ c : Dev Cert.MemnRefIdeal.nD,
      r.2.mem ((c.tc : Thread Cert.MemnRefIdeal.nD Cert.MemnRefIdeal.τ).loc Cert.MemnRefIdeal.main_arg0) = m ((c.tc : Thread Cert.MemnRefIdeal.nD Cert.MemnRefIdeal.τ).loc Cert.MemnRefIdeal.main_arg0)
      ∧ r.2.mem ((c.tc : Thread Cert.MemnRefIdeal.nD Cert.MemnRefIdeal.τ).loc Cert.MemnRefIdeal.main_arg1) = m ((c.tc : Thread Cert.MemnRefIdeal.nD Cert.MemnRefIdeal.τ).loc Cert.MemnRefIdeal.main_arg1)
      ∧ r.2.mem ((c.tc : Thread Cert.MemnRefIdeal.nD Cert.MemnRefIdeal.τ).loc Cert.MemnRefIdeal.main_arg2) = m ((c.tc : Thread Cert.MemnRefIdeal.nD Cert.MemnRefIdeal.τ).loc Cert.MemnRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v141) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)) (v1 : (c : Dev Cert.FfnIdeal.nD) → Buf (Elt Ideal) ((c.tc : Thread Cert.FfnIdeal.nD Cert.FfnIdeal.τ).loc Cert.FfnIdeal.main_v6)) (v2 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_v6) = v1 c
          ∧ r.2.mem ((c.tc : Thread Cert.FfnIdeal.nD Cert.FfnIdeal.τ).loc Cert.FfnIdeal.main_v7) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_v22) = v1 c
          ∧ r.2.mem ((c.tc : Thread Cert.FfnRefIdeal.nD Cert.FfnRefIdeal.τ).loc Cert.FfnRefIdeal.main_v23) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Updx_UpdxIdeal : Prop :=
  True

def algebraic_UpdxIdeal_UpdxRefIdeal [hUpdxIdeal : Cert.UpdxIdeal.Facts] [hUpdxRefIdeal : Cert.UpdxRefIdeal.Facts] : Prop :=
  ∀ (m : (ℓ : Loc Cert.UpdxIdeal.nD Cert.UpdxIdeal.τ Cert.UpdxIdeal.sig) → Buf (Elt Ideal) ℓ) (g : Dev Cert.UpdxIdeal.nD → PrngReg)
    (m' : (ℓ : Loc Cert.UpdxRefIdeal.nD Cert.UpdxRefIdeal.τ Cert.UpdxRefIdeal.sig) → Buf (Elt Ideal) ℓ) (g' : Dev Cert.UpdxRefIdeal.nD → PrngReg), Pre_UpdxIdeal m →
    (∀ c : Dev Cert.UpdxIdeal.nD,
      m' ((c.tc : Thread Cert.UpdxRefIdeal.nD Cert.UpdxRefIdeal.τ).loc Cert.UpdxRefIdeal.main_arg0) = m ((c.tc : Thread Cert.UpdxIdeal.nD Cert.UpdxIdeal.τ).loc Cert.UpdxIdeal.main_arg0)
      ∧ m' ((c.tc : Thread Cert.UpdxRefIdeal.nD Cert.UpdxRefIdeal.τ).loc Cert.UpdxRefIdeal.main_arg1) = m ((c.tc : Thread Cert.UpdxIdeal.nD Cert.UpdxIdeal.τ).loc Cert.UpdxIdeal.main_arg1)) →
    ∃ (v0 : (c : Dev Cert.UpdxIdeal.nD) → Buf (Elt Ideal) ((c.tc : Thread Cert.UpdxIdeal.nD Cert.UpdxIdeal.τ).loc Cert.UpdxIdeal.main_v3)),
      θ_run (Cert.UpdxIdeal.defs (F := Ideal)) (onTc (τ := Cert.UpdxIdeal.τ) (Cert.UpdxIdeal.main (F := Ideal))) ⟨m, fun _ => 0, g⟩ (fun r => ∀ c : Dev Cert.UpdxIdeal.nD,
          r.2.mem ((c.tc : Thread Cert.UpdxIdeal.nD Cert.UpdxIdeal.τ).loc Cert.UpdxIdeal.main_v3) = v0 c
          ∧ r.2.mem ((c.tc : Thread Cert.UpdxIdeal.nD Cert.UpdxIdeal.τ).loc Cert.UpdxIdeal.main_arg0) = m ((c.tc : Thread Cert.UpdxIdeal.nD Cert.UpdxIdeal.τ).loc Cert.UpdxIdeal.main_arg0)
          ∧ r.2.mem ((c.tc : Thread Cert.UpdxIdeal.nD Cert.UpdxIdeal.τ).loc Cert.UpdxIdeal.main_arg1) = m ((c.tc : Thread Cert.UpdxIdeal.nD Cert.UpdxIdeal.τ).loc Cert.UpdxIdeal.main_arg1))
      ∧ θ_run (Cert.UpdxRefIdeal.defs (F := Ideal)) (onTc (τ := Cert.UpdxRefIdeal.τ) (Cert.UpdxRefIdeal.main (F := Ideal))) ⟨m', fun _ => 0, g'⟩ (fun r => ∀ c : Dev Cert.UpdxRefIdeal.nD,
          r.2.mem ((c.tc : Thread Cert.UpdxRefIdeal.nD Cert.UpdxRefIdeal.τ).loc Cert.UpdxRefIdeal.main_v3) = v0 c
          ∧ r.2.mem ((c.tc : Thread Cert.UpdxRefIdeal.nD Cert.UpdxRefIdeal.τ).loc Cert.UpdxRefIdeal.main_arg0) = m' ((c.tc : Thread Cert.UpdxRefIdeal.nD Cert.UpdxRefIdeal.τ).loc Cert.UpdxRefIdeal.main_arg0)
          ∧ r.2.mem ((c.tc : Thread Cert.UpdxRefIdeal.nD Cert.UpdxRefIdeal.τ).loc Cert.UpdxRefIdeal.main_arg1) = m' ((c.tc : Thread Cert.UpdxRefIdeal.nD Cert.UpdxRefIdeal.τ).loc Cert.UpdxRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Indx_IndxIdeal : Prop :=
  True

def algebraic_IndxIdeal_IndxRefIdeal [hIndxIdeal : Cert.IndxIdeal.Facts] [hIndxRefIdeal : Cert.IndxRefIdeal.Facts] : Prop :=
  ∀ (m : (ℓ : Loc Cert.IndxIdeal.nD Cert.IndxIdeal.τ Cert.IndxIdeal.sig) → Buf (Elt Ideal) ℓ) (g : Dev Cert.IndxIdeal.nD → PrngReg)
    (m' : (ℓ : Loc Cert.IndxRefIdeal.nD Cert.IndxRefIdeal.τ Cert.IndxRefIdeal.sig) → Buf (Elt Ideal) ℓ) (g' : Dev Cert.IndxRefIdeal.nD → PrngReg), Pre_IndxIdeal m →
    (∀ c : Dev Cert.IndxIdeal.nD,
      m' ((c.tc : Thread Cert.IndxRefIdeal.nD Cert.IndxRefIdeal.τ).loc Cert.IndxRefIdeal.main_arg0) = m ((c.tc : Thread Cert.IndxIdeal.nD Cert.IndxIdeal.τ).loc Cert.IndxIdeal.main_arg0)
      ∧ m' ((c.tc : Thread Cert.IndxRefIdeal.nD Cert.IndxRefIdeal.τ).loc Cert.IndxRefIdeal.main_arg1) = m ((c.tc : Thread Cert.IndxIdeal.nD Cert.IndxIdeal.τ).loc Cert.IndxIdeal.main_arg1)) →
    ∃ (v0 : (c : Dev Cert.IndxIdeal.nD) → Buf (Elt Ideal) ((c.tc : Thread Cert.IndxIdeal.nD Cert.IndxIdeal.τ).loc Cert.IndxIdeal.main_v3)),
      θ_run (Cert.IndxIdeal.defs (F := Ideal)) (onTc (τ := Cert.IndxIdeal.τ) (Cert.IndxIdeal.main (F := Ideal))) ⟨m, fun _ => 0, g⟩ (fun r => ∀ c : Dev Cert.IndxIdeal.nD,
          r.2.mem ((c.tc : Thread Cert.IndxIdeal.nD Cert.IndxIdeal.τ).loc Cert.IndxIdeal.main_v3) = v0 c
          ∧ r.2.mem ((c.tc : Thread Cert.IndxIdeal.nD Cert.IndxIdeal.τ).loc Cert.IndxIdeal.main_arg0) = m ((c.tc : Thread Cert.IndxIdeal.nD Cert.IndxIdeal.τ).loc Cert.IndxIdeal.main_arg0)
          ∧ r.2.mem ((c.tc : Thread Cert.IndxIdeal.nD Cert.IndxIdeal.τ).loc Cert.IndxIdeal.main_arg1) = m ((c.tc : Thread Cert.IndxIdeal.nD Cert.IndxIdeal.τ).loc Cert.IndxIdeal.main_arg1))
      ∧ θ_run (Cert.IndxRefIdeal.defs (F := Ideal)) (onTc (τ := Cert.IndxRefIdeal.τ) (Cert.IndxRefIdeal.main (F := Ideal))) ⟨m', fun _ => 0, g'⟩ (fun r => ∀ c : Dev Cert.IndxRefIdeal.nD,
          r.2.mem ((c.tc : Thread Cert.IndxRefIdeal.nD Cert.IndxRefIdeal.τ).loc Cert.IndxRefIdeal.main_v3) = v0 c
          ∧ r.2.mem ((c.tc : Thread Cert.IndxRefIdeal.nD Cert.IndxRefIdeal.τ).loc Cert.IndxRefIdeal.main_arg0) = m' ((c.tc : Thread Cert.IndxRefIdeal.nD Cert.IndxRefIdeal.τ).loc Cert.IndxRefIdeal.main_arg0)
          ∧ r.2.mem ((c.tc : Thread Cert.IndxRefIdeal.nD Cert.IndxRefIdeal.τ).loc Cert.IndxRefIdeal.main_arg1) = m' ((c.tc : Thread Cert.IndxRefIdeal.nD Cert.IndxRefIdeal.τ).loc Cert.IndxRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v4)) (v1 : (c : Dev Cert.MixIdeal.nD) → Buf (Elt Ideal) ((c.tc : Thread Cert.MixIdeal.nD Cert.MixIdeal.τ).loc Cert.MixIdeal.main_v5)) (v2 : (c : Dev Cert.MixIdeal.nD) → Buf (Elt Ideal) ((c.tc : Thread Cert.MixIdeal.nD Cert.MixIdeal.τ).loc Cert.MixIdeal.main_v6)) (v3 : (c : Dev Cert.MixIdeal.nD) → Buf (Elt Ideal) ((c.tc : Thread Cert.MixIdeal.nD Cert.MixIdeal.τ).loc Cert.MixIdeal.main_v7)) (v4 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_v5) = v1 c
          ∧ r.2.mem ((c.tc : Thread Cert.MixIdeal.nD Cert.MixIdeal.τ).loc Cert.MixIdeal.main_v6) = v2 c
          ∧ r.2.mem ((c.tc : Thread Cert.MixIdeal.nD Cert.MixIdeal.τ).loc Cert.MixIdeal.main_v7) = v3 c
          ∧ r.2.mem ((c.tc : Thread Cert.MixIdeal.nD Cert.MixIdeal.τ).loc Cert.MixIdeal.main_v8) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v4) = v0 c
          ∧ r.2.mem ((c.tc : Thread Cert.MixRefIdeal.nD Cert.MixRefIdeal.τ).loc Cert.MixRefIdeal.main_v5) = v1 c
          ∧ r.2.mem ((c.tc : Thread Cert.MixRefIdeal.nD Cert.MixRefIdeal.τ).loc Cert.MixRefIdeal.main_v13) = v2 c
          ∧ r.2.mem ((c.tc : Thread Cert.MixRefIdeal.nD Cert.MixRefIdeal.τ).loc Cert.MixRefIdeal.main_v8) = v3 c
          ∧ r.2.mem ((c.tc : Thread Cert.MixRefIdeal.nD Cert.MixRefIdeal.τ).loc Cert.MixRefIdeal.main_v14) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Xatt_XattIdeal : Prop :=
  True

def algebraic_XattIdeal_XattRefIdeal [hXattIdeal : Cert.XattIdeal.Facts] [hXattRefIdeal : Cert.XattRefIdeal.Facts] : Prop :=
  ∀ (m : (ℓ : Loc Cert.XattIdeal.nD Cert.XattIdeal.τ Cert.XattIdeal.sig) → Buf (Elt Ideal) ℓ) (g : Dev Cert.XattIdeal.nD → PrngReg)
    (m' : (ℓ : Loc Cert.XattRefIdeal.nD Cert.XattRefIdeal.τ Cert.XattRefIdeal.sig) → Buf (Elt Ideal) ℓ) (g' : Dev Cert.XattRefIdeal.nD → PrngReg), Pre_XattIdeal m →
    (∀ c : Dev Cert.XattIdeal.nD,
      m' ((c.tc : Thread Cert.XattRefIdeal.nD Cert.XattRefIdeal.τ).loc Cert.XattRefIdeal.main_arg0) = m ((c.tc : Thread Cert.XattIdeal.nD Cert.XattIdeal.τ).loc Cert.XattIdeal.main_arg0)
      ∧ m' ((c.tc : Thread Cert.XattRefIdeal.nD Cert.XattRefIdeal.τ).loc Cert.XattRefIdeal.main_arg1) = m ((c.tc : Thread Cert.XattIdeal.nD Cert.XattIdeal.τ).loc Cert.XattIdeal.main_arg1)
      ∧ m' ((c.tc : Thread Cert.XattRefIdeal.nD Cert.XattRefIdeal.τ).loc Cert.XattRefIdeal.main_arg2) = m ((c.tc : Thread Cert.XattIdeal.nD Cert.XattIdeal.τ).loc Cert.XattIdeal.main_arg2)
      ∧ m' ((c.tc : Thread Cert.XattRefIdeal.nD Cert.XattRefIdeal.τ).loc Cert.XattRefIdeal.main_arg3) = m ((c.tc : Thread Cert.XattIdeal.nD Cert.XattIdeal.τ).loc Cert.XattIdeal.main_arg3)
      ∧ m' ((c.tc : Thread Cert.XattRefIdeal.nD Cert.XattRefIdeal.τ).loc Cert.XattRefIdeal.main_arg4) = m ((c.tc : Thread Cert.XattIdeal.nD Cert.XattIdeal.τ).loc Cert.XattIdeal.main_arg4)
      ∧ m' ((c.tc : Thread Cert.XattRefIdeal.nD Cert.XattRefIdeal.τ).loc Cert.XattRefIdeal.main_arg5) = m ((c.tc : Thread Cert.XattIdeal.nD Cert.XattIdeal.τ).loc Cert.XattIdeal.main_arg5)
      ∧ m' ((c.tc : Thread Cert.XattRefIdeal.nD Cert.XattRefIdeal.τ).loc Cert.XattRefIdeal.main_arg6) = m ((c.tc : Thread Cert.XattIdeal.nD Cert.XattIdeal.τ).loc Cert.XattIdeal.main_arg6)) →
    ∃ (v0 : (c : Dev Cert.XattIdeal.nD) → Buf (Elt Ideal) ((c.tc : Thread Cert.XattIdeal.nD Cert.XattIdeal.τ).loc Cert.XattIdeal.main_v2)) (v1 : (c : Dev Cert.XattIdeal.nD) → Buf (Elt Ideal) ((c.tc : Thread Cert.XattIdeal.nD Cert.XattIdeal.τ).loc Cert.XattIdeal.main_v3)) (v2 : (c : Dev Cert.XattIdeal.nD) → Buf (Elt Ideal) ((c.tc : Thread Cert.XattIdeal.nD Cert.XattIdeal.τ).loc Cert.XattIdeal.main_v5)) (v3 : (c : Dev Cert.XattIdeal.nD) → Buf (Elt Ideal) ((c.tc : Thread Cert.XattIdeal.nD Cert.XattIdeal.τ).loc Cert.XattIdeal.main_v6)) (v4 : (c : Dev Cert.XattIdeal.nD) → Buf (Elt Ideal) ((c.tc : Thread Cert.XattIdeal.nD Cert.XattIdeal.τ).loc Cert.XattIdeal.main_v7)),
      θ_run (Cert.XattIdeal.defs (F := Ideal)) (onTc (τ := Cert.XattIdeal.τ) (Cert.XattIdeal.main (F := Ideal))) ⟨m, fun _ => 0, g⟩ (fun r => ∀ c : Dev Cert.XattIdeal.nD,
          r.2.mem ((c.tc : Thread Cert.XattIdeal.nD Cert.XattIdeal.τ).loc Cert.XattIdeal.main_v2) = v0 c
          ∧ r.2.mem ((c.tc : Thread Cert.XattIdeal.nD Cert.XattIdeal.τ).loc Cert.XattIdeal.main_v3) = v1 c
          ∧ r.2.mem ((c.tc : Thread Cert.XattIdeal.nD Cert.XattIdeal.τ).loc Cert.XattIdeal.main_v5) = v2 c
          ∧ r.2.mem ((c.tc : Thread Cert.XattIdeal.nD Cert.XattIdeal.τ).loc Cert.XattIdeal.main_v6) = v3 c
          ∧ r.2.mem ((c.tc : Thread Cert.XattIdeal.nD Cert.XattIdeal.τ).loc Cert.XattIdeal.main_v7) = v4 c
          ∧ r.2.mem ((c.tc : Thread Cert.XattIdeal.nD Cert.XattIdeal.τ).loc Cert.XattIdeal.main_arg0) = m ((c.tc : Thread Cert.XattIdeal.nD Cert.XattIdeal.τ).loc Cert.XattIdeal.main_arg0)
          ∧ r.2.mem ((c.tc : Thread Cert.XattIdeal.nD Cert.XattIdeal.τ).loc Cert.XattIdeal.main_arg1) = m ((c.tc : Thread Cert.XattIdeal.nD Cert.XattIdeal.τ).loc Cert.XattIdeal.main_arg1)
          ∧ r.2.mem ((c.tc : Thread Cert.XattIdeal.nD Cert.XattIdeal.τ).loc Cert.XattIdeal.main_arg2) = m ((c.tc : Thread Cert.XattIdeal.nD Cert.XattIdeal.τ).loc Cert.XattIdeal.main_arg2)
          ∧ r.2.mem ((c.tc : Thread Cert.XattIdeal.nD Cert.XattIdeal.τ).loc Cert.XattIdeal.main_arg3) = m ((c.tc : Thread Cert.XattIdeal.nD Cert.XattIdeal.τ).loc Cert.XattIdeal.main_arg3)
          ∧ r.2.mem ((c.tc : Thread Cert.XattIdeal.nD Cert.XattIdeal.τ).loc Cert.XattIdeal.main_arg4) = m ((c.tc : Thread Cert.XattIdeal.nD Cert.XattIdeal.τ).loc Cert.XattIdeal.main_arg4)
          ∧ r.2.mem ((c.tc : Thread Cert.XattIdeal.nD Cert.XattIdeal.τ).loc Cert.XattIdeal.main_arg5) = m ((c.tc : Thread Cert.XattIdeal.nD Cert.XattIdeal.τ).loc Cert.XattIdeal.main_arg5)
          ∧ r.2.mem ((c.tc : Thread Cert.XattIdeal.nD Cert.XattIdeal.τ).loc Cert.XattIdeal.main_arg6) = m ((c.tc : Thread Cert.XattIdeal.nD Cert.XattIdeal.τ).loc Cert.XattIdeal.main_arg6))
      ∧ θ_run (Cert.XattRefIdeal.defs (F := Ideal)) (onTc (τ := Cert.XattRefIdeal.τ) (Cert.XattRefIdeal.main (F := Ideal))) ⟨m', fun _ => 0, g'⟩ (fun r => ∀ c : Dev Cert.XattRefIdeal.nD,
          r.2.mem ((c.tc : Thread Cert.XattRefIdeal.nD Cert.XattRefIdeal.τ).loc Cert.XattRefIdeal.main_v12) = v0 c
          ∧ r.2.mem ((c.tc : Thread Cert.XattRefIdeal.nD Cert.XattRefIdeal.τ).loc Cert.XattRefIdeal.main_v13) = v1 c
          ∧ r.2.mem ((c.tc : Thread Cert.XattRefIdeal.nD Cert.XattRefIdeal.τ).loc Cert.XattRefIdeal.main_v14) = v2 c
          ∧ r.2.mem ((c.tc : Thread Cert.XattRefIdeal.nD Cert.XattRefIdeal.τ).loc Cert.XattRefIdeal.main_v15) = v3 c
          ∧ r.2.mem ((c.tc : Thread Cert.XattRefIdeal.nD Cert.XattRefIdeal.τ).loc Cert.XattRefIdeal.main_v7) = v4 c
          ∧ r.2.mem ((c.tc : Thread Cert.XattRefIdeal.nD Cert.XattRefIdeal.τ).loc Cert.XattRefIdeal.main_arg0) = m' ((c.tc : Thread Cert.XattRefIdeal.nD Cert.XattRefIdeal.τ).loc Cert.XattRefIdeal.main_arg0)
          ∧ r.2.mem ((c.tc : Thread Cert.XattRefIdeal.nD Cert.XattRefIdeal.τ).loc Cert.XattRefIdeal.main_arg1) = m' ((c.tc : Thread Cert.XattRefIdeal.nD Cert.XattRefIdeal.τ).loc Cert.XattRefIdeal.main_arg1)
          ∧ r.2.mem ((c.tc : Thread Cert.XattRefIdeal.nD Cert.XattRefIdeal.τ).loc Cert.XattRefIdeal.main_arg2) = m' ((c.tc : Thread Cert.XattRefIdeal.nD Cert.XattRefIdeal.τ).loc Cert.XattRefIdeal.main_arg2)
          ∧ r.2.mem ((c.tc : Thread Cert.XattRefIdeal.nD Cert.XattRefIdeal.τ).loc Cert.XattRefIdeal.main_arg3) = m' ((c.tc : Thread Cert.XattRefIdeal.nD Cert.XattRefIdeal.τ).loc Cert.XattRefIdeal.main_arg3)
          ∧ r.2.mem ((c.tc : Thread Cert.XattRefIdeal.nD Cert.XattRefIdeal.τ).loc Cert.XattRefIdeal.main_arg4) = m' ((c.tc : Thread Cert.XattRefIdeal.nD Cert.XattRefIdeal.τ).loc Cert.XattRefIdeal.main_arg4)
          ∧ r.2.mem ((c.tc : Thread Cert.XattRefIdeal.nD Cert.XattRefIdeal.τ).loc Cert.XattRefIdeal.main_arg5) = m' ((c.tc : Thread Cert.XattRefIdeal.nD Cert.XattRefIdeal.τ).loc Cert.XattRefIdeal.main_arg5)
          ∧ r.2.mem ((c.tc : Thread Cert.XattRefIdeal.nD Cert.XattRefIdeal.τ).loc Cert.XattRefIdeal.main_arg6) = m' ((c.tc : Thread Cert.XattRefIdeal.nD Cert.XattRefIdeal.τ).loc Cert.XattRefIdeal.main_arg6))

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)) (v1 : (c : Dev Cert.AttnIdeal.nD) → Buf (Elt Ideal) ((c.tc : Thread Cert.AttnIdeal.nD Cert.AttnIdeal.τ).loc Cert.AttnIdeal.main_v1_0)) (v2 : (c : Dev Cert.AttnIdeal.nD) → Buf (Elt Ideal) ((c.tc : Thread Cert.AttnIdeal.nD Cert.AttnIdeal.τ).loc Cert.AttnIdeal.main_v1_1)) (v3 : (c : Dev Cert.AttnIdeal.nD) → Buf (Elt Ideal) ((c.tc : Thread Cert.AttnIdeal.nD Cert.AttnIdeal.τ).loc Cert.AttnIdeal.main_v1_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_v1_0) = v1 c
          ∧ r.2.mem ((c.tc : Thread Cert.AttnIdeal.nD Cert.AttnIdeal.τ).loc Cert.AttnIdeal.main_v1_1) = v2 c
          ∧ r.2.mem ((c.tc : Thread Cert.AttnIdeal.nD Cert.AttnIdeal.τ).loc Cert.AttnIdeal.main_v1_2) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_v68) = v1 c
          ∧ r.2.mem ((c.tc : Thread Cert.AttnRefIdeal.nD Cert.AttnRefIdeal.τ).loc Cert.AttnRefIdeal.main_v69) = v2 c
          ∧ r.2.mem ((c.tc : Thread Cert.AttnRefIdeal.nD Cert.AttnRefIdeal.τ).loc Cert.AttnRefIdeal.main_v70) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v22) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Norms_NormsIdeal : Prop :=
  True

def algebraic_NormsIdeal_NormsRefIdeal [hNormsIdeal : Cert.NormsIdeal.Facts] [hNormsRefIdeal : Cert.NormsRefIdeal.Facts] : Prop :=
  ∀ (m : (ℓ : Loc Cert.NormsIdeal.nD Cert.NormsIdeal.τ Cert.NormsIdeal.sig) → Buf (Elt Ideal) ℓ) (g : Dev Cert.NormsIdeal.nD → PrngReg)
    (m' : (ℓ : Loc Cert.NormsRefIdeal.nD Cert.NormsRefIdeal.τ Cert.NormsRefIdeal.sig) → Buf (Elt Ideal) ℓ) (g' : Dev Cert.NormsRefIdeal.nD → PrngReg), Pre_NormsIdeal m →
    (∀ c : Dev Cert.NormsIdeal.nD,
      m' ((c.tc : Thread Cert.NormsRefIdeal.nD Cert.NormsRefIdeal.τ).loc Cert.NormsRefIdeal.main_arg0) = m ((c.tc : Thread Cert.NormsIdeal.nD Cert.NormsIdeal.τ).loc Cert.NormsIdeal.main_arg0)
      ∧ m' ((c.tc : Thread Cert.NormsRefIdeal.nD Cert.NormsRefIdeal.τ).loc Cert.NormsRefIdeal.main_arg1) = m ((c.tc : Thread Cert.NormsIdeal.nD Cert.NormsIdeal.τ).loc Cert.NormsIdeal.main_arg1)
      ∧ m' ((c.tc : Thread Cert.NormsRefIdeal.nD Cert.NormsRefIdeal.τ).loc Cert.NormsRefIdeal.main_arg2) = m ((c.tc : Thread Cert.NormsIdeal.nD Cert.NormsIdeal.τ).loc Cert.NormsIdeal.main_arg2)
      ∧ m' ((c.tc : Thread Cert.NormsRefIdeal.nD Cert.NormsRefIdeal.τ).loc Cert.NormsRefIdeal.main_arg3) = m ((c.tc : Thread Cert.NormsIdeal.nD Cert.NormsIdeal.τ).loc Cert.NormsIdeal.main_arg3)
      ∧ m' ((c.tc : Thread Cert.NormsRefIdeal.nD Cert.NormsRefIdeal.τ).loc Cert.NormsRefIdeal.main_arg4) = m ((c.tc : Thread Cert.NormsIdeal.nD Cert.NormsIdeal.τ).loc Cert.NormsIdeal.main_arg4)
      ∧ m' ((c.tc : Thread Cert.NormsRefIdeal.nD Cert.NormsRefIdeal.τ).loc Cert.NormsRefIdeal.main_arg5) = m ((c.tc : Thread Cert.NormsIdeal.nD Cert.NormsIdeal.τ).loc Cert.NormsIdeal.main_arg5)) →
    ∃ (v0 : (c : Dev Cert.NormsIdeal.nD) → Buf (Elt Ideal) ((c.tc : Thread Cert.NormsIdeal.nD Cert.NormsIdeal.τ).loc Cert.NormsIdeal.main_v2_0)) (v1 : (c : Dev Cert.NormsIdeal.nD) → Buf (Elt Ideal) ((c.tc : Thread Cert.NormsIdeal.nD Cert.NormsIdeal.τ).loc Cert.NormsIdeal.main_v2_1)) (v2 : (c : Dev Cert.NormsIdeal.nD) → Buf (Elt Ideal) ((c.tc : Thread Cert.NormsIdeal.nD Cert.NormsIdeal.τ).loc Cert.NormsIdeal.main_v2_2)) (v3 : (c : Dev Cert.NormsIdeal.nD) → Buf (Elt Ideal) ((c.tc : Thread Cert.NormsIdeal.nD Cert.NormsIdeal.τ).loc Cert.NormsIdeal.main_v2_3)),
      θ_run (Cert.NormsIdeal.defs (F := Ideal)) (onTc (τ := Cert.NormsIdeal.τ) (Cert.NormsIdeal.main (F := Ideal))) ⟨m, fun _ => 0, g⟩ (fun r => ∀ c : Dev Cert.NormsIdeal.nD,
          r.2.mem ((c.tc : Thread Cert.NormsIdeal.nD Cert.NormsIdeal.τ).loc Cert.NormsIdeal.main_v2_0) = v0 c
          ∧ r.2.mem ((c.tc : Thread Cert.NormsIdeal.nD Cert.NormsIdeal.τ).loc Cert.NormsIdeal.main_v2_1) = v1 c
          ∧ r.2.mem ((c.tc : Thread Cert.NormsIdeal.nD Cert.NormsIdeal.τ).loc Cert.NormsIdeal.main_v2_2) = v2 c
          ∧ r.2.mem ((c.tc : Thread Cert.NormsIdeal.nD Cert.NormsIdeal.τ).loc Cert.NormsIdeal.main_v2_3) = v3 c
          ∧ r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
          ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
          ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
          ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
          ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
          ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5))
      ∧ θ_run (Cert.NormsRefIdeal.defs (F := Ideal)) (onTc (τ := Cert.NormsRefIdeal.τ) (Cert.NormsRefIdeal.main (F := Ideal))) ⟨m', fun _ => 0, g'⟩ (fun r => ∀ c : Dev Cert.NormsRefIdeal.nD,
          r.2.mem ((c.tc : Thread Cert.NormsRefIdeal.nD Cert.NormsRefIdeal.τ).loc Cert.NormsRefIdeal.main_v36) = v0 c
          ∧ r.2.mem ((c.tc : Thread Cert.NormsRefIdeal.nD Cert.NormsRefIdeal.τ).loc Cert.NormsRefIdeal.main_v73) = v1 c
          ∧ r.2.mem ((c.tc : Thread Cert.NormsRefIdeal.nD Cert.NormsRefIdeal.τ).loc Cert.NormsRefIdeal.main_v74) = v2 c
          ∧ r.2.mem ((c.tc : Thread Cert.NormsRefIdeal.nD Cert.NormsRefIdeal.τ).loc Cert.NormsRefIdeal.main_v75) = v3 c
          ∧ r.2.mem ((c.tc : Thread Cert.NormsRefIdeal.nD Cert.NormsRefIdeal.τ).loc Cert.NormsRefIdeal.main_arg0) = m' ((c.tc : Thread Cert.NormsRefIdeal.nD Cert.NormsRefIdeal.τ).loc Cert.NormsRefIdeal.main_arg0)
          ∧ r.2.mem ((c.tc : Thread Cert.NormsRefIdeal.nD Cert.NormsRefIdeal.τ).loc Cert.NormsRefIdeal.main_arg1) = m' ((c.tc : Thread Cert.NormsRefIdeal.nD Cert.NormsRefIdeal.τ).loc Cert.NormsRefIdeal.main_arg1)
          ∧ r.2.mem ((c.tc : Thread Cert.NormsRefIdeal.nD Cert.NormsRefIdeal.τ).loc Cert.NormsRefIdeal.main_arg2) = m' ((c.tc : Thread Cert.NormsRefIdeal.nD Cert.NormsRefIdeal.τ).loc Cert.NormsRefIdeal.main_arg2)
          ∧ r.2.mem ((c.tc : Thread Cert.NormsRefIdeal.nD Cert.NormsRefIdeal.τ).loc Cert.NormsRefIdeal.main_arg3) = m' ((c.tc : Thread Cert.NormsRefIdeal.nD Cert.NormsRefIdeal.τ).loc Cert.NormsRefIdeal.main_arg3)
          ∧ r.2.mem ((c.tc : Thread Cert.NormsRefIdeal.nD Cert.NormsRefIdeal.τ).loc Cert.NormsRefIdeal.main_arg4) = m' ((c.tc : Thread Cert.NormsRefIdeal.nD Cert.NormsRefIdeal.τ).loc Cert.NormsRefIdeal.main_arg4)
          ∧ r.2.mem ((c.tc : Thread Cert.NormsRefIdeal.nD Cert.NormsRefIdeal.τ).loc Cert.NormsRefIdeal.main_arg5) = m' ((c.tc : Thread Cert.NormsRefIdeal.nD Cert.NormsRefIdeal.τ).loc Cert.NormsRefIdeal.main_arg5))

def preserves_Memn_MemnIdeal : Prop :=
  True

def algebraic_MemnIdeal_MemnRefIdeal [hMemnIdeal : Cert.MemnIdeal.Facts] [hMemnRefIdeal : Cert.MemnRefIdeal.Facts] : Prop :=
  ∀ (m : (ℓ : Loc Cert.MemnIdeal.nD Cert.MemnIdeal.τ Cert.MemnIdeal.sig) → Buf (Elt Ideal) ℓ) (g : Dev Cert.MemnIdeal.nD → PrngReg)
    (m' : (ℓ : Loc Cert.MemnRefIdeal.nD Cert.MemnRefIdeal.τ Cert.MemnRefIdeal.sig) → Buf (Elt Ideal) ℓ) (g' : Dev Cert.MemnRefIdeal.nD → PrngReg), Pre_MemnIdeal m →
    (∀ c : Dev Cert.MemnIdeal.nD,
      m' ((c.tc : Thread Cert.MemnRefIdeal.nD Cert.MemnRefIdeal.τ).loc Cert.MemnRefIdeal.main_arg0) = m ((c.tc : Thread Cert.MemnIdeal.nD Cert.MemnIdeal.τ).loc Cert.MemnIdeal.main_arg0)
      ∧ m' ((c.tc : Thread Cert.MemnRefIdeal.nD Cert.MemnRefIdeal.τ).loc Cert.MemnRefIdeal.main_arg1) = m ((c.tc : Thread Cert.MemnIdeal.nD Cert.MemnIdeal.τ).loc Cert.MemnIdeal.main_arg1)
      ∧ m' ((c.tc : Thread Cert.MemnRefIdeal.nD Cert.MemnRefIdeal.τ).loc Cert.MemnRefIdeal.main_arg2) = m ((c.tc : Thread Cert.MemnIdeal.nD Cert.MemnIdeal.τ).loc Cert.MemnIdeal.main_arg2)) →
    ∃ (v0 : (c : Dev Cert.MemnIdeal.nD) → Buf (Elt Ideal) ((c.tc : Thread Cert.MemnIdeal.nD Cert.MemnIdeal.τ).loc Cert.MemnIdeal.main_v1_0)) (v1 : (c : Dev Cert.MemnIdeal.nD) → Buf (Elt Ideal) ((c.tc : Thread Cert.MemnIdeal.nD Cert.MemnIdeal.τ).loc Cert.MemnIdeal.main_v1_1)),
      θ_run (Cert.MemnIdeal.defs (F := Ideal)) (onTc (τ := Cert.MemnIdeal.τ) (Cert.MemnIdeal.main (F := Ideal))) ⟨m, fun _ => 0, g⟩ (fun r => ∀ c : Dev Cert.MemnIdeal.nD,
          r.2.mem ((c.tc : Thread Cert.MemnIdeal.nD Cert.MemnIdeal.τ).loc Cert.MemnIdeal.main_v1_0) = v0 c
          ∧ r.2.mem ((c.tc : Thread Cert.MemnIdeal.nD Cert.MemnIdeal.τ).loc Cert.MemnIdeal.main_v1_1) = v1 c
          ∧ r.2.mem ((c.tc : Thread Cert.MemnIdeal.nD Cert.MemnIdeal.τ).loc Cert.MemnIdeal.main_arg0) = m ((c.tc : Thread Cert.MemnIdeal.nD Cert.MemnIdeal.τ).loc Cert.MemnIdeal.main_arg0)
          ∧ r.2.mem ((c.tc : Thread Cert.MemnIdeal.nD Cert.MemnIdeal.τ).loc Cert.MemnIdeal.main_arg1) = m ((c.tc : Thread Cert.MemnIdeal.nD Cert.MemnIdeal.τ).loc Cert.MemnIdeal.main_arg1)
          ∧ r.2.mem ((c.tc : Thread Cert.MemnIdeal.nD Cert.MemnIdeal.τ).loc Cert.MemnIdeal.main_arg2) = m ((c.tc : Thread Cert.MemnIdeal.nD Cert.MemnIdeal.τ).loc Cert.MemnIdeal.main_arg2))
      ∧ θ_run (Cert.MemnRefIdeal.defs (F := Ideal)) (onTc (τ := Cert.MemnRefIdeal.τ) (Cert.MemnRefIdeal.main (F := Ideal))) ⟨m', fun _ => 0, g'⟩ (fun r => ∀ c : Dev Cert.MemnRefIdeal.nD,
          r.2.mem ((c.tc : Thread Cert.MemnRefIdeal.nD Cert.MemnRefIdeal.τ).loc Cert.MemnRefIdeal.main_v35) = v0 c
          ∧ r.2.mem ((c.tc : Thread Cert.MemnRefIdeal.nD Cert.MemnRefIdeal.τ).loc Cert.MemnRefIdeal.main_v36) = v1 c
          ∧ r.2.mem ((c.tc : Thread Cert.MemnRefIdeal.nD Cert.MemnRefIdeal.τ).loc Cert.MemnRefIdeal.main_arg0) = m' ((c.tc : Thread Cert.MemnRefIdeal.nD Cert.MemnRefIdeal.τ).loc Cert.MemnRefIdeal.main_arg0)
          ∧ r.2.mem ((c.tc : Thread Cert.MemnRefIdeal.nD Cert.MemnRefIdeal.τ).loc Cert.MemnRefIdeal.main_arg1) = m' ((c.tc : Thread Cert.MemnRefIdeal.nD Cert.MemnRefIdeal.τ).loc Cert.MemnRefIdeal.main_arg1)
          ∧ r.2.mem ((c.tc : Thread Cert.MemnRefIdeal.nD Cert.MemnRefIdeal.τ).loc Cert.MemnRefIdeal.main_arg2) = m' ((c.tc : Thread Cert.MemnRefIdeal.nD Cert.MemnRefIdeal.τ).loc Cert.MemnRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hUpdx : Cert.Updx.Facts) (hUpdxIdeal : Cert.UpdxIdeal.Facts) (hUpdxRefIdeal : Cert.UpdxRefIdeal.Facts) (hDown : Cert.Down.Facts) (hDownIdeal : Cert.DownIdeal.Facts) (hDownRefIdeal : Cert.DownRefIdeal.Facts) (hIndx : Cert.Indx.Facts) (hIndxIdeal : Cert.IndxIdeal.Facts) (hIndxRefIdeal : Cert.IndxRefIdeal.Facts) (hMix : Cert.Mix.Facts) (hMixIdeal : Cert.MixIdeal.Facts) (hMixRefIdeal : Cert.MixRefIdeal.Facts) (hXatt : Cert.Xatt.Facts) (hXattIdeal : Cert.XattIdeal.Facts) (hXattRefIdeal : Cert.XattRefIdeal.Facts) (hAttn : Cert.Attn.Facts) (hAttnIdeal : Cert.AttnIdeal.Facts) (hAttnRefIdeal : Cert.AttnRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hAdam : Cert.Adam.Facts) (hAdamIdeal : Cert.AdamIdeal.Facts) (hAdamRefIdeal : Cert.AdamRefIdeal.Facts) (hNorms : Cert.Norms.Facts) (hNormsIdeal : Cert.NormsIdeal.Facts) (hNormsRefIdeal : Cert.NormsRefIdeal.Facts) (hMemn : Cert.Memn.Facts) (hMemnIdeal : Cert.MemnIdeal.Facts) (hMemnRefIdeal : Cert.MemnRefIdeal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Updx (hUpdx := hUpdx)
    ∧ quiescent_UpdxIdeal (hUpdxIdeal := hUpdxIdeal)
    ∧ quiescent_UpdxRefIdeal (hUpdxRefIdeal := hUpdxRefIdeal)
    ∧ quiescent_Down (hDown := hDown)
    ∧ quiescent_DownIdeal (hDownIdeal := hDownIdeal)
    ∧ quiescent_DownRefIdeal (hDownRefIdeal := hDownRefIdeal)
    ∧ quiescent_Indx (hIndx := hIndx)
    ∧ quiescent_IndxIdeal (hIndxIdeal := hIndxIdeal)
    ∧ quiescent_IndxRefIdeal (hIndxRefIdeal := hIndxRefIdeal)
    ∧ quiescent_Mix (hMix := hMix)
    ∧ quiescent_MixIdeal (hMixIdeal := hMixIdeal)
    ∧ quiescent_MixRefIdeal (hMixRefIdeal := hMixRefIdeal)
    ∧ quiescent_Xatt (hXatt := hXatt)
    ∧ quiescent_XattIdeal (hXattIdeal := hXattIdeal)
    ∧ quiescent_XattRefIdeal (hXattRefIdeal := hXattRefIdeal)
    ∧ quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Norm (hNorm := hNorm)
    ∧ quiescent_NormIdeal (hNormIdeal := hNormIdeal)
    ∧ quiescent_NormRefIdeal (hNormRefIdeal := hNormRefIdeal)
    ∧ quiescent_Loss (hLoss := hLoss)
    ∧ quiescent_LossIdeal (hLossIdeal := hLossIdeal)
    ∧ quiescent_LossRefIdeal (hLossRefIdeal := hLossRefIdeal)
    ∧ quiescent_Adam (hAdam := hAdam)
    ∧ quiescent_AdamIdeal (hAdamIdeal := hAdamIdeal)
    ∧ quiescent_AdamRefIdeal (hAdamRefIdeal := hAdamRefIdeal)
    ∧ quiescent_Norms (hNorms := hNorms)
    ∧ quiescent_NormsIdeal (hNormsIdeal := hNormsIdeal)
    ∧ quiescent_NormsRefIdeal (hNormsRefIdeal := hNormsRefIdeal)
    ∧ quiescent_Memn (hMemn := hMemn)
    ∧ quiescent_MemnIdeal (hMemnIdeal := hMemnIdeal)
    ∧ quiescent_MemnRefIdeal (hMemnRefIdeal := hMemnRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Updx_UpdxIdeal
    ∧ algebraic_UpdxIdeal_UpdxRefIdeal (hUpdxIdeal := hUpdxIdeal) (hUpdxRefIdeal := hUpdxRefIdeal)
    ∧ preserves_Down_DownIdeal
    ∧ algebraic_DownIdeal_DownRefIdeal (hDownIdeal := hDownIdeal) (hDownRefIdeal := hDownRefIdeal)
    ∧ preserves_Indx_IndxIdeal
    ∧ algebraic_IndxIdeal_IndxRefIdeal (hIndxIdeal := hIndxIdeal) (hIndxRefIdeal := hIndxRefIdeal)
    ∧ preserves_Mix_MixIdeal
    ∧ algebraic_MixIdeal_MixRefIdeal (hMixIdeal := hMixIdeal) (hMixRefIdeal := hMixRefIdeal)
    ∧ preserves_Xatt_XattIdeal
    ∧ algebraic_XattIdeal_XattRefIdeal (hXattIdeal := hXattIdeal) (hXattRefIdeal := hXattRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Norm_NormIdeal
    ∧ algebraic_NormIdeal_NormRefIdeal (hNormIdeal := hNormIdeal) (hNormRefIdeal := hNormRefIdeal)
    ∧ preserves_Loss_LossIdeal
    ∧ algebraic_LossIdeal_LossRefIdeal (hLossIdeal := hLossIdeal) (hLossRefIdeal := hLossRefIdeal)
    ∧ preserves_Adam_AdamIdeal
    ∧ algebraic_AdamIdeal_AdamRefIdeal (hAdamIdeal := hAdamIdeal) (hAdamRefIdeal := hAdamRefIdeal)
    ∧ preserves_Norms_NormsIdeal
    ∧ algebraic_NormsIdeal_NormsRefIdeal (hNormsIdeal := hNormsIdeal) (hNormsRefIdeal := hNormsRefIdeal)
    ∧ preserves_Memn_MemnIdeal
    ∧ algebraic_MemnIdeal_MemnRefIdeal (hMemnIdeal := hMemnIdeal) (hMemnRefIdeal := hMemnRefIdeal)
-- ==== Pre_finite.lean ====
abbrev S2048x3584 : Shape := ⟨2, ![2048, 3584]⟩
abbrev S2048x2048 : Shape := ⟨2, ![2048, 2048]⟩
abbrev S8x128 : Shape := ⟨2, ![8, 128]⟩
abbrev S8x128x128 : Shape := ⟨3, ![8, 128, 128]⟩
abbrev S_ : Shape := ⟨0, ![]⟩

class Facts : Prop where
  bcast_S_S2048x3584 : S_.BroadcastsInDim S2048x3584 (![] : Fin 0 → Fin S2048x3584.rank)
  reducesTo_S2048x3584_S_d0_1 : S2048x3584.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S8x128 : S_.BroadcastsInDim S8x128 (![] : Fin 0 → Fin S8x128.rank)
  reducesTo_S8x128_S_d0_1 : S8x128.ReducesTo [0, 1] S_
  bcast_S_S8x128x128 : S_.BroadcastsInDim S8x128x128 (![] : Fin 0 → Fin S8x128x128.rank)
  reducesTo_S8x128x128_S_d0_1_2 : S8x128x128.ReducesTo [0, 1, 2] S_

variable [Facts]

def fn_part1 {F : FTy → Type} [FloatOps F] (main_arg2 : FVec F S8x128 .f32) (main_arg3 : FVec F S8x128x128 .f32) (main_v12 : IVec S_ 1) (main_v14 : IVec S8x128 1) (main_v15 : FVec F S8x128 .f32) : IVec S_ 1 :=
  let main_v16 : IVec S8x128 1 := cmpf .olt main_arg2 main_v15
  let main_v17 : IVec S8x128 1 := andi main_v14 main_v16
  let main_c_6 : IVec S_ 1 := constantI S_ 1 1#1
  let main_v18 : IVec S_ 1 := (fun x v => Host.reduce IntOp.andi x v reducesTo_S8x128_S_d0_1 h_S_) main_v17 main_c_6
  let main_v19 : IVec S_ 1 := andi main_v12 main_v18
  let main_cst_7 : FVec F S_ .f32 := constant S_ .f32 0xFF800000#32
  let main_v20 : FVec F S8x128x128 .f32 := broadcastInDim S8x128x128 ![] bcast_S_S8x128x128 main_cst_7
  let main_v21 : IVec S8x128x128 1 := cmpf .ogt main_arg3 main_v20
  let main_cst_8 : FVec F S_ .f32 := constant S_ .f32 0x7F800000#32
  let main_v22 : FVec F S8x128x128 .f32 := broadcastInDim S8x128x128 ![] bcast_S_S8x128x128 main_cst_8
  let main_v23 : IVec S8x128x128 1 := cmpf .olt main_arg3 main_v22
  let main_v24 : IVec S8x128x128 1 := andi main_v21 main_v23
  let main_c_9 : IVec S_ 1 := constantI S_ 1 1#1
  let main_v25 : IVec S_ 1 := (fun x v => Host.reduce IntOp.andi x v reducesTo_S8x128x128_S_d0_1_2 h_S_) main_v24 main_c_9
  let main_v26 : IVec S_ 1 := andi main_v19 main_v25
  main_v26

def fn {F : FTy → Type} [FloatOps F] (main_arg0 : FVec F S2048x3584 .f32) (main_arg1 : FVec F S2048x2048 .f32) (main_arg2 : FVec F S8x128 .f32) (main_arg3 : FVec F S8x128x128 .f32) (main_arg4 : FVec F S8x128 .f32) : IVec S_ 1 :=
  let main_cst : FVec F S_ .f32 := constant S_ .f32 0xFF800000#32
  let main_v0 : FVec F S2048x3584 .f32 := broadcastInDim S2048x3584 ![] bcast_S_S2048x3584 main_cst
  let main_v1 : IVec S2048x3584 1 := cmpf .ogt main_arg0 main_v0
  let main_cst_0 : FVec F S_ .f32 := constant S_ .f32 0x7F800000#32
  let main_v2 : FVec F S2048x3584 .f32 := broadcastInDim S2048x3584 ![] bcast_S_S2048x3584 main_cst_0
  let main_v3 : IVec S2048x3584 1 := cmpf .olt main_arg0 main_v2
  let main_v4 : IVec S2048x3584 1 := andi main_v1 main_v3
  let main_c : IVec S_ 1 := constantI S_ 1 1#1
  let main_v5 : IVec S_ 1 := (fun x v => Host.reduce IntOp.andi x v reducesTo_S2048x3584_S_d0_1 h_S_) main_v4 main_c
  let main_cst_1 : FVec F S_ .f32 := constant S_ .f32 0xFF800000#32
  let main_v6 : FVec F S2048x2048 .f32 := broadcastInDim S2048x2048 ![] bcast_S_S2048x2048 main_cst_1
  let main_v7 : IVec S2048x2048 1 := cmpf .ogt main_arg1 main_v6
  let main_cst_2 : FVec F S_ .f32 := constant S_ .f32 0x7F800000#32
  let main_v8 : FVec F S2048x2048 .f32 := broadcastInDim S2048x2048 ![] bcast_S_S2048x2048 main_cst_2
  let main_v9 : IVec S2048x2048 1 := cmpf .olt main_arg1 main_v8
  let main_v10 : IVec S2048x2048 1 := andi main_v7 main_v9
  let main_c_3 : IVec S_ 1 := constantI S_ 1 1#1
  let main_v11 : IVec S_ 1 := (fun x v => Host.reduce IntOp.andi x v reducesTo_S2048x2048_S_d0_1 h_S_) main_v10 main_c_3
  let main_v12 : IVec S_ 1 := andi main_v5 main_v11
  let main_cst_4 : FVec F S_ .f32 := constant S_ .f32 0xFF800000#32
  let main_v13 : FVec F S8x128 .f32 := broadcastInDim S8x128 ![] bcast_S_S8x128 main_cst_4
  let main_v14 : IVec S8x128 1 := cmpf .ogt main_arg2 main_v13
  let main_cst_5 : FVec F S_ .f32 := constant S_ .f32 0x7F800000#32
  let main_v15 : FVec F S8x128 .f32 := broadcastInDim S8x128 ![] bcast_S_S8x128 main_cst_5
  fn_part1 (F := F) main_arg2 main_arg3 main_v12 main_v14 main_v15
-- ==== Pre_finite_qk.lean ====
abbrev S2048x2048 : Shape := ⟨2, ![2048, 2048]⟩
abbrev S256x2048 : Shape := ⟨2, ![256, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S2048x2048 .bf16) (main_arg1 : FVec F S256x2048 .bf16) (main_arg2 : FVec F S256x2048 .bf16) (main_arg3 : FVec F S2048x2048 .bf16) : IVec S_ 1 :=
  let main_v0 : FVec F S2048x2048 .f32 := (extf .f32 · bitsLt_bf16_f32) main_arg0
  let main_cst : FVec F S_ .f32 := constant S_ .f32 0xFF800000#32
  let main_v1 : FVec F S2048x2048 .f32 := broadcastInDim S2048x2048 ![] bcast_S_S2048x2048 main_cst
  let main_v2 : IVec S2048x2048 1 := cmpf .ogt main_v0 main_v1
  let main_cst_0 : FVec F S_ .f32 := constant S_ .f32 0x7F800000#32
  let main_v3 : FVec F S2048x2048 .f32 := broadcastInDim S2048x2048 ![] bcast_S_S2048x2048 main_cst_0
  let main_v4 : IVec S2048x2048 1 := cmpf .olt main_v0 main_v3
  let main_v5 : IVec S2048x2048 1 := andi main_v2 main_v4
  let main_c : IVec S_ 1 := constantI S_ 1 1#1
  let main_v6 : IVec S_ 1 := (fun x v => Host.reduce IntOp.andi x v reducesTo_S2048x2048_S_d0_1 h_S_) main_v5 main_c
  let main_v7 : FVec F S256x2048 .f32 := (extf .f32 · bitsLt_bf16_f32) main_arg1
  let main_cst_1 : FVec F S_ .f32 := constant S_ .f32 0xFF800000#32
  let main_v8 : FVec F S256x2048 .f32 := broadcastInDim S256x2048 ![] bcast_S_S256x2048 main_cst_1
  let main_v9 : IVec S256x2048 1 := cmpf .ogt main_v7 main_v8
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v7 main_v10
  let main_v12 : IVec S256x2048 1 := andi main_v9 main_v11
  let main_c_3 : IVec S_ 1 := constantI S_ 1 1#1
  let main_v13 : IVec S_ 1 := (fun x v => Host.reduce IntOp.andi x v reducesTo_S256x2048_S_d0_1 h_S_) main_v12 main_c_3
  let main_v14 : IVec S_ 1 := andi main_v6 main_v13
  main_v14
-- ==== Kernel.lean ====
abbrev S2048x3584 : Shape := ⟨2, ![2048, 3584]⟩
abbrev S2048x2048 : Shape := ⟨2, ![2048, 2048]⟩
abbrev S8x128 : Shape := ⟨2, ![8, 128]⟩
abbrev S8x128x128 : Shape := ⟨3, ![8, 128, 128]⟩
abbrev S8x1x128 : Shape := ⟨3, ![8, 1, 128]⟩
abbrev S8x128x1 : Shape := ⟨3, ![8, 128, 1]⟩
abbrev S2048x1024 : Shape := ⟨2, ![2048, 1024]⟩
abbrev S2048x128 : Shape := ⟨2, ![2048, 128]⟩
abbrev S1x1x128 : Shape := ⟨3, ![1, 1, 128]⟩
abbrev S1x128x128 : Shape := ⟨3, ![1, 128, 128]⟩
abbrev S1x128x1 : Shape := ⟨3, ![1, 128, 1]⟩
abbrev S1x128 : Shape := ⟨2, ![1, 128]⟩
abbrev S128x128 : Shape := ⟨2, ![128, 128]⟩
abbrev S128x1 : Shape := ⟨2, ![128, 1]⟩
abbrev S128 : Shape := ⟨1, ![128]⟩

abbrev nBuf : Space → Nat
  | .hbm => 12
  | .vmem => 22
  | .smem => 0
  | _ => 0

abbrev bufTy : (tb : Table) → Fin (tcTables nBuf tb) → BufTy
  | .hbm, ⟨0, _⟩ => ⟨S2048x3584, .f32⟩
  | .hbm, ⟨1, _⟩ => ⟨S2048x2048, .f32⟩
  | .hbm, ⟨2, _⟩ => ⟨S8x128, .f32⟩
  | .hbm, ⟨3, _⟩ => ⟨S8x128x128, .f32⟩
  | .hbm, ⟨4, _⟩ => ⟨S8x128, .f32⟩
  | .hbm, ⟨5, _⟩ => ⟨S8x1x128, .f32⟩
  | .hbm, ⟨6, _⟩ => ⟨S8x128x1, .f32⟩
  | .hbm, ⟨7, _⟩ => ⟨S2048x1024, .bf16⟩
  | .hbm, ⟨8, _⟩ => ⟨S2048x1024, .bf16⟩
  | .hbm, ⟨9, _⟩ => ⟨S8x1x128, .f32⟩
  | .hbm, ⟨10, _⟩ => ⟨S8x128x128, .f32⟩
  | .hbm, ⟨11, _⟩ => ⟨S8x128x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x1x128, .f32⟩
  | .local _ .vmem, ⟨7, _⟩ => ⟨S1x1x128, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S1x1x128, .f32⟩
  | .local _ .vmem, ⟨17, _⟩ => ⟨S1x1x128, .f32⟩
  | .local _ .vmem, ⟨18, _⟩ => ⟨S1x128x128, .f32⟩
  | .local _ .vmem, ⟨19, _⟩ => ⟨S1x128x128, .f32⟩
  | .local _ .vmem, ⟨20, _⟩ => ⟨S1x128x1, .f32⟩
  | .local _ .vmem, ⟨21, _⟩ => ⟨S1x128x1, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v9 : BitVec 32 := Scalar.addi c0_i32 c4_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_20 : BitVec 32 := 4#32
  let v20 : BitVec 32 := Scalar.muli arg12 c4_i32_20
  let c0_i32_21 : BitVec 32 := 0#32
  let v21 : BitVec 32 := Scalar.addi v20 c0_i32_21
  let c128_i32 : BitVec 32 := 128#32
  let v22 : BitVec 32 := Scalar.muli v21 c128_i32
  v22
def k0_off1 (k0_t1 : Fin k0_t1_loop.trips) (c0_i32_21 : BitVec 32) : Fin 2 → Nat :=
  let c0_i32 : BitVec 32 := 0#32
  let c1_i32 : BitVec 32 := 1#32
  let arg12 : BitVec 32 := Scf.iv c0_i32 c1_i32 k0_t1
  let c4_i32_20 : BitVec 32 := 4#32
  let v20 : BitVec 32 := Scalar.muli arg12 c4_i32_20
  let v21 : BitVec 32 := Scalar.addi v20 c0_i32_21
  let c128_i32 : BitVec 32 := 128#32
  let v22 : BitVec 32 := Scalar.muli v21 c128_i32
  let v23 : BitVec 32 := v22
  let v24 : Index := Scalar.indexCast v23
  let c0_22 : Index := 0#32
  ![v24.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_67 : BitVec 32 := 4#32
  let v177 : BitVec 32 := Scalar.muli arg12 c4_i32_67
  let c1_i32_68 : BitVec 32 := 1#32
  let v178 : BitVec 32 := Scalar.addi v177 c1_i32_68
  let c128_i32_69 : BitVec 32 := 128#32
  let v179 : BitVec 32 := Scalar.muli v178 c128_i32_69
  v179
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_115 : BitVec 32 := 4#32
  let v334 : BitVec 32 := Scalar.muli arg12 c4_i32_115
  let c2_i32 : BitVec 32 := 2#32
  let v335 : BitVec 32 := Scalar.addi v334 c2_i32
  let c128_i32_116 : BitVec 32 := 128#32
  let v336 : BitVec 32 := Scalar.muli v335 c128_i32_116
  v336
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_162 : BitVec 32 := 4#32
  let v491 : BitVec 32 := Scalar.muli arg12 c4_i32_162
  let c3_i32 : BitVec 32 := 3#32
  let v492 : BitVec 32 := Scalar.addi v491 c3_i32
  let c128_i32_163 : BitVec 32 := 128#32
  let v493 : BitVec 32 := Scalar.muli v492 c128_i32_163
  v493
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2048x3584 : Shape := ⟨2, ![2048, 3584]⟩
abbrev S2048x2048 : Shape := ⟨2, ![2048, 2048]⟩
abbrev S8x128 : Shape := ⟨2, ![8, 128]⟩
abbrev S8x128x128 : Shape := ⟨3, ![8, 128, 128]⟩
abbrev S1x2048x2048 : Shape := ⟨3, ![1, 2048, 2048]⟩
abbrev S_ : Shape := ⟨0, ![]⟩
abbrev S1x2048x1024 : Shape := ⟨3, ![1, 2048, 1024]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S1x1x8x128 : Shape := ⟨4, ![1, 1, 8, 128]⟩
abbrev S128x128 : Shape := ⟨2, ![128, 128]⟩
abbrev S1x16x128x8x128 : Shape := ⟨5, ![1, 16, 128, 8, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S2048x1024 : Shape := ⟨2, ![2048, 1024]⟩
abbrev S1x128x8 : Shape := ⟨3, ![1, 128, 8]⟩
abbrev S1x8x128 : Shape := ⟨3, ![1, 8, 128]⟩
abbrev S2048x8 : Shape := ⟨2, ![2048, 8]⟩
abbrev S8x1x128 : Shape := ⟨3, ![8, 1, 128]⟩
abbrev S8x128x1 : Shape := ⟨3, ![8, 128, 1]⟩

abbrev nBuf : Space → Nat
  | .hbm => 186
  | .vmem => 0
  | .smem => 0
  | _ => 0

abbrev hbmTy0_0 (i : Nat) : BufTy := match i % 128 with
  | 0 => ⟨S2048x3584, .f32⟩
  | 1 => ⟨S2048x2048, .f32⟩
  | 2 => ⟨S8x128, .f32⟩
  | 3 => ⟨S8x128x128, .f32⟩
  | 4 => ⟨S8x128, .f32⟩
  | 5 => ⟨S2048x2048, .f32⟩
  | 6 => ⟨S1x2048x2048, .f32⟩
  | 7 => ⟨S1x2048x2048, .f32⟩
  | 8 => ⟨S1x2048x2048, .f32⟩
  | 9 => ⟨S1x2048x2048, .f32⟩
  | 10 => ⟨S_, .f32⟩
  | 11 => ⟨S1x2048x2048, .f32⟩
  | 12 => ⟨S1x2048x2048, .f32⟩
  | 13 => ⟨S_, .f32⟩
  | 14 => ⟨S1x2048x2048, .f32⟩
  | 15 => ⟨S1x2048x2048, .f32⟩
  | 16 => ⟨S1x2048x2048, .f32⟩
  | 17 => ⟨S_, .f32⟩
  | 18 => ⟨S1x2048x2048, .f32⟩
  | 19 => ⟨S1x2048x2048, .f32⟩
  | 20 => ⟨S1x2048x2048, .f32⟩
  | 21 => ⟨S_, .f32⟩
  | 22 => ⟨S1x2048x2048, .f32⟩
  | 23 => ⟨S1x2048x2048, .f32⟩
  | 24 => ⟨S_, .f32⟩
  | 25 => ⟨S1x2048x2048, .f32⟩
  | 26 => ⟨S1x2048x2048, .f32⟩
  | 27 => ⟨S1x2048x2048, .f32⟩
  | 28 => ⟨S_, .f32⟩
  | 29 => ⟨S1x2048x2048, .f32⟩
  | 30 => ⟨S1x2048x2048, .f32⟩
  | 31 => ⟨S_, .f32⟩
  | 32 => ⟨S1x2048x2048, .f32⟩
  | 33 => ⟨S1x2048x2048, .f32⟩
  | 34 => ⟨S1x2048x2048, .f32⟩
  | 35 => ⟨S1x2048x1024, .f32⟩
  | 36 => ⟨S1x2048x1024, .f32⟩
  | 37 => ⟨S1x2048x8x128, .f32⟩
  | 38 => ⟨S1x2048x8x128, .f32⟩
  | 39 => ⟨S_, .f32⟩
  | 40 => ⟨S1x2048x8, .f32⟩
  | 41 => ⟨S1x2048x8x1, .f32⟩
  | 42 => ⟨S_, .f32⟩
  | 43 => ⟨S1x2048x8x1, .f32⟩
  | 44 => ⟨S1x2048x8x1, .f32⟩
  | 45 => ⟨S1x2048x8x128, .f32⟩
  | 46 => ⟨S1x2048x8x128, .f32⟩
  | 47 => ⟨S1x2048x8x128, .f32⟩
  | 48 => ⟨S_, .f32⟩
  | 49 => ⟨S1x2048x8x128, .f32⟩
  | 50 => ⟨S1x2048x8x128, .f32⟩
  | 51 => ⟨S_, .f32⟩
  | 52 => ⟨S1x2048x8, .f32⟩
  | 53 => ⟨S1x2048x8x1, .f32⟩
  | 54 => ⟨S_, .f32⟩
  | 55 => ⟨S1x2048x8x1, .f32⟩
  | 56 => ⟨S1x2048x8x1, .f32⟩
  | 57 => ⟨S1x2048x8x128, .f32⟩
  | 58 => ⟨S1x2048x8x128, .f32⟩
  | 59 => ⟨S_, .f32⟩
  | 60 => ⟨S1x2048x8x1, .f32⟩
  | 61 => ⟨S1x2048x8x1, .f32⟩
  | 62 => ⟨S1x2048x8x1, .f32⟩
  | 63 => ⟨S1x2048x8x1, .f32⟩
  | 64 => ⟨S_, .f32⟩
  | 65 => ⟨S1x2048x8x1, .f32⟩
  | 66 => ⟨S1x2048x8x1, .f32⟩
  | 67 => ⟨S1x2048x8x128, .f32⟩
  | 68 => ⟨S1x2048x8x128, .f32⟩
  | 69 => ⟨S1x1x8x128, .f32⟩
  | 70 => ⟨S1x2048x8x128, .f32⟩
  | 71 => ⟨S1x2048x8x128, .f32⟩
  | 72 => ⟨S_, .f32⟩
  | 73 => ⟨S128x128, .f32⟩
  | 74 => ⟨S128x128, .i32⟩
  | 75 => ⟨S_, .i32⟩
  | 76 => ⟨S128x128, .i32⟩
  | 77 => ⟨S128x128, .i32⟩
  | 78 => ⟨S128x128, .i32⟩
  | 79 => ⟨S128x128, .i1⟩
  | 80 => ⟨S_, .f32⟩
  | 81 => ⟨S128x128, .f32⟩
  | 82 => ⟨S128x128, .f32⟩
  | 83 => ⟨S1x16x128x8x128, .f32⟩
  | 84 => ⟨S1x128x128, .f32⟩
  | 85 => ⟨S8x128x128, .f32⟩
  | 86 => ⟨S8x128x128, .f32⟩
  | 87 => ⟨S8x1x16x128x128, .f32⟩
  | 88 => ⟨S1x16x128x8x128, .f32⟩
  | 89 => ⟨S128x8, .f32⟩
  | 90 => ⟨S1x1x128x8x1, .f32⟩
  | 91 => ⟨S1x16x128x8x128, .f32⟩
  | 92 => ⟨S1x16x128x8x128, .f32⟩
  | 93 => ⟨S1x2048x8x128, .f32⟩
  | 94 => ⟨S1x2048x8x128, .f32⟩
  | 95 => ⟨S1x2048x1024, .f32⟩
  | 96 => ⟨S2048x1024, .f32⟩
  | 97 => ⟨S1x2048x1024, .f32⟩
  | 98 => ⟨S1x2048x8x128, .f32⟩
  | 99 => ⟨S1x2048x8x128, .f32⟩
  | 100 => ⟨S1x2048x8x128, .f32⟩
  | 101 => ⟨S1x16x128x8x128, .f32⟩
  | 102 => ⟨S_, .f32⟩
  | 103 => ⟨S1x128x8, .f32⟩
  | 104 => ⟨S1x1x128x8x1, .f32⟩
  | 105 => ⟨S_, .f32⟩
  | 106 => ⟨S128x8, .f32⟩
  | 107 => ⟨S8x128, .f32⟩
  | 108 => ⟨S8x1x16x128x128, .f32⟩
  | 109 => ⟨S8x128x128, .f32⟩
  | 110 => ⟨S8x1x16x128x128, .f32⟩
  | 111 => ⟨S1x16x128x8x128, .f32⟩
  | 112 => ⟨S8x128x128, .f32⟩
  | 113 => ⟨S8x128x128, .f32⟩
  | 114 => ⟨S1x2048x8x128, .f32⟩
  | 115 => ⟨S1x2048x8x128, .f32⟩
  | 116 => ⟨S_, .f32⟩
  | 117 => ⟨S1x8x128, .f32⟩
  | 118 => ⟨S1x1x8x128, .f32⟩
  | 119 => ⟨S1x2048x8x128, .f32⟩
  | 120 => ⟨S1x2048x8x128, .f32⟩
  | 121 => ⟨S_, .f32⟩
  | 122 => ⟨S8x128, .f32⟩
  | 123 => ⟨S1x2048x8x128, .f32⟩
  | 124 => ⟨S_, .f32⟩
  | 125 => ⟨S1x2048x8, .f32⟩
  | 126 => ⟨S1x2048x8x1, .f32⟩
  | 127 => ⟨S1x2048x8x128, .f32⟩
  | _ => ⟨S2048x3584, .f32⟩

abbrev hbmTy0_1 (i : Nat) : BufTy := match i % 128 with
  | 0 => ⟨S1x2048x8x128, .f32⟩
  | 1 => ⟨S1x2048x8x1, .f32⟩
  | 2 => ⟨S1x2048x8x128, .f32⟩
  | 3 => ⟨S_, .f32⟩
  | 4 => ⟨S1x2048x8, .f32⟩
  | 5 => ⟨S1x2048x8x1, .f32⟩
  | 6 => ⟨S_, .f32⟩
  | 7 => ⟨S1x2048x8x1, .f32⟩
  | 8 => ⟨S1x2048x8x1, .f32⟩
  | 9 => ⟨S_, .f32⟩
  | 10 => ⟨S2048x8, .f32⟩
  | 11 => ⟨S1x2048x8, .f32⟩
  | 12 => ⟨S1x2048x8x128, .f32⟩
  | 13 => ⟨S1x2048x8x128, .f32⟩
  | 14 => ⟨S1x2048x8x128, .f32⟩
  | 15 => ⟨S_, .f32⟩
  | 16 => ⟨S1x2048x8, .f32⟩
  | 17 => ⟨S1x2048x8x1, .f32⟩
  | 18 => ⟨S1x2048x8x128, .f32⟩
  | 19 => ⟨S1x2048x8x1, .f32⟩
  | 20 => ⟨S_, .f32⟩
  | 21 => ⟨S1x2048x8x1, .f32⟩
  | 22 => ⟨S1x2048x8x1, .f32⟩
  | 23 => ⟨S_, .f32⟩
  | 24 => ⟨S2048x8, .f32⟩
  | 25 => ⟨S1x2048x8, .f32⟩
  | 26 => ⟨S1x2048x8x128, .f32⟩
  | 27 => ⟨S1x2048x8x128, .f32⟩
  | 28 => ⟨S1x2048x1024, .f32⟩
  | 29 => ⟨S1x2048x1024, .f32⟩
  | 30 => ⟨S_, .f32⟩
  | 31 => ⟨S1x2048x2048, .f32⟩
  | 32 => ⟨S_, .f32⟩
  | 33 => ⟨S1x2048x2048, .f32⟩
  | 34 => ⟨S1x2048x2048, .f32⟩
  | 35 => ⟨S1x2048x2048, .f32⟩
  | 36 => ⟨S1x2048x2048, .f32⟩
  | 37 => ⟨S_, .f32⟩
  | 38 => ⟨S1x2048x2048, .f32⟩
  | 39 => ⟨S1x2048x2048, .f32⟩
  | 40 => ⟨S1x2048x2048, .f32⟩
  | 41 => ⟨S_, .f32⟩
  | 42 => ⟨S1x2048x2048, .f32⟩
  | 43 => ⟨S1x2048x2048, .f32⟩
  | 44 => ⟨S1x2048x2048, .f32⟩
  | 45 => ⟨S_, .f32⟩
  | 46 => ⟨S1x2048x2048, .f32⟩
  | 47 => ⟨S1x2048x2048, .f32⟩
  | 48 => ⟨S1x2048x2048, .f32⟩
  | 49 => ⟨S1x2048x2048, .f32⟩
  | 50 => ⟨S1x2048x1024, .f32⟩
  | 51 => ⟨S2048x1024, .f32⟩
  | 52 => ⟨S2048x1024, .bf16⟩
  | 53 => ⟨S1x2048x1024, .f32⟩
  | 54 => ⟨S2048x1024, .f32⟩
  | 55 => ⟨S2048x1024, .bf16⟩
  | 56 => ⟨S8x1x128, .f32⟩
  | 57 => ⟨S8x128x1, .f32⟩
  | _ => ⟨S2048x3584, .f32⟩

abbrev hbmTy (i : Nat) : BufTy := match i / 128 with
  | 0 => hbmTy0_0 i
  | 1 => hbmTy0_1 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_cst : Ref sig .tc := ⟨.hbm, 80, rfl⟩
abbrev main_call0_v5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_16 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_17 : Ref sig .tc := ⟨.hbm, 121, rfl⟩
abbrev main_v90 : Ref sig .tc := ⟨.hbm, 122, rfl⟩
abbrev main_v91 : Ref sig .tc := ⟨.hbm, 123, rfl⟩
abbrev main_cst_18 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_19 : Ref sig .tc := ⟨.hbm, 131, rfl⟩
abbrev main_v98 : Ref sig .tc := ⟨.hbm, 132, rfl⟩
abbrev main_v99 : Ref sig .tc := ⟨.hbm, 133, rfl⟩
abbrev main_cst_20 : Ref sig .tc := ⟨.hbm, 134, rfl⟩
abbrev main_v100 : Ref sig .tc := ⟨.hbm, 135, rfl⟩
abbrev main_v101 : Ref sig .tc := ⟨.hbm, 136, rfl⟩
abbrev main_cst_21 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_22 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_23 : Ref sig .tc := ⟨.hbm, 148, rfl⟩
abbrev main_v111 : Ref sig .tc := ⟨.hbm, 149, rfl⟩
abbrev main_v112 : Ref sig .tc := ⟨.hbm, 150, rfl⟩
abbrev main_cst_24 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_25 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_27 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_28 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_29 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩

abbrev nD : Nat := 1
abbrev τ : Topo := Topo.v7x

variable {F : FTy → Type} [FloatOps F]
-- ==== Ffn.lean ====
abbrev S2048x2048 : Shape := ⟨2, ![2048, 2048]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1x1024x1024 : Shape := ⟨3, ![1, 1024, 1024]⟩

abbrev nBuf : Space → Nat
  | .hbm => 13
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S8192x2048, .f32⟩
  | .hbm, ⟨3, _⟩ => ⟨S2048x2048, .bf16⟩
  | .hbm, ⟨4, _⟩ => ⟨S2048x8192, .bf16⟩
  | .hbm, ⟨5, _⟩ => ⟨S2048x4x2048, .bf16⟩
  | .hbm, ⟨6, _⟩ => ⟨S4x2048x2048, .bf16⟩
  | .hbm, ⟨7, _⟩ => ⟨S2048x8192, .bf16⟩
  | .hbm, ⟨8, _⟩ => ⟨S2048x8192, .bf16⟩
  | .hbm, ⟨9, _⟩ => ⟨S8192x2048, .bf16⟩
  | .hbm, ⟨10, _⟩ => ⟨S8192x2048, .bf16⟩
  | .hbm, ⟨11, _⟩ => ⟨S2048x8192, .bf16⟩
  | .hbm, ⟨12, _⟩ => ⟨S4x2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1024, .bf16⟩
  | .local _ .vmem, ⟨26, _⟩ => ⟨S1x1024x1024, .bf16⟩
  | .local _ .vmem, ⟨27, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== FfnRefIdeal.lean ====
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩
abbrev S2048x4x2048 : Shape := ⟨3, ![2048, 4, 2048]⟩
abbrev S4x2048x2048 : Shape := ⟨3, ![4, 2048, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S8192x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .f32⟩
  | .hbm, ⟨10, _⟩ => ⟨S_, .f32⟩
  | .hbm, ⟨11, _⟩ => ⟨S2048x8192, .f32⟩
  | .hbm, ⟨12, _⟩ => ⟨S2048x8192, .i1⟩
  | .hbm, ⟨13, _⟩ => ⟨S_, .f32⟩
  | .hbm, ⟨14, _⟩ => ⟨S2048x8192, .f32⟩
  | .hbm, ⟨15, _⟩ => ⟨S2048x8192, .f32⟩
  | .hbm, ⟨16, _⟩ => ⟨S_, .f32⟩
  | .hbm, ⟨17, _⟩ => ⟨S2048x8192, .f32⟩
  | .hbm, ⟨18, _⟩ => ⟨S2048x8192, .f32⟩
  | .hbm, ⟨19, _⟩ => ⟨S2048x2048, .f32⟩
  | .hbm, ⟨20, _⟩ => ⟨S2048x8192, .f32⟩
  | .hbm, ⟨21, _⟩ => ⟨S8192x2048, .f32⟩
  | .hbm, ⟨22, _⟩ => ⟨S2048x8192, .f32⟩
  | .hbm, ⟨23, _⟩ => ⟨S2048x8192, .f32⟩
  | .hbm, ⟨24, _⟩ => ⟨S_, .f32⟩
  | .hbm, ⟨25, _⟩ => ⟨S2048x8192, .f32⟩
  | .hbm, ⟨26, _⟩ => ⟨S2048x8192, .f32⟩
  | .hbm, ⟨27, _⟩ => ⟨S8192x2048, .f32⟩
  | .hbm, ⟨28, _⟩ => ⟨S2048x8192, .f32⟩
  | .hbm, ⟨29, _⟩ => ⟨S2048x4x2048, .f32⟩
  | .hbm, ⟨30, _⟩ => ⟨S4x2048x2048, .f32⟩
  | .hbm, ⟨31, _⟩ => ⟨S8192x2048, .bf16⟩
  | .hbm, ⟨32, _⟩ => ⟨S2048x8192, .bf16⟩
  | .hbm, ⟨33, _⟩ => ⟨S4x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Updx.lean ====
abbrev S2048x8192 : Shape := ⟨2, ![2048, 8192]⟩
abbrev S2048x4x2048 : Shape := ⟨3, ![2048, 4, 2048]⟩
abbrev S4x2048x2048 : Shape := ⟨3, ![4, 2048, 2048]⟩
abbrev S2048x2048 : Shape := ⟨2, ![2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpdxRefIdeal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Down.lean ====
abbrev S2048x8192 : Shape := ⟨2, ![2048, 8192]⟩
abbrev S8192x2048 : Shape := ⟨2, ![8192, 2048]⟩
abbrev S2048x2048 : Shape := ⟨2, ![2048, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S8192x2048, .bf16⟩
  | .hbm, ⟨3, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S2048x8192, .f32⟩
  | .hbm, ⟨3, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Indx.lean ====
abbrev S2048x3584 : Shape := ⟨2, ![2048, 3584]⟩
abbrev S2048x4x896 : Shape := ⟨3, ![2048, 4, 896]⟩
abbrev S4x2048x896 : Shape := ⟨3, ![4, 2048, 896]⟩
abbrev S2048x2048 : Shape := ⟨2, ![2048, 2048]⟩
abbrev S1024x896 : Shape := ⟨2, ![1024, 896]⟩
abbrev S1x1024x896 : Shape := ⟨3, ![1, 1024, 896]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x3584, .bf16⟩
  | .hbm, ⟨1, _⟩ => ⟨S2048x3584, .f32⟩
  | .hbm, ⟨2, _⟩ => ⟨S2048x3584, .bf16⟩
  | .hbm, ⟨3, _⟩ => ⟨S2048x4x896, .bf16⟩
  | .hbm, ⟨4, _⟩ => ⟨S4x2048x896, .bf16⟩
  | .hbm, ⟨5, _⟩ => ⟨S2048x2048, .f32⟩
  | .local _ .vmem, ⟨0, _⟩ => ⟨S1024x896, .bf16⟩
  | .local _ .vmem, ⟨1, _⟩ => ⟨S1024x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== IndxRefIdeal.lean ====
abbrev S2048x3584 : Shape := ⟨2, ![2048, 3584]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S2048x3584, .f32⟩
  | .hbm, ⟨2, _⟩ => ⟨S_, .f32⟩
  | .hbm, ⟨3, _⟩ => ⟨S2048x2048, .f32⟩
  | .hbm, ⟨4, _⟩ => ⟨S2048x3584, .f32⟩
  | .hbm, ⟨5, _⟩ => ⟨S2048x3584, .f32⟩
  | .hbm, ⟨6, _⟩ => ⟨S2048x2048, .f32⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Mix.lean ====
abbrev S2048x2048 : Shape := ⟨2, ![2048, 2048]⟩
abbrev S2048x3584 : Shape := ⟨2, ![2048, 3584]⟩
abbrev S2048x4x896 : Shape := ⟨3, ![2048, 4, 896]⟩
abbrev S4x2048x896 : Shape := ⟨3, ![4, 2048, 896]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩
abbrev S2048x1024 : Shape := ⟨2, ![2048, 1024]⟩
abbrev S1024x1024 : Shape := ⟨2, ![1024, 1024]⟩
abbrev S1x1024x896 : Shape := ⟨3, ![1, 1024, 896]⟩

abbrev nBuf : Space → Nat
  | .hbm => 15
  | .vmem => 30
  | .smem => 0
  | _ => 0

abbrev bufTy : (tb : Table) → Fin (tcTables nBuf tb) → BufTy
  | .hbm, ⟨0, _⟩ => ⟨S2048x2048, .bf16⟩
  | .hbm, ⟨1, _⟩ => ⟨S2048x3584, .f32⟩
  | .hbm, ⟨2, _⟩ => ⟨S2048x2048, .bf16⟩
  | .hbm, ⟨3, _⟩ => ⟨S2048x2048, .f32⟩
  | .hbm, ⟨4, _⟩ => ⟨S2048x2048, .bf16⟩
  | .hbm, ⟨5, _⟩ => ⟨S2048x3584, .bf16⟩
  | .hbm, ⟨6, _⟩ => ⟨S2048x2048, .bf16⟩
  | .hbm, ⟨7, _⟩ => ⟨S2048x3584, .bf16⟩
  | .hbm, ⟨8, _⟩ => ⟨S2048x4x896, .bf16⟩
  | .hbm, ⟨9, _⟩ => ⟨S4x2048x896, .bf16⟩
  | .hbm, ⟨10, _⟩ => ⟨S2048x3584, .f32⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S4x2048x896, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x2048, .bf16⟩
  | .local _ .vmem, ⟨19, _⟩ => ⟨S1024x2048, .bf16⟩
  | .local _ .vmem, ⟨20, _⟩ => ⟨S1024x2048, .bf16⟩
  | .local _ .vmem, ⟨21, _⟩ => ⟨S1024x2048, .bf16⟩
  | .local _ .vmem, ⟨22, _⟩ => ⟨S1024x1024, .f32⟩
  | .local _ .vmem, ⟨23, _⟩ => ⟨S1024x1024, .f32⟩
  | .local _ .vmem, ⟨24, _⟩ => ⟨S2048x1024, .bf16⟩
  | .local _ .vmem, ⟨25, _⟩ => ⟨S2048x1024, .bf16⟩
  | .local _ .vmem, ⟨26, _⟩ => ⟨S2048x896, .bf16⟩
  | .local _ .vmem, ⟨27, _⟩ => ⟨S2048x896, .bf16⟩
  | .local _ .vmem, ⟨28, _⟩ => ⟨S1x1024x896, .bf16⟩
  | .local _ .vmem, ⟨29, _⟩ => ⟨S1x1024x896, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x896 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x896 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== MixRefIdeal.lean ====
abbrev S2048x2048 : Shape := ⟨2, ![2048, 2048]⟩
abbrev S2048x3584 : Shape := ⟨2, ![2048, 3584]⟩
abbrev S3584x2048 : Shape := ⟨2, ![3584, 2048]⟩
abbrev S2048x4x896 : Shape := ⟨3, ![2048, 4, 896]⟩
abbrev S4x2048x896 : Shape := ⟨3, ![4, 2048, 896]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3584, .f32⟩
  | .hbm, ⟨2, _⟩ => ⟨S2048x2048, .bf16⟩
  | .hbm, ⟨3, _⟩ => ⟨S2048x2048, .f32⟩
  | .hbm, ⟨4, _⟩ => ⟨S2048x2048, .bf16⟩
  | .hbm, ⟨5, _⟩ => ⟨S2048x3584, .bf16⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x3584, .f32⟩
  | .hbm, ⟨10, _⟩ => ⟨S2048x3584, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S3584x2048, .f32⟩
  | .hbm, ⟨16, _⟩ => ⟨S2048x3584, .f32⟩
  | .hbm, ⟨17, _⟩ => ⟨S2048x4x896, .f32⟩
  | .hbm, ⟨18, _⟩ => ⟨S4x2048x896, .f32⟩
  | .hbm, ⟨19, _⟩ => ⟨S2048x2048, .bf16⟩
  | .hbm, ⟨20, _⟩ => ⟨S4x2048x896, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Xatt.lean ====
abbrev S2048x2048 : Shape := ⟨2, ![2048, 2048]⟩
abbrev S256x2048 : Shape := ⟨2, ![256, 2048]⟩
abbrev S1024x2048 : Shape := ⟨2, ![1024, 2048]⟩
abbrev S2048x1024 : Shape := ⟨2, ![2048, 1024]⟩
abbrev S1024x1024 : Shape := ⟨2, ![1024, 1024]⟩
abbrev S256x1024 : Shape := ⟨2, ![256, 1024]⟩

abbrev nBuf : Space → Nat
  | .hbm => 15
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S256x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S256x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S256x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x2048, .bf16⟩
  | .local _ .vmem, ⟨7, _⟩ => ⟨S2048x1024, .bf16⟩
  | .local _ .vmem, ⟨8, _⟩ => ⟨S2048x1024, .bf16⟩
  | .local _ .vmem, ⟨9, _⟩ => ⟨S256x1024, .bf16⟩
  | .local _ .vmem, ⟨10, _⟩ => ⟨S256x1024, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x1024, .bf16⟩
  | .local _ .vmem, ⟨16, _⟩ => ⟨S1024x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S1024x1024, .bf16⟩
  | .local _ .vmem, ⟨22, _⟩ => ⟨S1024x1024, .bf16⟩
  | .local _ .vmem, ⟨23, _⟩ => ⟨S256x2048, .bf16⟩
  | .local _ .vmem, ⟨24, _⟩ => ⟨S1024x2048, .bf16⟩
  | .local _ .vmem, ⟨25, _⟩ => ⟨S1024x2048, .bf16⟩
  | .local _ .vmem, ⟨26, _⟩ => ⟨S256x1024, .f32⟩
  | .local _ .vmem, ⟨27, _⟩ => ⟨S256x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem1_0 : DmaSem sig := 24
abbrev cc4_sem1_1 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S256x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== XattRefIdeal.lean ====
abbrev S2048x2048 : Shape := ⟨2, ![2048, 2048]⟩
abbrev S256x2048 : Shape := ⟨2, ![256, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S256x2048, .bf16⟩
  | .hbm, ⟨6, _⟩ => ⟨S2048x2048, .bf16⟩
  | .hbm, ⟨7, _⟩ => ⟨S2048x2048, .f32⟩
  | .hbm, ⟨8, _⟩ => ⟨S256x2048, .f32⟩
  | .hbm, ⟨9, _⟩ => ⟨S256x2048, .f32⟩
  | .hbm, ⟨10, _⟩ => ⟨S2048x2048, .f32⟩
  | .hbm, ⟨11, _⟩ => ⟨S256x2048, .f32⟩
  | .hbm, ⟨12, _⟩ => ⟨S2048x2048, .f32⟩
  | .hbm, ⟨13, _⟩ => ⟨S2048x2048, .f32⟩
  | .hbm, ⟨14, _⟩ => ⟨S256x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .bf16⟩
  | .hbm, ⟨21, _⟩ => ⟨S256x2048, .bf16⟩
  | .hbm, ⟨22, _⟩ => ⟨S2048x2048, .bf16⟩
  | .hbm, ⟨23, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Attn.lean ====
abbrev S2048x2048 : Shape := ⟨2, ![2048, 2048]⟩
abbrev S256x2048 : Shape := ⟨2, ![256, 2048]⟩
abbrev S2048x512 : Shape := ⟨2, ![2048, 512]⟩
abbrev S256x512 : Shape := ⟨2, ![256, 512]⟩
abbrev S2048x256 : Shape := ⟨2, ![2048, 256]⟩
abbrev S2048 : Shape := ⟨1, ![2048]⟩
abbrev S2048x1 : Shape := ⟨2, ![2048, 1]⟩

abbrev nBuf : Space → Nat
  | .hbm => 8
  | .vmem => 22
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S256x2048, .bf16⟩
  | .hbm, ⟨7, _⟩ => ⟨S256x2048, .bf16⟩
  | .local _ .vmem, ⟨0, _⟩ => ⟨S2048x512, .bf16⟩
  | .local _ .vmem, ⟨1, _⟩ => ⟨S2048x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== AttnRefIdeal.lean ====
abbrev S2048x2048 : Shape := ⟨2, ![2048, 2048]⟩
abbrev S256x2048 : Shape := ⟨2, ![256, 2048]⟩
abbrev S2048x4x512 : Shape := ⟨3, ![2048, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩
abbrev S4x512x256 : Shape := ⟨3, ![4, 512, 256]⟩
abbrev S4x256x512 : Shape := ⟨3, ![4, 256, 512]⟩
abbrev S4x2048x512 : Shape := ⟨3, ![4, 2048, 512]⟩

abbrev nBuf : Space → Nat
  | .hbm => 89
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .hbm, ⟨4, _⟩ => ⟨S2048x2048, .f32⟩
  | .hbm, ⟨5, _⟩ => ⟨S256x2048, .f32⟩
  | .hbm, ⟨6, _⟩ => ⟨S256x2048, .f32⟩
  | .hbm, ⟨7, _⟩ => ⟨S2048x4x512, .f32⟩
  | .hbm, ⟨8, _⟩ => ⟨S256x4x512, .f32⟩
  | .hbm, ⟨9, _⟩ => ⟨S256x4x512, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .i1⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S4x2048, .f32⟩
  | .hbm, ⟨39, _⟩ => ⟨S4x2048x1, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S4x2048x256, .f32⟩
  | .hbm, ⟨47, _⟩ => ⟨S4x2048x256, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x512x2048, .f32⟩
  | .hbm, ⟨53, _⟩ => ⟨S2048x4x512, .f32⟩
  | .hbm, ⟨54, _⟩ => ⟨S2048x2048, .f32⟩
  | .hbm, ⟨55, _⟩ => ⟨S2048x2048, .f32⟩
  | .hbm, ⟨56, _⟩ => ⟨S2048x4x512, .f32⟩
  | .hbm, ⟨57, _⟩ => ⟨S4x512x2048, .f32⟩
  | .hbm, ⟨58, _⟩ => ⟨S4x2048x256, .f32⟩
  | .hbm, ⟨59, _⟩ => ⟨S4x512x256, .f32⟩
  | .hbm, ⟨60, _⟩ => ⟨S256x4x512, .f32⟩
  | .hbm, ⟨61, _⟩ => ⟨S4x2048x256, .f32⟩
  | .hbm, ⟨62, _⟩ => ⟨S4x2048x256, .f32⟩
  | .hbm, ⟨63, _⟩ => ⟨S4x2048x256, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S_, .f32⟩
  | .hbm, ⟨76, _⟩ => ⟨S4x2048x256, .f32⟩
  | .hbm, ⟨77, _⟩ => ⟨S4x2048x256, .f32⟩
  | .hbm, ⟨78, _⟩ => ⟨S4x256x512, .f32⟩
  | .hbm, ⟨79, _⟩ => ⟨S256x4x512, .f32⟩
  | .hbm, ⟨80, _⟩ => ⟨S4x2048x512, .f32⟩
  | .hbm, ⟨81, _⟩ => ⟨S2048x4x512, .f32⟩
  | .hbm, ⟨82, _⟩ => ⟨S256x2048, .f32⟩
  | .hbm, ⟨83, _⟩ => ⟨S256x2048, .f32⟩
  | .hbm, ⟨84, _⟩ => ⟨S2048x2048, .f32⟩
  | .hbm, ⟨85, _⟩ => ⟨S2048x2048, .bf16⟩
  | .hbm, ⟨86, _⟩ => ⟨S2048x2048, .bf16⟩
  | .hbm, ⟨87, _⟩ => ⟨S256x2048, .bf16⟩
  | .hbm, ⟨88, _⟩ => ⟨S256x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Norm.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v32 : BitVec 32 := Scalar.extui v0
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v34 : BitVec 1 := Scalar.xori v0 v_true
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Loss.lean ====
abbrev S2048x2048 : Shape := ⟨2, ![2048, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .ne arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x2048 : Shape := ⟨2, ![2048, 2048]⟩
abbrev S_ : Shape := ⟨0, ![]⟩
abbrev S2048 : Shape := ⟨1, ![2048]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S_, .f32⟩
  | .hbm, ⟨34, _⟩ => ⟨S1x2048, .f32⟩
  | .hbm, ⟨35, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Adam.lean ====
abbrev S62x128 : Shape := ⟨2, ![62, 128]⟩

abbrev nBuf : Space → Nat
  | .hbm => 7
  | .vmem => 7
  | .smem => 0
  | _ => 0

abbrev bufTy : (tb : Table) → Fin (tcTables nBuf tb) → BufTy
  | .hbm, ⟨0, _⟩ => ⟨S62x128, .f32⟩
  | .hbm, ⟨1, _⟩ => ⟨S62x128, .f32⟩
  | .hbm, ⟨2, _⟩ => ⟨S62x128, .f32⟩
  | .hbm, ⟨3, _⟩ => ⟨S62x128, .f32⟩
  | .hbm, ⟨4, _⟩ => ⟨S62x128, .f32⟩
  | .hbm, ⟨5, _⟩ => ⟨S62x128, .f32⟩
  | .hbm, ⟨6, _⟩ => ⟨S62x128, .f32⟩
  | .local _ .vmem, ⟨0, _⟩ => ⟨S62x128, .f32⟩
  | .local _ .vmem, ⟨1, _⟩ => ⟨S62x128, .f32⟩
  | .local _ .vmem, ⟨2, _⟩ => ⟨S62x128, .f32⟩
  | .local _ .vmem, ⟨3, _⟩ => ⟨S62x128, .f32⟩
  | .local _ .vmem, ⟨4, _⟩ => ⟨S62x128, .f32⟩
  | .local _ .vmem, ⟨5, _⟩ => ⟨S62x128, .f32⟩
  | .local _ .vmem, ⟨6, _⟩ => ⟨S62x128, .f32⟩
  | _, _ => ⟨S62x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRefIdeal.lean ====
abbrev S62x128 : Shape := ⟨2, ![62, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x128, .f32⟩
  | .hbm, ⟨1, _⟩ => ⟨S62x128, .f32⟩
  | .hbm, ⟨2, _⟩ => ⟨S62x128, .f32⟩
  | .hbm, ⟨3, _⟩ => ⟨S62x128, .f32⟩
  | .hbm, ⟨4, _⟩ => ⟨S_, .f32⟩
  | .hbm, ⟨5, _⟩ => ⟨S62x128, .f32⟩
  | .hbm, ⟨6, _⟩ => ⟨S62x128, .f32⟩
  | .hbm, ⟨7, _⟩ => ⟨S_, .f32⟩
  | .hbm, ⟨8, _⟩ => ⟨S62x128, .f32⟩
  | .hbm, ⟨9, _⟩ => ⟨S62x128, .f32⟩
  | .hbm, ⟨10, _⟩ => ⟨S62x128, .f32⟩
  | .hbm, ⟨11, _⟩ => ⟨S_, .f32⟩
  | .hbm, ⟨12, _⟩ => ⟨S62x128, .f32⟩
  | .hbm, ⟨13, _⟩ => ⟨S62x128, .f32⟩
  | .hbm, ⟨14, _⟩ => ⟨S62x128, .f32⟩
  | .hbm, ⟨15, _⟩ => ⟨S_, .f32⟩
  | .hbm, ⟨16, _⟩ => ⟨S62x128, .f32⟩
  | .hbm, ⟨17, _⟩ => ⟨S62x128, .f32⟩
  | .hbm, ⟨18, _⟩ => ⟨S62x128, .f32⟩
  | .hbm, ⟨19, _⟩ => ⟨S_, .f32⟩
  | .hbm, ⟨20, _⟩ => ⟨S62x128, .f32⟩
  | .hbm, ⟨21, _⟩ => ⟨S62x128, .f32⟩
  | .hbm, ⟨22, _⟩ => ⟨S_, .f32⟩
  | .hbm, ⟨23, _⟩ => ⟨S62x128, .f32⟩
  | .hbm, ⟨24, _⟩ => ⟨S62x128, .f32⟩
  | .hbm, ⟨25, _⟩ => ⟨S62x128, .f32⟩
  | .hbm, ⟨26, _⟩ => ⟨S_, .f32⟩
  | .hbm, ⟨27, _⟩ => ⟨S62x128, .f32⟩
  | .hbm, ⟨28, _⟩ => ⟨S62x128, .f32⟩
  | .hbm, ⟨29, _⟩ => ⟨S62x128, .f32⟩
  | .hbm, ⟨30, _⟩ => ⟨S_, .f32⟩
  | .hbm, ⟨31, _⟩ => ⟨S62x128, .f32⟩
  | .hbm, ⟨32, _⟩ => ⟨S62x128, .f32⟩
  | .hbm, ⟨33, _⟩ => ⟨S62x128, .f32⟩
  | .hbm, ⟨34, _⟩ => ⟨S_, .f32⟩
  | .hbm, ⟨35, _⟩ => ⟨S62x128, .f32⟩
  | .hbm, ⟨36, _⟩ => ⟨S62x128, .f32⟩
  | _, _ => ⟨S62x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Norms.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v68 : BitVec 32 := Scalar.extui v0
  let c0_i32_28 : BitVec 32 := 0#32
  let v69 : BitVec 1 := Scalar.cmpi .ne v68 c0_i32_28
  v69

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_29 : BitVec 1 := 1#1
  let v70 : BitVec 1 := Scalar.xori v0 true_29
  let v71 : BitVec 32 := Scalar.extui v70
  let c0_i32_30 : BitVec 32 := 0#32
  let v72 : BitVec 1 := Scalar.cmpi .ne v71 c0_i32_30
  v72

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v32 : BitVec 32 := Scalar.extui v0
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v34 : BitVec 1 := Scalar.xori v0 v_true
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormsRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 100
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S2048x2048, .f32⟩
  | .hbm, ⟨68, _⟩ => ⟨S2048x2048, .f32⟩
  | .hbm, ⟨69, _⟩ => ⟨S1x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048, .f32⟩
  | .hbm, ⟨80, _⟩ => ⟨S2048x2048, .f32⟩
  | .hbm, ⟨81, _⟩ => ⟨S_, .f32⟩
  | .hbm, ⟨82, _⟩ => ⟨S2048, .f32⟩
  | .hbm, ⟨83, _⟩ => ⟨S2048x1, .f32⟩
  | .hbm, ⟨84, _⟩ => ⟨S2048x2048, .f32⟩
  | .hbm, ⟨85, _⟩ => ⟨S2048x2048, .f32⟩
  | .hbm, ⟨86, _⟩ => ⟨S2048x1, .f32⟩
  | .hbm, ⟨87, _⟩ => ⟨S_, .f32⟩
  | .hbm, ⟨88, _⟩ => ⟨S2048x1, .f32⟩
  | .hbm, ⟨89, _⟩ => ⟨S2048x1, .f32⟩
  | .hbm, ⟨90, _⟩ => ⟨S_, .f32⟩
  | .hbm, ⟨91, _⟩ => ⟨S2048, .f32⟩
  | .hbm, ⟨92, _⟩ => ⟨S2048x2048, .f32⟩
  | .hbm, ⟨93, _⟩ => ⟨S2048x2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S2048x2048, .bf16⟩
  | .hbm, ⟨98, _⟩ => ⟨S1x2048, .f32⟩
  | .hbm, ⟨99, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Memn.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S1x2048, .f32⟩
  | .hbm, ⟨4, _⟩ => ⟨S256x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v30 : BitVec 32 := Scalar.extui v0
  let c0_i32_10 : BitVec 32 := 0#32
  let v31 : BitVec 1 := Scalar.cmpi .ne v30 c0_i32_10
  v31

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v32 : BitVec 1 := Scalar.xori v0 v_true
  let v33 : BitVec 32 := Scalar.extui v32
  let c0_i32_11 : BitVec 32 := 0#32
  let v34 : BitVec 1 := Scalar.cmpi .ne v33 c0_i32_11
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemnRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S2048, .f32⟩
  | .hbm, ⟨31, _⟩ => ⟨S256x2048, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x2048, .f32⟩
  | .hbm, ⟨36, _⟩ => ⟨S256x2048, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.GmlpChunk.lean ====
module

public import proofs.«01_k».proof.Proof.Gen.KernelIdeal.Loops

@[expose] public section

set_option maxRecDepth 16384

noncomputable section

/-! The five gradients of ONE chunk of 128 rows of one head, as the first of the four unrolled copies of the loop
    body computes them, and the fact that one trip of the loop writes and adds these four times over. -/

namespace Cert.KernelIdeal.Gmlp

open Idealize.ShloMosaic Idealize.ShloMosaic.TcCoe Idealize.SL.Sem
open Cert.KernelIdeal Cert.KernelIdeal.Gen

variable {F : FTy → Type} [FloatOps F]

/-- The gradient of the gating half's input of a chunk. -/
def chunkDu (zu zv dy : Vec F S128x128 .f32) (g : Vec F S1x1x128 .f32) (w : Vec F S1x128x128 .f32) (b : Vec F S1x128x1 .f32) :
    FVec F S128x128 .bf16 :=
  k0_pay39 zu (k0_pay12 zu) (k0_pay14 zu) (k0_pay15 zu) (k0_pay31 (k0_pay1 g) (k0_pay2 w) (k0_pay3 b) zv (k0_pay18 zv) dy)

/-- The gradient of the gated half's input of a chunk. -/
def chunkDv (zu zv dy : Vec F S128x128 .f32) (g : Vec F S1x1x128 .f32) (w : Vec F S1x128x128 .f32) : FVec F S128x128 .bf16 :=
  k0_pay40 (k0_pay38 (k0_pay1 g) zv (k0_pay17 zv) (k0_pay20 (k0_pay18 zv) (k0_pay19 zv) (Scalar.ofBits .f32 0x3F800000#32))
    (k0_pay21 (k0_pay18 zv)) (k0_pay22 zv (k0_pay18 zv)) (k0_pay24 zv (k0_pay18 zv)) (k0_pay25 zv (k0_pay18 zv))
    (k0_pay29 (k0_pay2 w)) (k0_pay33 (k0_pay16 zu) dy))

/-- A chunk's part of the gain's gradient. -/
def chunkDg (zu zv dy : Vec F S128x128 .f32) (w : Vec F S1x128x128 .f32) : FVec F S1x128 .f32 :=
  k0_pay37 (k0_pay26 zv (k0_pay18 zv)) (k0_pay29 (k0_pay2 w)) (k0_pay33 (k0_pay16 zu) dy)

/-- A chunk's part of the spatial weights' gradient. -/
def chunkDw (zu zv dy : Vec F S128x128 .f32) (g : Vec F S1x1x128 .f32) : FVec F S128x128 .f32 :=
  k0_pay36 k0_pay28 (k0_pay33 (k0_pay16 zu) dy) (k0_pay34 (k0_pay1 g) zv (k0_pay18 zv)) (constant S128x128 .f32 0x00000000#32)

/-- A chunk's part of the spatial bias's gradient. -/
def chunkDb (zu dy : Vec F S128x128 .f32) : FVec F S128x1 .f32 := k0_pay32 (k0_pay16 zu) dy

section
variable (𝒱 : Variants) (c : Dev nD) (bd : Option 𝒱.V) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x1x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x128 .f32) (harg9 : arg9.IsWhole) (arg10 : Memref sig .tc .vmem S1x128x128 .f32) (harg10 : arg10.IsWhole) (arg11 : Memref sig .tc .vmem S1x128x1 .f32) (harg11 : arg11.IsWhole) (v0 : Vec F S1x1x128 .f32) (v2 : Vec F S1x128x128 .f32) (v4 : Vec F S1x128x1 .f32)
  (X1 : BufTy.Contents (Elt F) arg1.view.ty) (X2 : BufTy.Contents (Elt F) arg2.view.ty) (X3 : BufTy.Contents (Elt F) arg3.view.ty)
  (k : Fin k0_t1_loop.trips) (acc : FVec F S1x128 .f32 × FVec F S128x128 .f32 × FVec F S128x1 .f32)

/-- The rectangle of chunk `r` of trip `k`: 128 rows, all 128 lanes. -/
abbrev rect (k : Fin k0_t1_loop.trips) (r : Fin 4) : Rect S2048x128 :=
  Rect.unit (s := S2048x128) (k0_off1 k (BitVec.ofNat 32 r.val)) S128x128.size (k0_off1_inb k r)

/-- The rows of chunk `r` of trip `k`, read from a staged array. -/
abbrev rd (arg : Memref sig .tc .vmem S2048x128 .f32) (X : BufTy.Contents (Elt F) arg.view.ty) (k : Fin k0_t1_loop.trips) (r : Fin 4) :
    Vec F S128x128 .f32 :=
  arg.view.readAt (Elt F) (rect k r).toLoadRect X

/-- The gain's gradient a trip yields: the carried one and the trip's four chunks' parts. -/
theorem trip_dg : ((trip_k0_t1 (F := F) 𝒱 c bd i arg1 harg1 arg2 harg2 arg3 harg3 arg4 harg4 arg5 harg5 arg6 harg6 arg7 harg7 arg8 harg8 arg9 harg9 arg10 harg10 arg11 harg11 v0 v2 v4 X1 X2 X3 k).1 acc).1
    = addf (addf (addf (addf acc.1 (chunkDg (rd arg1 X1 k 0) (rd arg2 X2 k 0) (rd arg3 X3 k 0) v2))
        (chunkDg (rd arg1 X1 k 1) (rd arg2 X2 k 1) (rd arg3 X3 k 1) v2)) (chunkDg (rd arg1 X1 k 2) (rd arg2 X2 k 2) (rd arg3 X3 k 2) v2))
        (chunkDg (rd arg1 X1 k 3) (rd arg2 X2 k 3) (rd arg3 X3 k 3) v2) := by
  unfold trip_k0_t1; rfl

/-- The spatial weights' gradient a trip yields. -/
theorem trip_dw : ((trip_k0_t1 (F := F) 𝒱 c bd i arg1 harg1 arg2 harg2 arg3 harg3 arg4 harg4 arg5 harg5 arg6 harg6 arg7 harg7 arg8 harg8 arg9 harg9 arg10 harg10 arg11 harg11 v0 v2 v4 X1 X2 X3 k).1 acc).2.1
    = addf (addf (addf (addf acc.2.1 (chunkDw (rd arg1 X1 k 0) (rd arg2 X2 k 0) (rd arg3 X3 k 0) v0))
        (chunkDw (rd arg1 X1 k 1) (rd arg2 X2 k 1) (rd arg3 X3 k 1) v0)) (chunkDw (rd arg1 X1 k 2) (rd arg2 X2 k 2) (rd arg3 X3 k 2) v0))
        (chunkDw (rd arg1 X1 k 3) (rd arg2 X2 k 3) (rd arg3 X3 k 3) v0) := by
  unfold trip_k0_t1; rfl

/-- The spatial bias's gradient a trip yields. -/
theorem trip_db : ((trip_k0_t1 (F := F) 𝒱 c bd i arg1 harg1 arg2 harg2 arg3 harg3 arg4 harg4 arg5 harg5 arg6 harg6 arg7 harg7 arg8 harg8 arg9 harg9 arg10 harg10 arg11 harg11 v0 v2 v4 X1 X2 X3 k).1 acc).2.2
    = addf (addf (addf (addf acc.2.2 (chunkDb (rd arg1 X1 k 0) (rd arg3 X3 k 0)))
        (chunkDb (rd arg1 X1 k 1) (rd arg3 X3 k 1))) (chunkDb (rd arg1 X1 k 2) (rd arg3 X3 k 2)))
        (chunkDb (rd arg1 X1 k 3) (rd arg3 X3 k 3)) := by
  unfold trip_k0_t1; rfl

/-- The four pieces a trip writes of the gating half's gradient. -/
theorem trip_du : (trip_k0_t1 (F := F) 𝒱 c bd i arg1 harg1 arg2 harg2 arg3 harg3 arg4 harg4 arg5 harg5 arg6 harg6 arg7 harg7 arg8 harg8 arg9 harg9 arg10 harg10 arg11 harg11 v0 v2 v4 X1 X2 X3 k).2.1 acc
    = [⟨rect k 3, chunkDu (rd arg1 X1 k 3) (rd arg2 X2 k 3) (rd arg3 X3 k 3) v0 v2 v4⟩,
       ⟨rect k 2, chunkDu (rd arg1 X1 k 2) (rd arg2 X2 k 2) (rd arg3 X3 k 2) v0 v2 v4⟩,
       ⟨rect k 1, chunkDu (rd arg1 X1 k 1) (rd arg2 X2 k 1) (rd arg3 X3 k 1) v0 v2 v4⟩,
       ⟨rect k 0, chunkDu (rd arg1 X1 k 0) (rd arg2 X2 k 0) (rd arg3 X3 k 0) v0 v2 v4⟩] := by
  unfold trip_k0_t1; rfl

/-- The four pieces a trip writes of the gated half's gradient. -/
theorem trip_dv : (trip_k0_t1 (F := F) 𝒱 c bd i arg1 harg1 arg2 harg2 arg3 harg3 arg4 harg4 arg5 harg5 arg6 harg6 arg7 harg7 arg8 harg8 arg9 harg9 arg10 harg10 arg11 harg11 v0 v2 v4 X1 X2 X3 k).2.2.1 acc
    = [⟨rect k 3, chunkDv (rd arg1 X1 k 3) (rd arg2 X2 k 3) (rd arg3 X3 k 3) v0 v2⟩,
       ⟨rect k 2, chunkDv (rd arg1 X1 k 2) (rd arg2 X2 k 2) (rd arg3 X3 k 2) v0 v2⟩,
       ⟨rect k 1, chunkDv (rd arg1 X1 k 1) (rd arg2 X2 k 1) (rd arg3 X3 k 1) v0 v2⟩,
       ⟨rect k 0, chunkDv (rd arg1 X1 k 0) (rd arg2 X2 k 0) (rd arg3 X3 k 0) v0 v2⟩] := by
  unfold trip_k0_t1; rfl
end
end Cert.KernelIdeal.Gmlp
end
-- ==== Proof.GmlpRun.lean ====
module

public import proofs.«01_k».proof.Proof.Gen.KernelIdeal.Frame
public import Idealize.ShloMosaic.Lib.Pipeline.ValueKit
public import proofs.«01_k».proof.Proof.GmlpChunk

@[expose] public section

set_option maxRecDepth 16384

noncomputable section

/-! What the loop over the chunks leaves: each output block of one head as a function of the head's input blocks. -/

namespace Cert.KernelIdeal.Gmlp

open Idealize.ShloMosaic Idealize.ShloMosaic.TcCoe Idealize.SL.Sem
open Cert.KernelIdeal Cert.KernelIdeal.Gen

/-- Chunk `q` (128 rows) of a block of 2048 rows. -/
def rowsOf (x : Vec Ideal S2048x128 .f32) (q : ℕ) : Vec Ideal S128x128 .f32 :=
  fun y => x (ix2 ⟨(128 * q + (y 0).val) % 2048, Nat.mod_lt _ (by decide)⟩ (y 1 : Fin 128))

/-- The gating half's gradient over all the rows of a head. -/
def allDu (x0 x1 x2 : Vec Ideal S2048x128 .f32) (g : Vec Ideal S1x1x128 .f32) (w : Vec Ideal S1x128x128 .f32) (b : Vec Ideal S1x128x1 .f32) :
    FVec Ideal S2048x128 .bf16 :=
  fun y => chunkDu (rowsOf x0 ((y 0).val / 128)) (rowsOf x1 ((y 0).val / 128)) (rowsOf x2 ((y 0).val / 128)) g w b
    (ix2 ⟨(y 0).val % 128, Nat.mod_lt _ (by decide)⟩ (y 1 : Fin 128))

/-- The gated half's gradient over all the rows of a head. -/
def allDv (x0 x1 x2 : Vec Ideal S2048x128 .f32) (g : Vec Ideal S1x1x128 .f32) (w : Vec Ideal S1x128x128 .f32) :
    FVec Ideal S2048x128 .bf16 :=
  fun y => chunkDv (rowsOf x0 ((y 0).val / 128)) (rowsOf x1 ((y 0).val / 128)) (rowsOf x2 ((y 0).val / 128)) g w
    (ix2 ⟨(y 0).val % 128, Nat.mod_lt _ (by decide)⟩ (y 1 : Fin 128))

/-- Reading a trip's chunk of a staged array that holds `x` is a chunk of `x`. -/
theorem rd_unread (arg : Memref sig .tc .vmem S2048x128 .f32) (harg : arg.IsWhole) (x : Vec Ideal S2048x128 .f32)
    (k : Fin k0_t1_loop.trips) (r : Fin 4) : rd arg (harg.unread x) k r = rowsOf x (4 * k.val + r.val) := by
  have hk : k.val < 4 := k.isLt
  have h0 : k0_off1 k (BitVec.ofNat 32 r.val) 0 = 512 * k.val + 128 * r.val := by rw [k0_off1_eq k r]; rfl
  have h1 : k0_off1 k (BitVec.ofNat 32 r.val) 1 = 0 := by rw [k0_off1_eq k r]; rfl
  funext y
  unfold rd
  rw [View.readAt_eq_ld, harg.read_unread]
  refine View.ld_unit_apply_of x _ _ _ y _ fun a => ?_
  have hy : (y 0).val < 128 := (y 0).isLt
  match a with
  | 0 => rw [h0]; show (128 * (4 * k.val + r.val) + (y 0).val) % 2048 = _; omega
  | 1 => rw [h1]; show (y 1).val = _; omega

/-- A piece written at a trip's chunk is the whole function there. -/
theorem emb_rows (k : Fin k0_t1_loop.trips) (r : Fin 4) (x : (rect k r).shape.Idx) :
    (((rect k r).emb x) 0).val = 128 * (4 * k.val + r.val) + (x 0).val ∧ (((rect k r).emb x) 1).val = (x 1).val := by
  have h0 : k0_off1 k (BitVec.ofNat 32 r.val) 0 = 512 * k.val + 128 * r.val := by rw [k0_off1_eq k r]; rfl
  have h1 : k0_off1 k (BitVec.ofNat 32 r.val) 1 = 0 := by rw [k0_off1_eq k r]; rfl
  constructor
  · refine (Rect.idx_unit_val _ _ _ x 0).trans ?_
    rw [h0]; omega
  · refine (Rect.idx_unit_val _ _ _ x 1).trans ?_
    rw [h1]; omega

/-- A function of the chunks, read at a trip's rectangle, is the chunk's value. -/
theorem at_rect {α : Type} (f : ℕ → S128x128.Idx → α) (k : Fin k0_t1_loop.trips) (r : Fin 4) (x : S128x128.Idx) :
    f ((((rect k r).emb x) 0).val / 128)
      (ix2 ⟨(((rect k r).emb x) 0).val % 128, Nat.mod_lt _ (by decide)⟩ (((rect k r).emb x) 1 : Fin 128))
      = f (4 * k.val + r.val) x := by
  obtain ⟨h0, h1⟩ := emb_rows k r x
  have hx : (x 0).val < 128 := (x 0).isLt
  have hq : (((rect k r).emb x) 0).val / 128 = 4 * k.val + r.val := by rw [h0]; omega
  rw [hq]
  refine congrArg (f _) (funext fun a => ?_)
  match a with
  | 0 => exact Fin.ext (by show (((rect k r).emb x) 0).val % 128 = _; rw [h0]; omega)
  | 1 => exact Fin.ext h1

section
variable (𝒱 : Variants) (c : Dev nD) (bd : Option 𝒱.V) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x1x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x1x128 .f32) (harg9 : arg9.IsWhole) (arg10 : Memref sig .tc .vmem S1x128x128 .f32) (harg10 : arg10.IsWhole) (arg11 : Memref sig .tc .vmem S1x128x1 .f32) (harg11 : arg11.IsWhole) (v0 : Vec Ideal S1x1x128 .f32) (v2 : Vec Ideal S1x128x128 .f32) (v4 : Vec Ideal S1x128x1 .f32)
  (x0 x1 x2 : Vec Ideal S2048x128 .f32)

/-- The state before trip `n`: the carried sums over the chunks so far, and pieces that are the chunks' gradients. -/
theorem state (n : ℕ) (hn : n ≤ 4) :
    (∀ y, (st_k0_t1 (F := Ideal) 𝒱 c bd i arg1 harg1 arg2 harg2 arg3 harg3 arg4 harg4 arg5 harg5 arg6 harg6 arg7 harg7 arg8 harg8 arg9 harg9 arg10 harg10 arg11 harg11 v0 v2 v4 (harg1.unread x0) (harg2.unread x1) (harg3.unread x2) (k0_pay4, k0_pay5, k0_pay6) n).1.1 y = ∑ q ∈ Finset.range (4 * n), chunkDg (rowsOf x0 q) (rowsOf x1 q) (rowsOf x2 q) v2 y)
    ∧ (∀ y, (st_k0_t1 (F := Ideal) 𝒱 c bd i arg1 harg1 arg2 harg2 arg3 harg3 arg4 harg4 arg5 harg5 arg6 harg6 arg7 harg7 arg8 harg8 arg9 harg9 arg10 harg10 arg11 harg11 v0 v2 v4 (harg1.unread x0) (harg2.unread x1) (harg3.unread x2) (k0_pay4, k0_pay5, k0_pay6) n).1.2.1 y = ∑ q ∈ Finset.range (4 * n), chunkDw (rowsOf x0 q) (rowsOf x1 q) (rowsOf x2 q) v0 y)
    ∧ (∀ y, (st_k0_t1 (F := Ideal) 𝒱 c bd i arg1 harg1 arg2 harg2 arg3 harg3 arg4 harg4 arg5 harg5 arg6 harg6 arg7 harg7 arg8 harg8 arg9 harg9 arg10 harg10 arg11 harg11 v0 v2 v4 (harg1.unread x0) (harg2.unread x1) (harg3.unread x2) (k0_pay4, k0_pay5, k0_pay6) n).1.2.2 y = ∑ q ∈ Finset.range (4 * n), chunkDb (rowsOf x0 q) (rowsOf x2 q) y)
    ∧ (∀ p ∈ (st_k0_t1 (F := Ideal) 𝒱 c bd i arg1 harg1 arg2 harg2 arg3 harg3 arg4 harg4 arg5 harg5 arg6 harg6 arg7 harg7 arg8 harg8 arg9 harg9 arg10 harg10 arg11 harg11 v0 v2 v4 (harg1.unread x0) (harg2.unread x1) (harg3.unread x2) (k0_pay4, k0_pay5, k0_pay6) n).2.1, ∀ x, p.2 x = allDu x0 x1 x2 v0 v2 v4 (p.1.emb x))
    ∧ (∀ p ∈ (st_k0_t1 (F := Ideal) 𝒱 c bd i arg1 harg1 arg2 harg2 arg3 harg3 arg4 harg4 arg5 harg5 arg6 harg6 arg7 harg7 arg8 harg8 arg9 harg9 arg10 harg10 arg11 harg11 v0 v2 v4 (harg1.unread x0) (harg2.unread x1) (harg3.unread x2) (k0_pay4, k0_pay5, k0_pay6) n).2.2, ∀ x, p.2 x = allDv x0 x1 x2 v0 v2 (p.1.emb x)) := by
  induction n with
  | zero =>
    refine ⟨fun y => ?_, fun y => ?_, fun y => ?_, fun p hp => ?_, fun p hp => ?_⟩
    · show k0_pay4 (F := Ideal) y = _; pointwise [k0_pay4]; exact Finset.sum_range_zero _ |>.symm
    · show k0_pay5 (F := Ideal) y = _; pointwise [k0_pay5]; exact Finset.sum_range_zero _ |>.symm
    · show k0_pay6 (F := Ideal) y = _; pointwise [k0_pay6]; exact Finset.sum_range_zero _ |>.symm
    · exact absurd hp List.not_mem_nil
    · exact absurd hp List.not_mem_nil
  | succ n ih =>
    obtain ⟨ih1, ih2, ih3, ih4, ih5⟩ := ih (by omega)
    have e := st_k0_t1_succ (F := Ideal) 𝒱 c bd i arg1 harg1 arg2 harg2 arg3 harg3 arg4 harg4 arg5 harg5 arg6 harg6 arg7 harg7 arg8 harg8 arg9 harg9 arg10 harg10 arg11 harg11 v0 v2 v4 (harg1.unread x0) (harg2.unread x1) (harg3.unread x2) (k0_pay4, k0_pay5, k0_pay6) ⟨n, by show n < 4; omega⟩
    rw [show n + 1 = (⟨n, by show n < 4; omega⟩ : Fin k0_t1_loop.trips).val + 1 from rfl, e]
    refine ⟨fun y => ?_, fun y => ?_, fun y => ?_, fun p hp => ?_, fun p hp => ?_⟩
    · show (tripR_k0_t1 ..).1 y = _
      unfold tripR_k0_t1
      rw [trip_dg]
      simp only [rd_unread]
      rw [show 4 * (n + 1) = 4 * n + 1 + 1 + 1 + 1 by omega]
      simp only [Finset.sum_range_succ, ← ih1]
      rfl
    · show (tripR_k0_t1 ..).2.1 y = _
      unfold tripR_k0_t1
      rw [trip_dw]
      simp only [rd_unread]
      rw [show 4 * (n + 1) = 4 * n + 1 + 1 + 1 + 1 by omega]
      simp only [Finset.sum_range_succ, ← ih2]
      rfl
    · show (tripR_k0_t1 ..).2.2 y = _
      unfold tripR_k0_t1
      rw [trip_db]
      simp only [rd_unread]
      rw [show 4 * (n + 1) = 4 * n + 1 + 1 + 1 + 1 by omega]
      simp only [Finset.sum_range_succ, ← ih3]
      rfl
    · intro x; rcases List.mem_append.mp hp with hp | hp
      · unfold tripL_k0_t1 at hp
        dsimp only at hp
        rw [trip_du] at hp
        simp only [rd_unread, List.mem_cons, List.not_mem_nil, or_false] at hp
        rcases hp with rfl | rfl | rfl | rfl
        · exact (at_rect (fun q => chunkDu (rowsOf x0 q) (rowsOf x1 q) (rowsOf x2 q) v0 v2 v4) ⟨n, by show n < 4; omega⟩ 3 x).symm
        · exact (at_rect (fun q => chunkDu (rowsOf x0 q) (rowsOf x1 q) (rowsOf x2 q) v0 v2 v4) ⟨n, by show n < 4; omega⟩ 2 x).symm
        · exact (at_rect (fun q => chunkDu (rowsOf x0 q) (rowsOf x1 q) (rowsOf x2 q) v0 v2 v4) ⟨n, by show n < 4; omega⟩ 1 x).symm
        · exact (at_rect (fun q => chunkDu (rowsOf x0 q) (rowsOf x1 q) (rowsOf x2 q) v0 v2 v4) ⟨n, by show n < 4; omega⟩ 0 x).symm
      · exact ih4 p hp x
    · intro x; rcases List.mem_append.mp hp with hp | hp
      · unfold tripL_k0_t1 at hp
        dsimp only at hp
        rw [trip_dv] at hp
        simp only [rd_unread, List.mem_cons, List.not_mem_nil, or_false] at hp
        rcases hp with rfl | rfl | rfl | rfl
        · exact (at_rect (fun q => chunkDv (rowsOf x0 q) (rowsOf x1 q) (rowsOf x2 q) v0 v2) ⟨n, by show n < 4; omega⟩ 3 x).symm
        · exact (at_rect (fun q => chunkDv (rowsOf x0 q) (rowsOf x1 q) (rowsOf x2 q) v0 v2) ⟨n, by show n < 4; omega⟩ 2 x).symm
        · exact (at_rect (fun q => chunkDv (rowsOf x0 q) (rowsOf x1 q) (rowsOf x2 q) v0 v2) ⟨n, by show n < 4; omega⟩ 1 x).symm
        · exact (at_rect (fun q => chunkDv (rowsOf x0 q) (rowsOf x1 q) (rowsOf x2 q) v0 v2) ⟨n, by show n < 4; omega⟩ 0 x).symm
      · exact ih5 p hp x
end

variable (m : (ℓ : Loc nD τ sig) → Buf (Elt Ideal) ℓ) (c : Dev nD) (t : Fin cfg0.N)

/-- The loop runs four times. -/
theorem trips4 : Scf.trips (0#32) (Scalar.addi 0#32 4#32) 1#32 = 4 := by decide

/-- What one head leaves in the block of the gating half's gradient. -/
theorem out6 : (outsAt0 m c t).1 = allDu (iblk m c 0 t) (iblk m c 1 t) (iblk m c 2 t) (iblk m c 3 t) (iblk m c 4 t) (iblk m c 5 t) := by
  have h := state Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 3 t) (iblk m c 4 t) (iblk m c 5 t) (iblk m c 0 t) (iblk m c 1 t) (iblk m c 2 t) 4 le_rfl
  unfold outsAt0
  dsimp only
  unfold out0_A_6
  rw [View.read_writes_eq_canon _ _ _ (cover0_A_6 c _ _ _ _ _ _ _ _ _ _ _ _ _ _ _ _ _ _ _ _ _ _ _ _ _ _ _ _ _)]
  have hcov := cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t)
  revert hcov
  unfold kernelRun0_A; dsimp only
  sl_unfold_words
  rw [View.readAt_eq_ld, View.readAt_eq_ld, View.readAt_eq_ld, (hs0_3 t).read_unread, (hs0_4 t).read_unread, (hs0_5 t).read_unread, View.ld_unit_lit _ _ (by decide), View.ld_unit_lit _ _ (by decide), View.ld_unit_lit _ _ (by decide), trips4]
  intro hcov
  funext y
  exact View.canon_apply_of_pieces _ _ h.2.2.2.1 y (hcov y)
/-- What one head leaves in the block of the gated half's gradient. -/
theorem out7 : (outsAt0 m c t).2.1 = allDv (iblk m c 0 t) (iblk m c 1 t) (iblk m c 2 t) (iblk m c 3 t) (iblk m c 4 t) := by
  have h := state Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 3 t) (iblk m c 4 t) (iblk m c 5 t) (iblk m c 0 t) (iblk m c 1 t) (iblk m c 2 t) 4 le_rfl
  unfold outsAt0
  dsimp only
  unfold out0_A_7
  rw [View.read_writes_eq_canon _ _ _ (cover0_A_7 c _ _ _ _ _ _ _ _ _ _ _ _ _ _ _ _ _ _ _ _ _ _ _ _ _ _ _ _ _)]
  have hcov := cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t)
  revert hcov
  unfold kernelRun0_A; dsimp only
  sl_unfold_words
  rw [View.readAt_eq_ld, View.readAt_eq_ld, View.readAt_eq_ld, (hs0_3 t).read_unread, (hs0_4 t).read_unread, (hs0_5 t).read_unread, View.ld_unit_lit _ _ (by decide), View.ld_unit_lit _ _ (by decide), View.ld_unit_lit _ _ (by decide), trips4]
  intro hcov
  funext y
  exact View.canon_apply_of_pieces _ _ h.2.2.2.2 y (hcov y)
/-- What one head leaves in the block of the gain's gradient. -/
theorem out8 : (outsAt0 m c t).2.2.1 = k0_pay9 (fun y => ∑ q ∈ Finset.range 16, chunkDg (rowsOf (iblk m c 0 t) q) (rowsOf (iblk m c 1 t) q) (rowsOf (iblk m c 2 t) q) (iblk m c 4 t) y) := by
  have h := state Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 3 t) (iblk m c 4 t) (iblk m c 5 t) (iblk m c 0 t) (iblk m c 1 t) (iblk m c 2 t) 4 le_rfl
  unfold outsAt0
  dsimp only
  unfold out0_A_8
  rw [View.read_writes_eq_canon _ _ _ (cover0_A_8 c _ _ _ _ _ _ _ _ _ _ _ _ _ _ _ _ _ _ _ _ _ _ _ _ _ _ _ _ _)]
  have hcov := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t)
  revert hcov
  unfold kernelRun0_A; dsimp only
  sl_unfold_words
  rw [View.readAt_eq_ld, View.readAt_eq_ld, View.readAt_eq_ld, (hs0_3 t).read_unread, (hs0_4 t).read_unread, (hs0_5 t).read_unread, View.ld_unit_lit _ _ (by decide), View.ld_unit_lit _ _ (by decide), View.ld_unit_lit _ _ (by decide), trips4]
  intro _
  rw [View.canon_cons_unit_lit _ _ _ (by decide)]
  exact congrArg _ (funext h.1)
/-- What one head leaves in the block of the spatial weights's gradient. -/
theorem out9 : (outsAt0 m c t).2.2.2.1 = k0_pay10 (fun y => ∑ q ∈ Finset.range 16, chunkDw (rowsOf (iblk m c 0 t) q) (rowsOf (iblk m c 1 t) q) (rowsOf (iblk m c 2 t) q) (iblk m c 3 t) y) := by
  have h := state Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 3 t) (iblk m c 4 t) (iblk m c 5 t) (iblk m c 0 t) (iblk m c 1 t) (iblk m c 2 t) 4 le_rfl
  unfold outsAt0
  dsimp only
  unfold out0_A_9
  rw [View.read_writes_eq_canon _ _ _ (cover0_A_9 c _ _ _ _ _ _ _ _ _ _ _ _ _ _ _ _ _ _ _ _ _ _ _ _ _ _ _ _ _)]
  have hcov := cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t)
  revert hcov
  unfold kernelRun0_A; dsimp only
  sl_unfold_words
  rw [View.readAt_eq_ld, View.readAt_eq_ld, View.readAt_eq_ld, (hs0_3 t).read_unread, (hs0_4 t).read_unread, (hs0_5 t).read_unread, View.ld_unit_lit _ _ (by decide), View.ld_unit_lit _ _ (by decide), View.ld_unit_lit _ _ (by decide), trips4]
  intro _
  rw [View.canon_cons_unit_lit _ _ _ (by decide)]
  exact congrArg _ (funext h.2.1)
/-- What one head leaves in the block of the spatial bias's gradient. -/
theorem out10 : (outsAt0 m c t).2.2.2.2 = k0_pay11 (fun y => ∑ q ∈ Finset.range 16, chunkDb (rowsOf (iblk m c 0 t) q) (rowsOf (iblk m c 2 t) q) y) := by
  have h := state Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 3 t) (iblk m c 4 t) (iblk m c 5 t) (iblk m c 0 t) (iblk m c 1 t) (iblk m c 2 t) 4 le_rfl
  unfold outsAt0
  dsimp only
  unfold out0_A_10
  rw [View.read_writes_eq_canon _ _ _ (cover0_A_10 c _ _ _ _ _ _ _ _ _ _ _ _ _ _ _ _ _ _ _ _ _ _ _ _ _ _ _ _ _)]
  have hcov := cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t)
  revert hcov
  unfold kernelRun0_A; dsimp only
  sl_unfold_words
  rw [View.readAt_eq_ld, View.readAt_eq_ld, View.readAt_eq_ld, (hs0_3 t).read_unread, (hs0_4 t).read_unread, (hs0_5 t).read_unread, View.ld_unit_lit _ _ (by decide), View.ld_unit_lit _ _ (by decide), View.ld_unit_lit _ _ (by decide), trips4]
  intro _
  rw [View.canon_cons_unit_lit _ _ _ (by decide)]
  exact congrArg _ (funext h.2.2.1)

end Cert.KernelIdeal.Gmlp
end
-- ==== Proof.GmlpMath.lean ====
module

public import Idealize.ShloMosaic.Lib.Pointwise

@[expose] public section

noncomputable section

/-! The gradient of the gMLP part on ONE chunk of 128 positions of one head, in plain formulas over the extended reals:
    `U`, `V` the two halves' inputs, `Y` the incoming gradient, `g` the gain, `w` the spatial weights, `b` the bias. -/

namespace Cert.GmlpMath

open Idealize.ShloMosaic

/-- The inner `tanh` of the smooth rectifier. -/
def th (x : EReal) : EReal :=
  Ideal.tanh (Ideal.ofBits .f32 1061962282#32 * (x + Ideal.ofBits .f32 1027024659#32 * (x * (x * x))))
/-- The factor the smooth rectifier puts on its argument. -/
def hg (x : EReal) : EReal := Ideal.ofBits .f32 1056964608#32 * (1 + th x)
/-- The smooth rectifier. -/
def gel (x : EReal) : EReal := x * hg x
/-- The part of the rectifier's gradient that comes through the `tanh`. -/
def inner (x d : EReal) : EReal :=
  Ideal.ofBits .f32 1061962282#32 * (Ideal.ofBits .f32 1056964608#32 * (x * d) * ((1 + th x) * (1 - th x)))
/-- The rectifier's gradient at `x` on the incoming `d`. -/
def dgel (x d : EReal) : EReal :=
  d * hg x + inner x d + Ideal.ofBits .f32 1027024659#32 * inner x d * (Ideal.ofBits .f32 1077936128#32 * (x * x))

/-- A row of the rectified gated half, less its mean. -/
def xc (a : Fin 128 → EReal) (d : Fin 128) : EReal := gel (a d) - Ideal.div (∑ e, gel (a e)) (Ideal.ofBits .f32 1124073472#32)
/-- The row's variance plus the small constant. -/
def ve (a : Fin 128 → EReal) : EReal :=
  Ideal.div (∑ e, xc a e * xc a e) (Ideal.ofBits .f32 1124073472#32) + Ideal.ofBits .f32 925353388#32
/-- The row normalised. -/
def xh (a : Fin 128 → EReal) (d : Fin 128) : EReal := xc a d * Ideal.rsqrt (ve a)
/-- The lower triangle of the spatial weights. -/
def wm (w : Fin 128 → Fin 128 → EReal) (t s : Fin 128) : EReal := if s.val ≤ t.val then w t s else 0

/-- The spatially mixed values. -/
def mixed (w : Fin 128 → Fin 128 → EReal) (b g : Fin 128 → EReal) (V : Fin 128 → Fin 128 → EReal) (t d : Fin 128) : EReal :=
  (∑ s, wm w t s * (xh (V s) d * g d)) + b t
/-- The gradient of the mixed values. -/
def dm (U Y : Fin 128 → Fin 128 → EReal) (t d : Fin 128) : EReal := gel (U t d) * Y t d
/-- The gradient of the normalised and scaled values. -/
def dvn (w U Y : Fin 128 → Fin 128 → EReal) (s d : Fin 128) : EReal := ∑ t, wm w t s * dm U Y t d
/-- The gradient of the gating half's input. -/
def dU (w : Fin 128 → Fin 128 → EReal) (b g : Fin 128 → EReal) (U V Y : Fin 128 → Fin 128 → EReal) (t d : Fin 128) : EReal :=
  dgel (U t d) (Y t d * mixed w b g V t d)
/-- A chunk's part of the gain's gradient. -/
def dG (w U V Y : Fin 128 → Fin 128 → EReal) (d : Fin 128) : EReal := ∑ t, xh (V t) d * dvn w U Y t d
/-- A chunk's part of the spatial weights' gradient. -/
def dW (g : Fin 128 → EReal) (U V Y : Fin 128 → Fin 128 → EReal) (t s : Fin 128) : EReal :=
  if s.val ≤ t.val then ∑ d, dm U Y t d * (xh (V s) d * g d) else 0
/-- A chunk's part of the spatial bias's gradient. -/
def dB (U Y : Fin 128 → Fin 128 → EReal) (t : Fin 128) : EReal := ∑ d, dm U Y t d

/-- The factor on the centred row in the normalisation's gradient: `p` the gradient of the normalised row. -/
def cf (a p : Fin 128 → EReal) : EReal :=
  Ideal.div ((∑ d, xc a d * p d) * (Ideal.ofBits .f32 3204448256#32 * Ideal.div (Ideal.rsqrt (ve a)) (ve a))) (Ideal.ofBits .f32 1124073472#32)
/-- The gradient of the centred row. -/
def dxc (a p : Fin 128 → EReal) (d : Fin 128) : EReal := p d * Ideal.rsqrt (ve a) + xc a d * cf a p + cf a p * xc a d
/-- The gradient of the rectified gated half: the centred row's, less its mean. -/
def dx (a p : Fin 128 → EReal) (d : Fin 128) : EReal :=
  dxc a p d + Ideal.div (∑ e, (0 - dxc a p e)) (Ideal.ofBits .f32 1124073472#32)
/-- The gradient of the gated half's input. -/
def dV (w : Fin 128 → Fin 128 → EReal) (g : Fin 128 → EReal) (U V Y : Fin 128 → Fin 128 → EReal) (t d : Fin 128) : EReal :=
  dgel (V t d) (dx (V t) (fun e => dvn w U Y t e * g e) d)

end Cert.GmlpMath
end
-- ==== Proof.GmlpKer.lean ====
module

public import proofs.«01_k».proof.Proof.GmlpChunk
public import proofs.«01_k».proof.Proof.GmlpMath
public import Idealize.ShloMosaic.Lib.Pipeline.ValueKit
public import Idealize.ShloMosaic.Lib.WordCmp

@[expose] public section

set_option maxRecDepth 16384

noncomputable section

/-! The kernel's chunk gradients read at an entry are the plain formulas of `GmlpMath`. -/

namespace Cert.KernelIdeal.Gmlp

open Idealize.ShloMosaic Idealize.ShloMosaic.TcCoe Idealize.SL.Sem
open Cert.KernelIdeal Cert.KernelIdeal.Gen Cert.GmlpMath

/-- A 128 by 128 array as a function of its two coordinates. -/
abbrev fn (x : Vec Ideal S128x128 .f32) (t d : Fin 128) : EReal := x (ix2 t d)

variable (zu zv dy : Vec Ideal S128x128 .f32) (g : Vec Ideal S1x1x128 .f32) (w : Vec Ideal S1x128x128 .f32) (b : Vec Ideal S1x128x1 .f32)
  (r l : Fin 128)

/-- The hyperbolic tangent on the gating half, at an entry. -/
theorem pay13_at : k0_pay13 zu (ix2 r l) = th (zu (ix2 r l)) := by pointwise [k0_pay13, th]
/-- The hyperbolic tangent on the gated half, at an entry. -/
theorem pay18_at : k0_pay18 zu (ix2 r l) = th (zu (ix2 r l)) := by pointwise [k0_pay18, th]
/-- The rectified gating half, at an entry. -/
theorem pay16_at : k0_pay16 zu (ix2 r l) = gel (zu (ix2 r l)) := by
  pointwise [k0_pay16, k0_pay15]; rw [pay13_at]; rfl
/-- The centred rectified row, at an entry. -/
theorem pay22_at : k0_pay22 zv (k0_pay18 zv) (ix2 r l) = xc (fn zv r) l := by
  pointwise [k0_pay22, k0_pay21]; simp only [pay18_at]; rfl
/-- A row's variance with the small constant added. -/
theorem pay23_at : k0_pay23 zv (k0_pay18 zv) (ix2 r 0) = ve (fn zv r) := by
  pointwise [k0_pay23]; simp only [pay22_at]; rfl
/-- One over a row's deviation. -/
theorem pay24_at : k0_pay24 zv (k0_pay18 zv) (ix2 r 0) = Ideal.rsqrt (ve (fn zv r)) := by
  pointwise [k0_pay24]; simp only [pay23_at]
/-- The normalised row, at an entry. -/
theorem pay26_at : k0_pay26 zv (k0_pay18 zv) (ix2 r l) = xh (fn zv r) l := by
  pointwise [k0_pay26]; simp only [pay22_at, pay24_at]; rfl
/-- The normalised row times the gain. -/
theorem pay27_at : k0_pay27 (k0_pay1 g) zv (k0_pay18 zv) (ix2 r l) = xh (fn zv r) l * g (ix3 0 0 l) := by
  pointwise [k0_pay27, k0_pay1]; simp only [pay26_at]
/-- The causal mask: one on and below the diagonal. -/
theorem pay28_at : k0_pay28 (ix2 r l) = if l.val ≤ r.val then 1#1 else 0#1 := by
  pointwise [k0_pay28]
  have hr := r.isLt
  have hl := l.isLt
  rw [WordCmp.cmpi_sge_ofNat (by omega) (by omega)]
  by_cases h : l.val ≤ r.val
  · rw [if_pos h, decide_eq_true h]; rfl
  · rw [if_neg h, decide_eq_false h]; rfl
/-- A choice by the lower triangle's mask. -/
theorem sel_at (x y : EReal) : Scalar.select (k0_pay28 (ix2 r l)) x y = if l.val ≤ r.val then x else y := by
  rw [pay28_at]
  by_cases h : l.val ≤ r.val
  · rw [if_pos h, if_pos h]; rfl
  · rw [if_neg h, if_neg h]; rfl
/-- The masked spatial weights, at an entry. -/
theorem pay29_at : k0_pay29 (k0_pay2 w) (ix2 r l) = wm (fun t s => w (ix3 0 t s)) r l := by
  pointwise [k0_pay29, k0_pay2];
  rw [sel_at]; rfl
/-- The mixed values' gradient, at an entry. -/
theorem pay30_at : k0_pay30 (k0_pay16 zu) dy (ix2 r l) = dm (fn zu) (fn dy) r l := by
  pointwise [k0_pay30]; simp only [pay16_at]; rfl
/-- The mixed values: the masked product with the bias added. -/
theorem pay31_at : k0_pay31 (k0_pay1 g) (k0_pay2 w) (k0_pay3 b) zv (k0_pay18 zv) dy (ix2 r l)
    = dy (ix2 r l) * mixed (fun t s => w (ix3 0 t s)) (fun t => b (ix3 0 t 0)) (fun d => g (ix3 0 0 d)) (fn zv) r l := by
  pointwise [k0_pay31, k0_pay3]; simp only [pay27_at, pay29_at]; rfl
/-- A chunk of the gating half's gradient, at an entry. -/
theorem chunkDu_at : chunkDu zu zv dy g w b (ix2 r l)
    = dU (fun t s => w (ix3 0 t s)) (fun t => b (ix3 0 t 0)) (fun d => g (ix3 0 0 d)) (fn zu) (fn zv) (fn dy) r l := by
  pointwise [chunkDu, k0_pay39, k0_pay12, k0_pay14, k0_pay15]; simp only [pay31_at, pay13_at]; rfl
/-- The normalised values' gradient: the masked weights, transposed, times the mixed values' gradient. -/
theorem pay35_at : k0_pay35 (k0_pay29 (k0_pay2 w)) (k0_pay33 (k0_pay16 zu) dy) (ix2 r l)
    = dvn (fun t s => w (ix3 0 t s)) (fn zu) (fn dy) r l := by
  pointwise [k0_pay35, k0_pay33]; simp only [pay29_at, pay30_at]; rfl
/-- A chunk's part of the gain's gradient. -/
theorem chunkDg_at : chunkDg zu zv dy w (ix2 0 l) = dG (fun t s => w (ix3 0 t s)) (fn zu) (fn zv) (fn dy) l := by
  pointwise [chunkDg, k0_pay37]; simp only [pay26_at, pay35_at]; rfl
/-- A chunk's part of the weights' gradient. -/
theorem chunkDw_at : chunkDw zu zv dy g (ix2 r l) = dW (fun d => g (ix3 0 0 d)) (fn zu) (fn zv) (fn dy) r l := by
  pointwise [chunkDw, k0_pay36, k0_pay33, k0_pay34]; simp only [pay27_at, pay30_at]
  rw [sel_at]; rfl
/-- A chunk's part of the bias's gradient. -/
theorem chunkDb_at : chunkDb zu dy (ix2 r 0) = dB (fn zu) (fn dy) r := by
  pointwise [chunkDb, k0_pay32]; simp only [pay30_at]; rfl
/-- A chunk of the gated half's gradient, at an entry. -/
theorem chunkDv_at : chunkDv zu zv dy g w (ix2 r l)
    = dV (fun t s => w (ix3 0 t s)) (fun d => g (ix3 0 0 d)) (fn zu) (fn zv) (fn dy) r l := by
  pointwise [chunkDv, k0_pay40, k0_pay38, k0_pay17, k0_pay20, k0_pay19, k0_pay21, k0_pay25, k0_pay1]
  simp only [Fin.sum_univ_one, pay22_at, pay23_at, pay24_at, pay35_at, pay18_at]
  rfl
end Cert.KernelIdeal.Gmlp
end
-- ==== Proof.GmlpRef.lean ====
module

public import proofs.«01_k».proof.Proof.GmlpMath
public import proofs.«01_k».proof.Proof.Gen.ReferenceIdeal.Run
public import Idealize.ShloMosaic.Lib.Pipeline.ValueKit
public import Idealize.ShloMosaic.Lib.WordCmp

@[expose] public section

set_option maxRecDepth 16384

noncomputable section

/-! The reference's intermediate arrays read at an entry, as the plain formulas of `GmlpMath`. -/

namespace Cert.ReferenceIdeal.Gmlp

open Idealize.ShloMosaic Idealize.ShloMosaic.TcCoe Idealize.SL.Sem
open Cert.ReferenceIdeal Cert.ReferenceIdeal.Gen Cert.ReferenceIdeal.Value Cert.GmlpMath

variable (V0 : Valuation τ sig (Elt Ideal))

/-- The mixers' input. -/
abbrev Z : FVec Ideal S2048x3584 .f32 := V0 (Proc.devRef .tc main_arg0)
/-- The incoming gradient. -/
abbrev DY : FVec Ideal S2048x2048 .f32 := V0 (Proc.devRef .tc main_arg1)
/-- The gain. -/
abbrev GV : FVec Ideal S8x128 .f32 := V0 (Proc.devRef .tc main_arg2)
/-- The spatial weights. -/
abbrev W : FVec Ideal S8x128x128 .f32 := V0 (Proc.devRef .tc main_arg3)
/-- The spatial bias. -/
abbrev B : FVec Ideal S8x128 .f32 := V0 (Proc.devRef .tc main_arg4)

/-- Row `r` of head `h` of the gating half. -/
def rowU (z : FVec Ideal S2048x3584 .f32) (h : Fin 8) (r : Fin 2048) (d : Fin 128) : EReal := z (ix2 r ⟨h.val * 128 + d.val, by omega⟩)
/-- Row `r` of head `h` of the gated half. -/
def rowV (z : FVec Ideal S2048x3584 .f32) (h : Fin 8) (r : Fin 2048) (d : Fin 128) : EReal := z (ix2 r ⟨1024 + (h.val * 128 + d.val), by omega⟩)
/-- Row `r` of head `h` of the incoming gradient. -/
def rowY (y : FVec Ideal S2048x2048 .f32) (h : Fin 8) (r : Fin 2048) (d : Fin 128) : EReal := y (ix2 r ⟨h.val * 128 + d.val, by omega⟩)

/-- Position `t` of chunk `q`. -/
abbrev pos (q : Fin 16) (t : Fin 128) : Fin 2048 := ⟨q.val * 128 + t.val, by omega⟩

variable (r : Fin 2048) (h : Fin 8) (d : Fin 128) (l : Fin 2048) (q : Fin 16) (t s : Fin 128)

/-- A host sum over the first and the last axis, both of one entry, is the initial value plus that entry. -/
theorem sum_d0_3 (hr : S1x2048x8x1.ReducesTo [0, 3] S2048x8) (v : S1x2048x8x1.Idx → EReal) (init : EReal) :
    Ideal.hostReduceAdd hr v init (ix2 r h) = init + v (ix4 0 r h 0) := by
  refine congrArg (init + ·) ((Finset.sum_filter_eq_sum_of_fiber _ (fun k : Fin 1 × Fin 1 => ix4 k.1 r h k.2)
    (fun _ _ e => Prod.ext (congrFun e 0) (congrFun e 3)) (fun i => ⟨fun e => ⟨(i 0, i 3), ?_⟩, ?_⟩) v).trans ?_)
  · funext a; apply Fin.ext
    match a with
    | ⟨0, _⟩ => rfl
    | ⟨1, _⟩ => exact (congrArg Fin.val (congrFun e ⟨0, by decide⟩)).symm
    | ⟨2, _⟩ => exact (congrArg Fin.val (congrFun e ⟨1, by decide⟩)).symm
    | ⟨3, _⟩ => rfl
  · rintro ⟨k, rfl⟩
    funext b; apply Fin.ext
    match b with
    | ⟨0, _⟩ => rfl
    | ⟨1, _⟩ => rfl
  · simp only [Fintype.sum_prod_type, Fin.sum_univ_one]

/-- A host sum over two leading axes of one entry is the initial value plus that entry. -/
theorem sum_d0_1 (hr : S1x1x8x128.ReducesTo [0, 1] S8x128) (v : S1x1x8x128.Idx → EReal) (init : EReal) :
    Ideal.hostReduceAdd hr v init (ix2 h d) = init + v (ix4 0 0 h d) := by
  refine congrArg (init + ·) ((Finset.sum_filter_eq_sum_of_fiber _ (fun k : Fin 1 × Fin 1 => ix4 k.1 k.2 h d)
    (fun _ _ e => Prod.ext (congrFun e 0) (congrFun e 1)) (fun i => ⟨fun e => ⟨(i 0, i 1), ?_⟩, ?_⟩) v).trans ?_)
  · funext a; apply Fin.ext
    match a with
    | ⟨0, _⟩ => rfl
    | ⟨1, _⟩ => rfl
    | ⟨2, _⟩ => exact (congrArg Fin.val (congrFun e ⟨0, by decide⟩)).symm
    | ⟨3, _⟩ => exact (congrArg Fin.val (congrFun e ⟨1, by decide⟩)).symm
  · rintro ⟨k, rfl⟩
    funext b; apply Fin.ext
    match b with
    | ⟨0, _⟩ => rfl
    | ⟨1, _⟩ => rfl
  · simp only [Fintype.sum_prod_type, Fin.sum_univ_one]

/-- A host sum over the chunks and the features. -/
theorem sum_d1_4 (hr : S1x16x128x8x128.ReducesTo [1, 4] S1x128x8) (v : S1x16x128x8x128.Idx → EReal) (init : EReal) :
    Ideal.hostReduceAdd hr v init (ix3 0 t h) = init + ∑ q : Fin 16, ∑ d : Fin 128, v (ix5 0 q t h d) := by
  refine congrArg (init + ·) ((Finset.sum_filter_eq_sum_of_fiber _ (fun k : Fin 16 × Fin 128 => (ix5 0 k.1 t h k.2 : S1x16x128x8x128.Idx))
    (fun _ _ e => Prod.ext (congrFun e 1) (congrFun e 4)) (fun i => ⟨fun e => ⟨(i 1, i 4), ?_⟩, ?_⟩) v).trans ?_)
  · funext a; apply Fin.ext
    match a with
    | ⟨0, _⟩ => exact (congrArg Fin.val (congrFun e ⟨0, by decide⟩)).symm
    | ⟨1, _⟩ => rfl
    | ⟨2, _⟩ => exact (congrArg Fin.val (congrFun e ⟨1, by decide⟩)).symm
    | ⟨3, _⟩ => exact (congrArg Fin.val (congrFun e ⟨2, by decide⟩)).symm
    | ⟨4, _⟩ => rfl
  · rintro ⟨k, rfl⟩
    funext b; apply Fin.ext
    match b with
    | ⟨0, _⟩ => rfl
    | ⟨1, _⟩ => rfl
    | ⟨2, _⟩ => rfl
  · simp only [Fintype.sum_prod_type]

/-- A host sum over three axes of one entry is the initial value plus that entry. -/
theorem sum_d0_1_4 (hr : S1x1x128x8x1.ReducesTo [0, 1, 4] S128x8) (v : S1x1x128x8x1.Idx → EReal) (init : EReal) :
    Ideal.hostReduceAdd hr v init (ix2 t h) = init + v (ix5 0 0 t h 0) := by
  refine congrArg (init + ·) ((Finset.sum_filter_eq_sum_of_fiber _ (fun k : Fin 1 × Fin 1 × Fin 1 => ix5 k.1 k.2.1 t h k.2.2)
    (fun _ _ e => Prod.ext (congrFun e 0) (Prod.ext (congrFun e 1) (congrFun e 4))) (fun i => ⟨fun e => ⟨(i 0, i 1, i 4), ?_⟩, ?_⟩) v).trans ?_)
  · funext a; apply Fin.ext
    match a with
    | ⟨0, _⟩ => rfl
    | ⟨1, _⟩ => rfl
    | ⟨2, _⟩ => exact (congrArg Fin.val (congrFun e ⟨0, by decide⟩)).symm
    | ⟨3, _⟩ => exact (congrArg Fin.val (congrFun e ⟨1, by decide⟩)).symm
    | ⟨4, _⟩ => rfl
  · rintro ⟨k, rfl⟩
    funext b; apply Fin.ext
    match b with
    | ⟨0, _⟩ => rfl
    | ⟨1, _⟩ => rfl
  · simp only [Fintype.sum_prod_type, Fin.sum_univ_one]

/-- The contraction of the spatial weights' gradient: batch, chunk and feature. -/
abbrev dotW := dot_S8x1x16x128x128_S1x16x128x8x128_S8x128x128_123_014_4_2_0_3
/-- The contraction's index, from its chunk and its feature. -/
def dotWIdx (q : Fin 16) (d : Fin 128) : dotW.contr.Idx := fun p => match p with
  | ⟨0, _⟩ => (0 : Fin 1)
  | ⟨1, _⟩ => q
  | ⟨2, _⟩ => d
/-- The contraction's indices are the pairs of a chunk and a feature. -/
def dotWEquiv : Fin 16 × Fin 128 ≃ dotW.contr.Idx where
  toFun k := dotWIdx k.1 k.2
  invFun i := (i ⟨1, by decide⟩, i ⟨2, by decide⟩)
  left_inv _ := rfl
  right_inv i := by
    funext p
    match p with
    | ⟨0, _⟩ => exact Subsingleton.elim (α := Fin 1) _ _
    | ⟨1, _⟩ => rfl
    | ⟨2, _⟩ => rfl
/-- The spatial weights' product at an entry: the sum over the chunks and the features. -/
theorem dotW_apply (x : S8x1x16x128x128.Idx → EReal) (y : S1x16x128x8x128.Idx → EReal) :
    Ideal.matmul dotW x y (fun _ => 0) (ix3 h t s) = ∑ q : Fin 16, ∑ d : Fin 128, x (ix5 h 0 q d t) * y (ix5 0 q s h d) := by
  refine (zero_add _).trans ?_
  rw [← Fintype.sum_equiv dotWEquiv (fun k => x (ix5 h 0 k.1 k.2 t) * y (ix5 0 k.1 s h k.2)) _ fun k => ?_]
  · simp only [Fintype.sum_prod_type]
  · refine congrArg₂ (fun a b => x a * y b) ?_ ?_
    · funext a
      match a with
      | ⟨0, _⟩ => rfl
      | ⟨1, _⟩ => rfl
      | ⟨2, _⟩ => rfl
      | ⟨3, _⟩ => rfl
      | ⟨4, _⟩ => rfl
    · funext a
      match a with
      | ⟨0, _⟩ => rfl
      | ⟨1, _⟩ => rfl
      | ⟨2, _⟩ => rfl
      | ⟨3, _⟩ => rfl
      | ⟨4, _⟩ => rfl

/-- The two halves of the mixers' input, at an entry. -/
theorem v1_at : res_main_v1 V0 (ix3 0 r l) = Z V0 (ix2 r ⟨l.val, by omega⟩) := by pointwise [res_main_v1]
/-- The hyperbolic tangent of the rectifier, at an entry. -/
theorem v12_at : res_main_v12 V0 (ix3 0 r l) = th (Z V0 (ix2 r ⟨l.val, by omega⟩)) := by
  pointwise [res_main_v12]; rw [v1_at]; rw [mul_assoc (Z V0 _)]; rfl
/-- The rectifier's factor, at an entry. -/
theorem v21_at : res_main_v21 V0 (ix3 0 r l) = hg (Z V0 (ix2 r ⟨l.val, by omega⟩)) := by
  pointwise [res_main_v21]; rw [v12_at]; rfl
/-- The rectified input, at an entry. -/
theorem v22_at : res_main_v22 V0 (ix3 0 r l) = gel (Z V0 (ix2 r ⟨l.val, by omega⟩)) := by
  pointwise [res_main_v22]; rw [v21_at, v1_at]; rfl
/-- The rectified gating half by heads. -/
theorem v25_at : res_main_v25 V0 (ix4 0 r h d) = gel (rowU (Z V0) h r d) := by
  pointwise [res_main_v25]; rw [v22_at]; rfl
/-- The rectified gated half by heads. -/
theorem v26_at : res_main_v26 V0 (ix4 0 r h d) = gel (rowV (Z V0) h r d) := by
  pointwise [res_main_v26]; rw [v22_at]; rfl
/-- The incoming gradient by heads. -/
theorem v70_at : res_main_v70 V0 (ix4 0 r h d) = rowY (DY V0) h r d := by
  pointwise [res_main_v70]; rfl
/-- The centred rows. -/
theorem v32_at : res_main_v32 V0 (ix4 0 r h d) = xc (rowV (Z V0) h r) d := by
  pointwise [res_main_v32, res_main_v30]; simp only [v26_at]; rfl
/-- The centred rows, as the normalisation takes them again. -/
theorem v41_at : res_main_v41 V0 (ix4 0 r h d) = xc (rowV (Z V0) h r) d := v32_at V0 r h d
/-- A row's variance with the small constant added. -/
theorem v43_at : res_main_v43 V0 (ix4 0 r h 0) = ve (rowV (Z V0) h r) := by
  pointwise [res_main_v43]; simp only [v32_at]; rfl
/-- One over a row's deviation. -/
theorem v44_at : res_main_v44 V0 (ix4 0 r h 0) = Ideal.rsqrt (ve (rowV (Z V0) h r)) := by
  pointwise [res_main_v44]; simp only [v43_at]
/-- The normalised rows. -/
theorem v49_at : res_main_v49 V0 (ix4 0 r h d) = xh (rowV (Z V0) h r) d := by
  pointwise [res_main_v49]; simp only [v41_at, v44_at]; rfl
/-- Head `h`'s spatial weights. -/
abbrev wOf (h : Fin 8) (t s : Fin 128) : EReal := W V0 (ix3 h t s)
/-- Head `h`'s spatial bias. -/
abbrev bOf (h : Fin 8) (t : Fin 128) : EReal := B V0 (ix2 h t)
/-- Head `h`'s gain. -/
abbrev gOf (h : Fin 8) (d : Fin 128) : EReal := GV V0 (ix2 h d)
/-- Chunk `q` of head `h` of the gating half. -/
abbrev uOf (q : Fin 16) (h : Fin 8) (t : Fin 128) : Fin 128 → EReal := rowU (Z V0) h (pos q t)
/-- Chunk `q` of head `h` of the gated half. -/
abbrev vOf (q : Fin 16) (h : Fin 8) (t : Fin 128) : Fin 128 → EReal := rowV (Z V0) h (pos q t)
/-- Chunk `q` of head `h` of the incoming gradient. -/
abbrev yOf (q : Fin 16) (h : Fin 8) (t : Fin 128) : Fin 128 → EReal := rowY (DY V0) h (pos q t)

/-- The normalised rows times the gain, by chunks. -/
theorem v55_at : res_main_v55 V0 (ix5 0 q s h d) = xh (rowV (Z V0) h (pos q s)) d * GV V0 (ix2 h d) := by
  pointwise [res_main_v55, res_main_v50]
  rw [v49_at]
/-- The masked spatial weights. -/
theorem v58_at : res_main_v58 V0 (ix3 h t s) = wm (wOf V0 h) t s := by
  pointwise [res_main_v58, res_main_v56]
  have ht := t.isLt
  have hs := s.isLt
  rw [show IntOp.addi (BitVec.ofNat 32 t.val) 0#32 = BitVec.ofNat 32 t.val from BitVec.add_zero _,
    WordCmp.cmpi_sge_ofNat (by omega) (by omega)]
  unfold wm
  by_cases hc : s.val ≤ t.val
  · rw [if_pos hc, decide_eq_true hc]; rfl
  · rw [if_neg hc, decide_eq_false hc]; rfl
/-- The chunk of a position. -/
theorem chunk_pos (hq) : (⟨(q.val * 128 + t.val) / 128, hq⟩ : Fin 16) = q := Fin.ext (by show (q.val * 128 + t.val) / 128 = q.val; omega)
/-- The place of a position in its chunk. -/
theorem place_pos (ht) : (⟨(q.val * 128 + t.val) % 128, ht⟩ : Fin 128) = t := Fin.ext (by show (q.val * 128 + t.val) % 128 = t.val; omega)
/-- The mixed values. -/
theorem v65_at : res_main_v65 V0 (ix4 0 (pos q t) h d) = mixed (wOf V0 h) (bOf V0 h) (gOf V0 h) (vOf V0 q h) t d := by
  pointwise [res_main_v65]
  rw [chunk_pos, place_pos]
  simp only [v55_at, v58_at, mul_comm _ (wm _ _ _)]
  rfl
/-- The mixed values' gradient. -/
theorem v73_at : res_main_v73 V0 (ix5 0 q t h d) = dm (uOf V0 q h) (yOf V0 q h) t d := by
  pointwise [res_main_v73]
  rw [v25_at, v70_at]; rfl
/-- The normalised values' gradient. -/
theorem v84_at : res_main_v84 V0 (ix4 0 (pos q t) h d) = dvn (wOf V0 h) (uOf V0 q h) (yOf V0 q h) t d := by
  pointwise [res_main_v84, res_main_v78]
  refine Finset.sum_congr (M := EReal) rfl fun x _ => ?_
  have e1 : res_main_v73 V0 (ix5 0 ⟨(q.val * 128 + t.val) / 128, by omega⟩ x h d) = dm (uOf V0 q h) (yOf V0 q h) x d := by
    rw [chunk_pos, v73_at]
  have e2 : res_main_v58 V0 (ix3 h x ⟨(q.val * 128 + t.val) % 128, by omega⟩) = wm (wOf V0 h) x t := by
    rw [place_pos, v58_at]
  exact (congrArg₂ (fun x y : EReal => x * y) e1 e2).trans (mul_comm _ _)
/-- The gradient of a normalised row. -/
abbrev pOf (q : Fin 16) (h : Fin 8) (t d : Fin 128) : EReal := dvn (wOf V0 h) (uOf V0 q h) (yOf V0 q h) t d * gOf V0 h d
/-- The gradient that reaches the normalised rows. -/
theorem v89_at : res_main_v89 V0 (ix4 0 (pos q t) h d) = pOf V0 q h t d := by
  pointwise [res_main_v89, res_main_v50]
  exact congrArg (· * _) (v84_at V0 h d q t)
/-- That gradient over the deviation. -/
theorem v95_at : res_main_v95 V0 (ix4 0 (pos q t) h d) = pOf V0 q h t d * Ideal.rsqrt (ve (vOf V0 q h t)) := by
  pointwise [res_main_v95]
  exact congrArg₂ (· * ·) (v89_at V0 h d q t) (v44_at V0 (pos q t) h)
/-- The word of two is the real number two. -/
theorem two_f32 : Ideal.ofBits .f32 1073741824#32 = ((2 : ℝ) : EReal) := by
  simp [Ideal.ofBits, Ideal.ieee, -EReal.coe_mul]; norm_num
/-- Twice a value is the value added to itself. -/
theorem twice (y : EReal) : ((2 : ℝ) : EReal) * y = y + y := by
  induction y with
  | bot => rw [EReal.coe_mul_bot_of_pos (by norm_num)]; rfl
  | top => rw [EReal.coe_mul_top_of_pos (by norm_num)]; rfl
  | coe y => rw [← EReal.coe_mul, ← EReal.coe_add, two_mul]
/-- The variance's part of the centred rows' gradient. -/
theorem v105_at : res_main_v105 V0 (ix4 0 (pos q t) h d) =
    xc (vOf V0 q h t) d * cf (vOf V0 q h t) (pOf V0 q h t) + cf (vOf V0 q h t) (pOf V0 q h t) * xc (vOf V0 q h t) d := by
  pointwise [res_main_v105]
  rw [sum_d0_3]
  pointwise
  have e2 : cf (vOf V0 q h t) (pOf V0 q h t) * (Ideal.ofBits .f32 1073741824#32 * xc (vOf V0 q h t) d) =
      xc (vOf V0 q h t) d * cf (vOf V0 q h t) (pOf V0 q h t) + cf (vOf V0 q h t) (pOf V0 q h t) * xc (vOf V0 q h t) d := by
    rw [two_f32, mul_left_comm, twice, mul_comm (xc _ _)]
  refine Eq.trans ?_ e2
  refine congrArg₂ (· * ·) (congrArg (Ideal.div · _) (congrArg₂ (· * ·) (Finset.sum_congr rfl fun x _ => congrArg₂ (· * ·) (v41_at V0 (pos q t) h x) (v89_at V0 h x q t))
    (congrArg (_ * ·) (congrArg₂ Ideal.div (v44_at V0 (pos q t) h) (v43_at V0 (pos q t) h))))) (congrArg (_ * ·) (v32_at V0 (pos q t) h d))

/-- The gating half's entries of the rectified values' gradient, at any place `l` that is feature `d` of head `h`. -/
theorem v121_left' (hl : l.val = h.val * 128 + d.val) {x y : EReal} (hx : res_main_v70 V0 (ix4 0 r h d) = x)
    (hy : res_main_v65 V0 (ix4 0 r h d) = y) : res_main_v121 V0 (ix3 0 r l) = x * y := by
  have e1 : (⟨l.val / 128, by omega⟩ : Fin 8) = h := Fin.ext (by show l.val / 128 = h.val; omega)
  have e2 : (⟨l.val % 128, by omega⟩ : Fin 128) = d := Fin.ext (by show l.val % 128 = d.val; omega)
  have e3 : res_main_v70 V0 (ix4 0 r ⟨l.val / 128, by omega⟩ ⟨l.val % 128, by omega⟩) = x := by rw [e1, e2, hx]
  have e4 : res_main_v65 V0 (ix4 0 r ⟨l.val / 128, by omega⟩ ⟨l.val % 128, by omega⟩) = y := by rw [e1, e2, hy]
  pointwise [res_main_v121]
  rw [dif_neg (by omega), dif_pos (by omega), zero_add]
  exact congrArg₂ (· * ·) e3 e4
/-- The gating half's entries of the rectified values' gradient. -/
theorem v121_left : res_main_v121 V0 (ix3 0 (pos q t) ⟨h.val * 128 + d.val, by omega⟩) =
    yOf V0 q h t d * mixed (wOf V0 h) (bOf V0 h) (gOf V0 h) (vOf V0 q h) t d :=
  v121_left' V0 _ h d _ rfl (v70_at V0 (pos q t) h d) (v65_at V0 h d q t)

/-- The reference's gradient of a rectified row: the centred row's two terms, and less the mean of each. -/
def dxRef (a p : Fin 128 → EReal) (d : Fin 128) : EReal :=
  p d * Ideal.rsqrt (ve a) + (xc a d * cf a p + cf a p * xc a d) +
    Ideal.div ((∑ e, -(p e * Ideal.rsqrt (ve a))) + ∑ e, -(xc a e * cf a p + cf a p * xc a e)) (Ideal.ofBits .f32 1124073472#32)

/-- The gated half's entries of the rectified values' gradient, at any place `l` that is feature `d` of head `h`. -/
theorem v121_right' (hl : l.val = 1024 + (h.val * 128 + d.val)) {x y : Fin 128 → EReal} (hx : ∀ d, res_main_v95 V0 (ix4 0 r h d) = x d)
    (hy : ∀ d, res_main_v105 V0 (ix4 0 r h d) = y d) :
    res_main_v121 V0 (ix3 0 r l) = x d + y d + Ideal.div ((∑ e, -x e) + ∑ e, -y e) (Ideal.ofBits .f32 1124073472#32) := by
  have e1 : (⟨(l.val - 1024) / 128, by omega⟩ : Fin 8) = h := Fin.ext (by show (l.val - 1024) / 128 = h.val; omega)
  have e2 : (⟨(l.val - 1024) % 128, by omega⟩ : Fin 128) = d := Fin.ext (by show (l.val - 1024) % 128 = d.val; omega)
  have e3 : res_main_v95 V0 (ix4 0 r ⟨(l.val - 1024) / 128, by omega⟩ ⟨(l.val - 1024) % 128, by omega⟩) = x d := by rw [e1, e2, hx]
  have e4 : res_main_v105 V0 (ix4 0 r ⟨(l.val - 1024) / 128, by omega⟩ ⟨(l.val - 1024) % 128, by omega⟩) = y d := by rw [e1, e2, hy]
  have e5 : ∀ e, res_main_v95 V0 (ix4 0 r ⟨(l.val - 1024) / 128, by omega⟩ e) = x e := fun e => by rw [e1, hx]
  have e6 : ∀ e, res_main_v105 V0 (ix4 0 r ⟨(l.val - 1024) / 128, by omega⟩ e) = y e := fun e => by rw [e1, hy]
  pointwise [res_main_v121]
  simp only [sum_d0_3]
  pointwise
  rw [dif_pos (by omega), dif_neg (by omega), add_zero]
  exact congrArg₂ (· + ·) (congrArg₂ (· + ·) e3 e4)
    (congrArg (Ideal.div · _) (congrArg₂ (· + ·) (Finset.sum_congr rfl fun x _ => congrArg (Neg.neg (α := EReal)) (e5 x))
      (Finset.sum_congr rfl fun x _ => congrArg (Neg.neg (α := EReal)) (e6 x))))
/-- The gated half's entries of the rectified values' gradient. -/
theorem v121_right : res_main_v121 V0 (ix3 0 (pos q t) ⟨1024 + (h.val * 128 + d.val), by omega⟩) =
    dxRef (vOf V0 q h t) (pOf V0 q h t) d :=
  v121_right' V0 _ h d _ rfl (fun e => v95_at V0 h e q t) (fun e => v105_at V0 h e q t)

/-- The rectifier's gradient on the input. -/
theorem v133_at : res_main_v133 V0 (ix3 0 r l) = dgel (Z V0 (ix2 r ⟨l.val, by omega⟩)) (res_main_v121 V0 (ix3 0 r l)) := by
  pointwise [res_main_v133, res_main_v128]
  rw [v1_at, v12_at, v21_at]; rfl

/-- The gradient of the gating half's input. -/
theorem res_du : (shapeCast S2048x1024 (extractStridedSlice S1x2048x1024 ![0, 0, 0] (res_main_v133 V0) slices_S1x2048x2048_S1x2048x1024_0_0_0) shapeCasts_S1x2048x1024_S2048x1024 : FVec Ideal S2048x1024 .f32)
    (ix2 (pos q t) ⟨h.val * 128 + d.val, by omega⟩) = dU (wOf V0 h) (bOf V0 h) (gOf V0 h) (uOf V0 q h) (vOf V0 q h) (yOf V0 q h) t d := by
  pointwise
  exact (v133_at V0 _ _).trans (congrArg (dgel _) (v121_left V0 h d q t))

/-- The gradient of the gated half's input. -/
theorem res_dv : (shapeCast S2048x1024 (extractStridedSlice S1x2048x1024 ![0, 0, 1024] (res_main_v133 V0) slices_S1x2048x2048_S1x2048x1024_0_0_1024) shapeCasts_S1x2048x1024_S2048x1024 : FVec Ideal S2048x1024 .f32)
    (ix2 (pos q t) ⟨h.val * 128 + d.val, by omega⟩) = dgel (vOf V0 q h t d) (dxRef (vOf V0 q h t) (pOf V0 q h t) d) := by
  pointwise
  exact (v133_at V0 _ _).trans (congrArg (dgel _) (v121_right V0 h d q t))

/-- The gain's gradient: the chunks' parts added up. -/
theorem res_dg : (shapeCast S8x1x128 (Host.reduceAdd (shapeCast _ (Host.reduceAdd (mulf (res_main_v49 V0) (res_main_v84 V0)) (constant S_ .f32 0x00000000#32) reducesTo_S1x2048x8x128_S1x8x128_d1 h_S_) shapeCasts_S1x8x128_S1x1x8x128) (constant S_ .f32 0x00000000#32) reducesTo_S1x1x8x128_S8x128_d0_1 h_S_) shapeCasts_S8x128_S8x1x128 : FVec Ideal S8x1x128 .f32)
    (ix3 h 0 d) = ∑ q, dG (wOf V0 h) (uOf V0 q h) (vOf V0 q h) (yOf V0 q h) d := by
  pointwise
  rw [sum_d0_1]
  pointwise
  refine (Fin.sum_univ_tiles 16 128 rfl _).trans ?_
  exact Finset.sum_congr rfl fun q _ => Finset.sum_congr rfl fun t _ => congrArg₂ (· * ·) (v49_at V0 (pos q t) h d) (v84_at V0 h d q t)

/-- The spatial bias's gradient: the chunks' parts added up. -/
theorem res_db : (shapeCast S8x128x1 (transpose S8x128 [1, 0] (Host.reduceAdd (shapeCast _ (Host.reduceAdd (res_main_v73 V0) (constant S_ .f32 0x00000000#32) reducesTo_S1x16x128x8x128_S1x128x8_d1_4 h_S_) shapeCasts_S1x128x8_S1x1x128x8x1) (constant S_ .f32 0x00000000#32) reducesTo_S1x1x128x8x1_S128x8_d0_1_4 h_S_) transposes_S128x8_S8x128_1_0) shapeCasts_S8x128_S8x128x1 : FVec Ideal S8x128x1 .f32)
    (ix3 h t 0) = ∑ q, dB (uOf V0 q h) (yOf V0 q h) t := by
  pointwise
  rw [sum_d0_1_4]
  pointwise
  rw [sum_d1_4, zero_add]
  exact Finset.sum_congr rfl fun q _ => Finset.sum_congr rfl fun d _ => v73_at V0 h d q t

/-- The spatial weights' gradient: the chunks' parts added up. -/
theorem res_dw : (mulf (Host.dotGeneral (φ₁ := .f32) (φ₂ := .f32) dot_S8x1x16x128x128_S1x16x128x8x128_S8x128x128_123_014_4_2_0_3 none (res_main_v78 V0) (res_main_v55 V0)) (broadcastInDim S8x128x128 ![0, 1, 2] bcast_S1x128x128_S8x128x128_0_1_2 (res_main_v56 V0)) : FVec Ideal S8x128x128 .f32)
    (ix3 h t s) = ∑ q, dW (gOf V0 h) (uOf V0 q h) (vOf V0 q h) (yOf V0 q h) t s := by
  pointwise [res_main_v78, res_main_v56]
  rw [dotW_apply]
  have ht := t.isLt
  have hs := s.isLt
  rw [show IntOp.addi (BitVec.ofNat 32 t.val) 0#32 = BitVec.ofNat 32 t.val from BitVec.add_zero _,
    WordCmp.cmpi_sge_ofNat (by omega) (by omega)]
  unfold dW
  have e : (∑ q : Fin 16, ∑ d : Fin 128, dm (uOf V0 q h) (yOf V0 q h) t d * (xh (vOf V0 q h s) d * gOf V0 h d)) = ∑ q : Fin 16, ∑ d : Fin 128,
      (transpose S8x1x16x128x128 [3, 0, 1, 4, 2] (res_main_v73 V0) transposes_S1x16x128x8x128_S8x1x16x128x128_3_0_1_4_2 : FVec Ideal _ .f32) (ix5 h 0 q d t) *
        (res_main_v55 V0 : FVec Ideal S1x16x128x8x128 .f32) (ix5 0 q s h d) := by
    refine Finset.sum_congr rfl fun q _ => Finset.sum_congr rfl fun d _ => ?_
    pointwise
    rw [v55_at]
    exact congrArg (· * _) (v73_at V0 h d q t).symm
  by_cases hc : s.val ≤ t.val
  · rw [decide_eq_true hc]
    simp only [if_pos hc]
    exact e.symm
  · rw [decide_eq_false hc]
    simp only [if_neg hc, Finset.sum_const_zero]
    rfl

end Cert.ReferenceIdeal.Gmlp
end
-- ==== Proof.GmlpFinal.lean ====
module

public import proofs.«01_k».proof.Proof.GmlpRun
public import proofs.«01_k».proof.Proof.GmlpKer
public import proofs.«01_k».proof.Proof.GmlpRef
public import Idealize.ShloMosaic.Lib.Pipeline.ValueKit

@[expose] public section

set_option maxRecDepth 16384

noncomputable section

/-! The kernel's five result arrays, entry by entry, as the formulas of `GmlpMath` on the arguments. -/

namespace Cert.KernelIdeal.Gmlp

open Idealize.ShloMosaic Idealize.ShloMosaic.TcCoe Idealize.SL.Sem
open Cert.KernelIdeal Cert.KernelIdeal.Gen Cert.GmlpMath
open Cert.ReferenceIdeal.Gmlp (rowU rowV rowY pos)

/-- Every window's block index at each grid point. -/
theorem idx : ∀ t : Fin cfg0.N, win0_0.index t = ![0, t.val] ∧ win0_1.index t = ![0, 8 + t.val] ∧ win0_2.index t = ![0, t.val]
    ∧ win0_3.index t = ![t.val, 0, 0] ∧ win0_4.index t = ![t.val, 0, 0] ∧ win0_5.index t = ![t.val, 0, 0]
    ∧ win0_6.index t = ![0, t.val] ∧ win0_7.index t = ![0, t.val] ∧ win0_8.index t = ![t.val, 0, 0]
    ∧ win0_9.index t = ![t.val, 0, 0] ∧ win0_10.index t = ![t.val, 0, 0] :=
  (by decide +kernel : ∀ t : Fin grid0.N, _)

variable (m : (ℓ : Loc nD τ sig) → Buf (Elt Ideal) ℓ) (c : Dev nD) (t : Fin cfg0.N)

/-- The mixers' input. -/
abbrev aZ : FVec Ideal S2048x3584 .f32 := m ((c.tc : Thread nD τ).loc main_arg0)
/-- The incoming gradient. -/
abbrev aY : FVec Ideal S2048x2048 .f32 := m ((c.tc : Thread nD τ).loc main_arg1)
/-- The gain. -/
abbrev aG : FVec Ideal S8x128 .f32 := m ((c.tc : Thread nD τ).loc main_arg2)
/-- The spatial weights. -/
abbrev aW : FVec Ideal S8x128x128 .f32 := m ((c.tc : Thread nD τ).loc main_arg3)
/-- The spatial bias. -/
abbrev aB : FVec Ideal S8x128 .f32 := m ((c.tc : Thread nD τ).loc main_arg4)

/-- A grid point as a head. -/
abbrev hd : Fin 8 := ⟨t.val, t.isLt⟩

variable (r : Fin 2048) (d s : Fin 128) (q : Fin 16)

/-- The gating half's block at a grid point: the head's columns. -/
theorem in0 : iblk m c 0 t (ix2 r d) = rowU (aZ m c) (hd t) r d := by
  unfold rowU; blk_ext [iblk, V, idx t]
/-- The gated half's block at a grid point: the head's columns. -/
theorem in1 : iblk m c 1 t (ix2 r d) = rowV (aZ m c) (hd t) r d := by
  unfold rowV; blk_ext [iblk, V, idx t]
/-- The incoming gradient's block at a grid point: the head's columns. -/
theorem in2 : iblk m c 2 t (ix2 r d) = rowY (aY m c) (hd t) r d := by
  unfold rowY; blk_ext [iblk, V, idx t]
/-- The gain as the kernel's windows see it, an entry of it. -/
theorem gain_at (x : FVec Ideal S8x128 .f32) (h : Fin 8) : shapeCast S8x1x128 x shapeCasts_S8x128_S8x1x128 (ix3 h 0 d) = x (ix2 h d) := by
  pointwise
/-- The bias as the kernel's windows see it, an entry of it. -/
theorem bias_at (x : FVec Ideal S8x128 .f32) (h : Fin 8) : shapeCast S8x128x1 x shapeCasts_S8x128_S8x128x1 (ix3 h d 0) = x (ix2 h d) := by
  pointwise
/-- The gain's block is the head's row. -/
theorem in3 : iblk m c 3 t (ix3 0 0 d) = aG m c (ix2 (hd t) d) := by
  unfold iblk; entry_read
  have e : (win0_3.blk t).view.emb (ix3 0 0 d : S1x1x128.Idx) = (ix3 (hd t) 0 d : S8x1x128.Idx) := by blk_ext [idx t]
  exact (congrArg (shapeCast S8x1x128 (aG m c) shapeCasts_S8x128_S8x1x128) e).trans (gain_at d (aG m c) (hd t))
/-- The spatial weights' block is the head's matrix. -/
theorem in4 : iblk m c 4 t (ix3 0 d s) = aW m c (ix3 (hd t) d s) := by
  blk_ext [iblk, V, idx t]
/-- The spatial bias's block is the head's row. -/
theorem in5 : iblk m c 5 t (ix3 0 d 0) = aB m c (ix2 (hd t) d) := by
  unfold iblk; entry_read
  have e : (win0_5.blk t).view.emb (ix3 0 d 0 : S1x128x1.Idx) = (ix3 (hd t) d 0 : S8x128x1.Idx) := by blk_ext [idx t]
  exact (congrArg (shapeCast S8x128x1 (aB m c) shapeCasts_S8x128_S8x128x1) e).trans (bias_at d (aB m c) (hd t))

/-- Head `h`'s spatial weights. -/
abbrev kW (h : Fin 8) (t s : Fin 128) : EReal := aW m c (ix3 h t s)
/-- Head `h`'s spatial bias. -/
abbrev kB (h : Fin 8) (t : Fin 128) : EReal := aB m c (ix2 h t)
/-- Head `h`'s gain. -/
abbrev kG (h : Fin 8) (d : Fin 128) : EReal := aG m c (ix2 h d)
/-- Chunk `q` of head `h` of the gating half. -/
abbrev kU (q : Fin 16) (h : Fin 8) (t : Fin 128) : Fin 128 → EReal := rowU (aZ m c) h (pos q t)
/-- Chunk `q` of head `h` of the gated half. -/
abbrev kV (q : Fin 16) (h : Fin 8) (t : Fin 128) : Fin 128 → EReal := rowV (aZ m c) h (pos q t)
/-- Chunk `q` of head `h` of the incoming gradient. -/
abbrev kY (q : Fin 16) (h : Fin 8) (t : Fin 128) : Fin 128 → EReal := rowY (aY m c) h (pos q t)

/-- A row of a chunk is a row of the block. -/
theorem rowsOf_at (x : Vec Ideal S2048x128 .f32) : fn (rowsOf x q.val) s d = x (ix2 (pos q s) d) := by
  unfold fn rowsOf
  refine congrArg (fun r => x (ix2 r d)) (Fin.ext ?_)
  show (128 * q.val + s.val) % 2048 = q.val * 128 + s.val
  omega
/-- Chunk `q` of the gating half's block. -/
theorem fnU : fn (rowsOf (iblk m c 0 t) q.val) = kU m c q (hd t) := by
  funext s d; rw [rowsOf_at]; exact in0 m c t _ d
/-- Chunk `q` of the gated half's block. -/
theorem fnV : fn (rowsOf (iblk m c 1 t) q.val) = kV m c q (hd t) := by
  funext s d; rw [rowsOf_at]; exact in1 m c t _ d
/-- Chunk `q` of the incoming gradient's block. -/
theorem fnY : fn (rowsOf (iblk m c 2 t) q.val) = kY m c q (hd t) := by
  funext s d; rw [rowsOf_at]; exact in2 m c t _ d
/-- The gain's block as the head's gain. -/
theorem fnG : (fun d => iblk m c 3 t (ix3 0 0 d)) = kG m c (hd t) := funext fun d => in3 m c t d
/-- The weights' block as the head's weights. -/
theorem fnW : (fun a b => iblk m c 4 t (ix3 0 a b)) = kW m c (hd t) := funext fun a => funext fun b => in4 m c t a b
/-- The bias's block as the head's bias. -/
theorem fnB : (fun d => iblk m c 5 t (ix3 0 d 0)) = kB m c (hd t) := funext fun d => in5 m c t d

/-- A place of a row block: its chunk, and its place in the chunk. -/
theorem pos_split (n : Fin 2048) : n = pos ⟨n.val / 128, by omega⟩ ⟨n.val % 128, by omega⟩ := Fin.ext (by show n.val = n.val / 128 * 128 + n.val % 128; omega)

/-- Equal arguments give equal values. -/
theorem congr₃ {α β γ δ : Type} (f : α → β → γ → δ) {x x' : α} {y y' : β} {z z' : γ} (hx : x = x') (hy : y = y') (hz : z = z') :
    f x y z = f x' y' z' := by rw [hx, hy, hz]

/-- The stored gain's gradient, an entry of it. -/
theorem pay9_at (x : FVec Ideal S1x128 .f32) : k0_pay9 x (ix3 0 0 d) = x (ix2 0 d) := by pointwise [k0_pay9]
/-- The stored weights' gradient, an entry of it. -/
theorem pay10_at (x : FVec Ideal S128x128 .f32) : k0_pay10 x (ix3 0 d s) = x (ix2 d s) := by pointwise [k0_pay10]
/-- The stored bias's gradient, an entry of it. -/
theorem pay11_at (x : FVec Ideal S128x1 .f32) : k0_pay11 x (ix3 0 d 0) = x (ix2 d 0) := by pointwise [k0_pay11]

/-- The gating half's gradient, the whole array. -/
theorem final6 (X : FVec Ideal S2048x1024 .bf16) (hX : ∀ (q : Fin 16) (h : Fin 8) (t d : Fin 128),
      X (ix2 (pos q t) ⟨h.val * 128 + d.val, by omega⟩) = dU (kW m c h) (kB m c h) (kG m c h) (kU m c q h) (kV m c q h) (kY m c q h) t d) :
    (dats m 0 c).arrAt 6 (cfgs 0).N = X := by
  refine (dats m 0 c).arrAt_eq_of_covers 6 _ (by decide +kernel) fun t _ y => ?_
  blk_simp
  rw [after0_6, out6]
  have hy0 : (y 0).val < 2048 := (y 0).isLt
  have hy1 : (y 1).val < 128 := (y 1).isLt
  have e : (win0_6.blk t).view.emb y = (ix2 (pos ⟨(y 0).val / 128, by omega⟩ ⟨(y 0).val % 128, by omega⟩) ⟨(hd t).val * 128 + (⟨(y 1).val, hy1⟩ : Fin 128).val, by omega⟩ : S2048x1024.Idx) := by
    blk_ext [idx t]
  refine Eq.trans ?_ ((congrArg X e).trans (hX _ _ _ _)).symm
  unfold allDu
  refine (chunkDu_at _ _ _ _ _ _ _ _).trans ?_
  rw [fnG, fnW, fnB]
  exact congr₃ (fun U V Y => dU (kW m c (hd t)) (kB m c (hd t)) (kG m c (hd t)) U V Y _ _) (fnU m c t ⟨(y 0).val / 128, by omega⟩)
    (fnV m c t ⟨(y 0).val / 128, by omega⟩) (fnY m c t ⟨(y 0).val / 128, by omega⟩)

/-- The gated half's gradient, the whole array. -/
theorem final7 (X : FVec Ideal S2048x1024 .bf16) (hX : ∀ (q : Fin 16) (h : Fin 8) (t d : Fin 128),
      X (ix2 (pos q t) ⟨h.val * 128 + d.val, by omega⟩) = dV (kW m c h) (kG m c h) (kU m c q h) (kV m c q h) (kY m c q h) t d) :
    (dats m 0 c).arrAt 7 (cfgs 0).N = X := by
  refine (dats m 0 c).arrAt_eq_of_covers 7 _ (by decide +kernel) fun t _ y => ?_
  blk_simp
  rw [after0_7, out7]
  have hy0 : (y 0).val < 2048 := (y 0).isLt
  have hy1 : (y 1).val < 128 := (y 1).isLt
  have e : (win0_7.blk t).view.emb y = (ix2 (pos ⟨(y 0).val / 128, by omega⟩ ⟨(y 0).val % 128, by omega⟩) ⟨(hd t).val * 128 + (⟨(y 1).val, hy1⟩ : Fin 128).val, by omega⟩ : S2048x1024.Idx) := by
    blk_ext [idx t]
  refine Eq.trans ?_ ((congrArg X e).trans (hX _ _ _ _)).symm
  unfold allDv
  refine (chunkDv_at _ _ _ _ _ _ _).trans ?_
  rw [fnG, fnW]
  exact congr₃ (fun U V Y => dV (kW m c (hd t)) (kG m c (hd t)) U V Y _ _) (fnU m c t ⟨(y 0).val / 128, by omega⟩)
    (fnV m c t ⟨(y 0).val / 128, by omega⟩) (fnY m c t ⟨(y 0).val / 128, by omega⟩)

/-- The gain's gradient, the whole array. -/
theorem final8 (X : FVec Ideal S8x1x128 .f32) (hX : ∀ (h : Fin 8) (d : Fin 128),
      X (ix3 h 0 d) = ∑ q, dG (kW m c h) (kU m c q h) (kV m c q h) (kY m c q h) d) : (dats m 0 c).arrAt 8 (cfgs 0).N = X := by
  refine (dats m 0 c).arrAt_eq_of_covers 8 _ (by decide +kernel) fun t _ y => ?_
  blk_simp
  rw [after0_8, out8]
  have hy2 : (y 2).val < 128 := (y 2).isLt
  have e : (win0_8.blk t).view.emb y = (ix3 (hd t) 0 ⟨(y 2).val, hy2⟩ : S8x1x128.Idx) := by blk_ext [idx t]
  have ey : y = (ix3 0 0 ⟨(y 2).val, hy2⟩ : S1x1x128.Idx) := by blk_ext
  refine Eq.trans ?_ ((congrArg X e).trans (hX _ _)).symm
  refine (congrArg (k0_pay9 _) ey).trans ?_
  refine (pay9_at _ _).trans ?_
  rw [Finset.sum_range]
  refine Finset.sum_congr rfl fun q _ => (chunkDg_at _ _ _ _ _).trans ?_
  rw [fnW]
  exact congr₃ (fun U V Y => dG (kW m c (hd t)) U V Y _) (fnU m c t q) (fnV m c t q) (fnY m c t q)

/-- The spatial weights' gradient, the whole array. -/
theorem final9 (X : FVec Ideal S8x128x128 .f32) (hX : ∀ (h : Fin 8) (t s : Fin 128),
      X (ix3 h t s) = ∑ q, dW (kG m c h) (kU m c q h) (kV m c q h) (kY m c q h) t s) : (dats m 0 c).arrAt 9 (cfgs 0).N = X := by
  refine (dats m 0 c).arrAt_eq_of_covers 9 _ (by decide +kernel) fun t _ y => ?_
  blk_simp
  rw [after0_9, out9]
  have hy1 : (y 1).val < 128 := (y 1).isLt
  have hy2 : (y 2).val < 128 := (y 2).isLt
  have e : (win0_9.blk t).view.emb y = (ix3 (hd t) ⟨(y 1).val, hy1⟩ ⟨(y 2).val, hy2⟩ : S8x128x128.Idx) := by blk_ext [idx t]
  have ey : y = (ix3 0 ⟨(y 1).val, hy1⟩ ⟨(y 2).val, hy2⟩ : S1x128x128.Idx) := by blk_ext
  refine Eq.trans ?_ ((congrArg X e).trans (hX _ _ _)).symm
  refine (congrArg (k0_pay10 _) ey).trans ?_
  refine (pay10_at _ _ _).trans ?_
  rw [Finset.sum_range]
  refine Finset.sum_congr rfl fun q _ => (chunkDw_at _ _ _ _ _ _).trans ?_
  rw [fnG]
  exact congr₃ (fun U V Y => dW (kG m c (hd t)) U V Y _ _) (fnU m c t q) (fnV m c t q) (fnY m c t q)

/-- The spatial bias's gradient, the whole array. -/
theorem final10 (X : FVec Ideal S8x128x1 .f32) (hX : ∀ (h : Fin 8) (t : Fin 128),
      X (ix3 h t 0) = ∑ q, dB (kU m c q h) (kY m c q h) t) : (dats m 0 c).arrAt 10 (cfgs 0).N = X := by
  refine (dats m 0 c).arrAt_eq_of_covers 10 _ (by decide +kernel) fun t _ y => ?_
  blk_simp
  rw [after0_10, out10]
  have hy1 : (y 1).val < 128 := (y 1).isLt
  have e : (win0_10.blk t).view.emb y = (ix3 (hd t) ⟨(y 1).val, hy1⟩ 0 : S8x128x1.Idx) := by blk_ext [idx t]
  have ey : y = (ix3 0 ⟨(y 1).val, hy1⟩ 0 : S1x128x1.Idx) := by blk_ext
  refine Eq.trans ?_ ((congrArg X e).trans (hX _ _)).symm
  refine (congrArg (k0_pay11 _) ey).trans ?_
  refine (pay11_at _ _).trans ?_
  rw [Finset.sum_range]
  refine Finset.sum_congr rfl fun q _ => (chunkDb_at _ _ _).trans ?_
  exact congr₃ (fun U _ Y => dB U Y _) (fnU m c t q) (fnV m c t q) (fnY m c t q)

end Cert.KernelIdeal.Gmlp
end
-- ==== Proof.GmlpEq.lean ====
module

public import proofs.«01_k».proof.Proof.GmlpRef

@[expose] public section

noncomputable section

/-! Where the arguments are real numbers, the kernel's and the reference's ways of subtracting the gradient's mean agree. -/

namespace Cert.GmlpMath

open Idealize.ShloMosaic
open Cert.ReferenceIdeal.Gmlp (dxRef)

/-- A value that is a real number. -/
def IsR (x : EReal) : Prop := ∃ r : ℝ, x = (r : EReal)

variable {x y : EReal}

/-- A sum of reals is real. -/
theorem IsR.add (hx : IsR x) (hy : IsR y) : IsR (x + y) := by
  obtain ⟨a, rfl⟩ := hx; obtain ⟨b, rfl⟩ := hy; exact ⟨a + b, (EReal.coe_add a b).symm⟩
/-- A product of reals is real. -/
theorem IsR.mul (hx : IsR x) (hy : IsR y) : IsR (x * y) := by
  obtain ⟨a, rfl⟩ := hx; obtain ⟨b, rfl⟩ := hy; exact ⟨a * b, (EReal.coe_mul a b).symm⟩
/-- A difference of reals is real. -/
theorem IsR.sub (hx : IsR x) (hy : IsR y) : IsR (x - y) := by
  obtain ⟨a, rfl⟩ := hx; obtain ⟨b, rfl⟩ := hy; exact ⟨a - b, (EReal.coe_sub a b).symm⟩
/-- Zero is real. -/
theorem IsR.zero : IsR 0 := ⟨0, rfl⟩
/-- One is real. -/
theorem IsR.one : IsR 1 := ⟨1, rfl⟩
/-- A finite sum of reals is real. -/
theorem IsR.sum {n : ℕ} {f : Fin n → EReal} (h : ∀ i, IsR (f i)) : IsR (∑ i, f i) := by
  refine Finset.sum_induction f IsR (fun _ _ => IsR.add) IsR.zero fun i _ => h i
/-- The value of a real is real under the hyperbolic tangent. -/
theorem IsR.tanh (hx : IsR x) : IsR (Ideal.tanh x) := by
  obtain ⟨a, rfl⟩ := hx; exact ⟨_, Ideal.tanh_coe a⟩

/-- The tanh form's outer constant is real. -/
theorem c_pi : IsR (Ideal.ofBits .f32 1061962282#32) := ⟨_, by simp [Ideal.ofBits, Ideal.ieee, -EReal.coe_mul]; rfl⟩
/-- The tanh form's cubic constant is real. -/
theorem c_cube : IsR (Ideal.ofBits .f32 1027024659#32) := ⟨_, by simp [Ideal.ofBits, Ideal.ieee, -EReal.coe_mul]; rfl⟩
/-- One half is real. -/
theorem c_half : IsR (Ideal.ofBits .f32 1056964608#32) := ⟨_, by simp [Ideal.ofBits, Ideal.ieee, -EReal.coe_mul]; rfl⟩
/-- The row's length. -/
theorem c_128 : Ideal.ofBits .f32 1124073472#32 = ((128 : ℝ) : EReal) := by simp [Ideal.ofBits, Ideal.ieee, -EReal.coe_mul]; norm_num
/-- The small constant is a positive real. -/
theorem c_eps : ∃ e : ℝ, 0 < e ∧ Ideal.ofBits .f32 925353388#32 = (e : EReal) :=
  ⟨10995116 / 1099511627776, by positivity, by simp [Ideal.ofBits, Ideal.ieee, -EReal.coe_mul]; norm_num⟩

/-- A mean of reals is real. -/
theorem IsR.mean (hx : IsR x) : IsR (Ideal.div x (Ideal.ofBits .f32 1124073472#32)) := by
  rw [c_128, Ideal.div_coe (by norm_num)]; exact hx.mul ⟨_, rfl⟩
/-- The rectifier of a real is real. -/
theorem IsR.gel (hx : IsR x) : IsR (gel x) :=
  hx.mul (c_half.mul (IsR.one.add (IsR.tanh (c_pi.mul (hx.add (c_cube.mul (hx.mul (hx.mul hx))))))))

variable {a p : Fin 128 → EReal}

/-- A centred row of reals is real. -/
theorem IsR.xc (ha : ∀ d, IsR (a d)) (d : Fin 128) : IsR (xc a d) :=
  (ha d).gel.sub (IsR.mean (IsR.sum fun e => (ha e).gel))
/-- One over the deviation of a row of reals is real: the variance is not negative and the small constant is positive. -/
theorem IsR.rs (ha : ∀ d, IsR (a d)) : IsR (Ideal.rsqrt (ve a)) := by
  choose f hf using IsR.xc ha
  obtain ⟨e, he, hc⟩ := c_eps
  have h0 : ve a = (((∑ d, f d * f d) * (1 / 128) + e : ℝ) : EReal) := by
    unfold ve
    rw [hc, c_128, Ideal.div_coe (by norm_num)]
    simp only [hf]
    push_cast
    rfl
  have hs : 0 ≤ ∑ d, f d * f d := Finset.sum_nonneg fun d _ => mul_self_nonneg _
  have hp : 0 < (∑ d, f d * f d) * (1 / 128) + e := by positivity
  rw [h0, Ideal.rsqrt_coe, if_neg (not_lt.2 hp.le), if_neg hp.ne']
  exact ⟨_, rfl⟩

/-- Taking a real from zero first, then adding, is the same as taking the sum from zero. -/
theorem zero_sub_add (hx : IsR x) (y : EReal) : 0 - (x + y) = -x + -y := by
  obtain ⟨r, rfl⟩ := hx
  rw [zero_sub, EReal.neg_add (.inl (EReal.coe_ne_bot r)) (.inl (EReal.coe_ne_top r)), sub_eq_add_neg]

/-- On rows of reals the kernel's gradient of a rectified row is the reference's. -/
theorem dx_eq (ha : ∀ d, IsR (a d)) (hp : ∀ d, IsR (p d)) (d : Fin 128) : dx a p d = dxRef a p d := by
  unfold dx dxRef dxc
  have e : ∀ e, 0 - (p e * Ideal.rsqrt (ve a) + xc a e * cf a p + cf a p * xc a e)
      = -(p e * Ideal.rsqrt (ve a)) + -(xc a e * cf a p + cf a p * xc a e) := fun e => by
    rw [add_assoc]; exact zero_sub_add ((hp e).mul (IsR.rs ha)) _
  simp only [e, Finset.sum_add_distrib]
  rw [add_assoc (p d * _)]

/-- The gradient of the normalised values is real on reals. -/
theorem IsR.dvn {w U Y : Fin 128 → Fin 128 → EReal} (hw : ∀ t s, IsR (w t s)) (hU : ∀ t s, IsR (U t s)) (hY : ∀ t s, IsR (Y t s))
    (s d : Fin 128) : IsR (dvn w U Y s d) := by
  refine IsR.sum fun t => IsR.mul ?_ ((hU t d).gel.mul (hY t d))
  unfold wm
  by_cases h : s.val ≤ t.val
  · rw [if_pos h]; exact hw t s
  · rw [if_neg h]; exact IsR.zero

end Cert.GmlpMath
end
-- ==== Proof.GmlpPre.lean ====
module

public import proofs.«01_k».proof.Defs
public import proofs.«01_k».proof.Proof.GmlpFinal
public import proofs.«01_k».proof.Proof.GmlpEq
public import Idealize.ShloMosaic.Lib.ReduceAll

@[expose] public section

noncomputable section

/-! The precondition read back: where it holds, every entry of the four arrays it tests is a real number. -/

namespace Cert.GmlpMath

open Idealize.ShloMosaic
open Cert.Pre_finite

/-- The precondition's shape relations hold. -/
theorem preFacts : Cert.Pre_finite.Facts := by
  constructor <;> decide

/-- The word that the precondition compares from below with is minus infinity. -/
theorem bits_bot : Ideal.ofBits .f32 0xFF800000#32 = ⊥ := by simp [Ideal.ofBits, Ideal.ieee]
/-- The word that the precondition compares from above with is plus infinity. -/
theorem bits_top : Ideal.ofBits .f32 0x7F800000#32 = ⊤ := by simp [Ideal.ofBits, Ideal.ieee]

/-- An entry above minus infinity and below plus infinity is a real number. -/
theorem isR_of_test {x : EReal} (h1 : Ideal.cmp .ogt x (Ideal.ofBits .f32 0xFF800000#32) = 1#1)
    (h2 : Ideal.cmp .olt x (Ideal.ofBits .f32 0x7F800000#32) = 1#1) : IsR x := by
  rw [bits_bot] at h1
  rw [bits_top] at h2
  have a : x ≠ ⊥ := by rintro rfl; simp [Ideal.cmp] at h1
  have b : x ≠ ⊤ := by rintro rfl; simp [Ideal.cmp] at h2
  exact ⟨x.toReal, (EReal.coe_toReal b a).symm⟩

/-- An array all of whose entries pass the two tests has real entries. -/
theorem isR_of_all {s : Shape} {axes : List (Fin s.rank)} (x : FVec Ideal s .f32) (hb : S_.BroadcastsInDim s (![] : Fin 0 → Fin s.rank))
    (hr : s.ReducesTo axes S_) (hz : 0 < S_.numel) (j : S_.Idx)
    (e : Host.reduce IntOp.andi (andi (cmpf .ogt x (broadcastInDim s ![] hb (constant S_ .f32 0xFF800000#32)))
      (cmpf .olt x (broadcastInDim s ![] hb (constant S_ .f32 0x7F800000#32)))) (constantI S_ 1 1#1) hr hz j = 1#1) (i : s.Idx) :
    IsR (x i) := by
  haveI : Subsingleton S_.Idx := ⟨fun a b => funext fun k => k.elim0⟩
  obtain ⟨h1, h2⟩ := IntOp.andi_eq_one.1 (Host.reduce_andi_all _ _ _ _ j e i)
  exact isR_of_test h1 h2

/-- Where the precondition holds, the entries of the input, the incoming gradient, the gain and the spatial weights are real. -/
theorem real_of_pre [Cert.Pre_finite.Facts] (z : FVec Ideal S2048x3584 .f32) (y : FVec Ideal S2048x2048 .f32) (g : FVec Ideal S8x128 .f32)
    (w : FVec Ideal S8x128x128 .f32) (b : FVec Ideal S8x128 .f32) (h : Cert.Pre_finite.fn z y g w b = fun _ => 1#1) :
    (∀ i, IsR (z i)) ∧ (∀ i, IsR (y i)) ∧ (∀ i, IsR (g i)) ∧ (∀ i, IsR (w i)) := by
  have e := congrFun h (fun k => k.elim0)
  obtain ⟨e, hw⟩ := IntOp.andi_eq_one.1 e
  obtain ⟨e, hg⟩ := IntOp.andi_eq_one.1 e
  obtain ⟨hz, hy⟩ := IntOp.andi_eq_one.1 e
  exact ⟨isR_of_all z _ _ _ _ hz, isR_of_all y _ _ _ _ hy, isR_of_all g _ _ _ _ hg, isR_of_all w _ _ _ _ hw⟩

end Cert.GmlpMath
end
-- ==== Proof.GmlpMain.lean ====
module

public import proofs.«01_k».proof.Proof.GmlpPre
public import Idealize.ShloMosaic.Adequacy
public import Idealize.ShloMosaic.Init

@[expose] public section

set_option maxRecDepth 16384

noncomputable section

/-! The kernel's five results are the reference's, for arguments that agree and that the precondition holds of. -/

namespace Cert.GmlpMain

open Idealize.ShloMosaic Idealize.ShloMosaic.TcCoe Idealize.SL.Sem
open Cert.GmlpMath
open Cert.ReferenceIdeal.Gmlp (pos rowU rowV rowY dxRef)

variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))

/-- The reference's arguments are the kernel's. -/
structure Agree : Prop where
  z : Cert.ReferenceIdeal.Gmlp.Z V0 = Cert.KernelIdeal.Gmlp.aZ m c
  y : Cert.ReferenceIdeal.Gmlp.DY V0 = Cert.KernelIdeal.Gmlp.aY m c
  g : Cert.ReferenceIdeal.Gmlp.GV V0 = Cert.KernelIdeal.Gmlp.aG m c
  w : Cert.ReferenceIdeal.Gmlp.W V0 = Cert.KernelIdeal.Gmlp.aW m c
  b : Cert.ReferenceIdeal.Gmlp.B V0 = Cert.KernelIdeal.Gmlp.aB m c

/-- The kernel's arguments are real numbers, the bias's apart. -/
structure Real : Prop where
  z : ∀ i, IsR (Cert.KernelIdeal.Gmlp.aZ m c i)
  y : ∀ i, IsR (Cert.KernelIdeal.Gmlp.aY m c i)
  g : ∀ i, IsR (Cert.KernelIdeal.Gmlp.aG m c i)
  w : ∀ i, IsR (Cert.KernelIdeal.Gmlp.aW m c i)

variable {m c V0} (a : Agree m c V0)
include a

/-- The gradient of the gating half's input: the kernel's array is the reference's. -/
theorem same_du (X) (hX : X = truncf (F := Ideal) .bf16 (shapeCast Cert.ReferenceIdeal.S2048x1024 (extractStridedSlice Cert.ReferenceIdeal.S1x2048x1024 ![0, 0, 0] (Cert.ReferenceIdeal.Value.res_main_v133 V0) Cert.ReferenceIdeal.Gen.slices_S1x2048x2048_S1x2048x1024_0_0_0) Cert.ReferenceIdeal.Gen.shapeCasts_S1x2048x1024_S2048x1024) Cert.ReferenceIdeal.Gen.bitsLt_bf16_f32) :
    (Cert.KernelIdeal.Gen.dats m 0 c).arrAt 6 (Cert.KernelIdeal.cfgs 0).N = X := by
  subst hX
  refine Cert.KernelIdeal.Gmlp.final6 m c _ fun q h t d => ?_
  refine (Cert.ReferenceIdeal.Gmlp.res_du V0 h d q t).trans ?_
  unfold Cert.ReferenceIdeal.Gmlp.wOf Cert.ReferenceIdeal.Gmlp.bOf Cert.ReferenceIdeal.Gmlp.gOf Cert.ReferenceIdeal.Gmlp.uOf Cert.ReferenceIdeal.Gmlp.vOf Cert.ReferenceIdeal.Gmlp.yOf
  rw [a.z, a.y, a.g, a.w, a.b]

/-- The gradient of the gated half's input: the kernel's array is the reference's where the arguments are real. -/
theorem same_dv (f : Real m c) (X) (hX : X = truncf (F := Ideal) .bf16 (shapeCast Cert.ReferenceIdeal.S2048x1024 (extractStridedSlice Cert.ReferenceIdeal.S1x2048x1024 ![0, 0, 1024] (Cert.ReferenceIdeal.Value.res_main_v133 V0) Cert.ReferenceIdeal.Gen.slices_S1x2048x2048_S1x2048x1024_0_0_1024) Cert.ReferenceIdeal.Gen.shapeCasts_S1x2048x1024_S2048x1024) Cert.ReferenceIdeal.Gen.bitsLt_bf16_f32) :
    (Cert.KernelIdeal.Gen.dats m 0 c).arrAt 7 (Cert.KernelIdeal.cfgs 0).N = X := by
  subst hX
  refine Cert.KernelIdeal.Gmlp.final7 m c _ fun q h t d => ?_
  refine (Cert.ReferenceIdeal.Gmlp.res_dv V0 h d q t).trans ?_
  unfold Cert.ReferenceIdeal.Gmlp.pOf Cert.ReferenceIdeal.Gmlp.wOf Cert.ReferenceIdeal.Gmlp.gOf Cert.ReferenceIdeal.Gmlp.uOf Cert.ReferenceIdeal.Gmlp.vOf Cert.ReferenceIdeal.Gmlp.yOf
  rw [a.z, a.y, a.g, a.w]
  refine congrArg (dgel _) (dx_eq (fun e => f.z _) (fun e => ?_) d).symm
  exact (IsR.dvn (fun t s => f.w _) (fun t s => f.z _) (fun t s => f.y _) t e).mul (f.g _)

/-- The gain's gradient: the kernel's array is the reference's. -/
theorem same_dg (X : FVec Ideal Cert.ReferenceIdeal.S8x1x128 .f32) (hX : X = shapeCast Cert.ReferenceIdeal.S8x1x128 (Host.reduceAdd (shapeCast _ (Host.reduceAdd (mulf (Cert.ReferenceIdeal.Value.res_main_v49 V0) (Cert.ReferenceIdeal.Value.res_main_v84 V0)) (constant Cert.ReferenceIdeal.S_ .f32 0x00000000#32) Cert.ReferenceIdeal.Gen.reducesTo_S1x2048x8x128_S1x8x128_d1 Cert.ReferenceIdeal.Gen.h_S_) Cert.ReferenceIdeal.Gen.shapeCasts_S1x8x128_S1x1x8x128) (constant Cert.ReferenceIdeal.S_ .f32 0x00000000#32) Cert.ReferenceIdeal.Gen.reducesTo_S1x1x8x128_S8x128_d0_1 Cert.ReferenceIdeal.Gen.h_S_) Cert.ReferenceIdeal.Gen.shapeCasts_S8x128_S8x1x128) :
    (Cert.KernelIdeal.Gen.dats m 0 c).arrAt 8 (Cert.KernelIdeal.cfgs 0).N = X := by
  subst hX
  refine Cert.KernelIdeal.Gmlp.final8 m c _ fun h d => (Cert.ReferenceIdeal.Gmlp.res_dg V0 h d).trans ?_
  unfold Cert.ReferenceIdeal.Gmlp.wOf Cert.ReferenceIdeal.Gmlp.uOf Cert.ReferenceIdeal.Gmlp.vOf Cert.ReferenceIdeal.Gmlp.yOf
  rw [a.z, a.y, a.w]

/-- The spatial weights' gradient: the kernel's array is the reference's. -/
theorem same_dw (X : FVec Ideal Cert.ReferenceIdeal.S8x128x128 .f32) (hX : X = mulf (Host.dotGeneral (φ₁ := .f32) (φ₂ := .f32) Cert.ReferenceIdeal.dot_S8x1x16x128x128_S1x16x128x8x128_S8x128x128_123_014_4_2_0_3 none (Cert.ReferenceIdeal.Value.res_main_v78 V0) (Cert.ReferenceIdeal.Value.res_main_v55 V0)) (broadcastInDim Cert.ReferenceIdeal.S8x128x128 ![0, 1, 2] Cert.ReferenceIdeal.Gen.bcast_S1x128x128_S8x128x128_0_1_2 (Cert.ReferenceIdeal.Value.res_main_v56 V0))) :
    (Cert.KernelIdeal.Gen.dats m 0 c).arrAt 9 (Cert.KernelIdeal.cfgs 0).N = X := by
  subst hX
  refine Cert.KernelIdeal.Gmlp.final9 m c _ fun h t s => (Cert.ReferenceIdeal.Gmlp.res_dw V0 h t s).trans ?_
  unfold Cert.ReferenceIdeal.Gmlp.gOf Cert.ReferenceIdeal.Gmlp.uOf Cert.ReferenceIdeal.Gmlp.vOf Cert.ReferenceIdeal.Gmlp.yOf
  rw [a.z, a.y, a.g]

/-- The spatial bias's gradient: the kernel's array is the reference's. -/
theorem same_db (X : FVec Ideal Cert.ReferenceIdeal.S8x128x1 .f32) (hX : X = shapeCast Cert.ReferenceIdeal.S8x128x1 (transpose Cert.ReferenceIdeal.S8x128 [1, 0] (Host.reduceAdd (shapeCast _ (Host.reduceAdd (Cert.ReferenceIdeal.Value.res_main_v73 V0) (constant Cert.ReferenceIdeal.S_ .f32 0x00000000#32) Cert.ReferenceIdeal.Gen.reducesTo_S1x16x128x8x128_S1x128x8_d1_4 Cert.ReferenceIdeal.Gen.h_S_) Cert.ReferenceIdeal.Gen.shapeCasts_S1x128x8_S1x1x128x8x1) (constant Cert.ReferenceIdeal.S_ .f32 0x00000000#32) Cert.ReferenceIdeal.Gen.reducesTo_S1x1x128x8x1_S128x8_d0_1_4 Cert.ReferenceIdeal.Gen.h_S_) Cert.ReferenceIdeal.Gen.transposes_S128x8_S8x128_1_0) Cert.ReferenceIdeal.Gen.shapeCasts_S8x128_S8x128x1) :
    (Cert.KernelIdeal.Gen.dats m 0 c).arrAt 10 (Cert.KernelIdeal.cfgs 0).N = X := by
  subst hX
  refine Cert.KernelIdeal.Gmlp.final10 m c _ fun h t => (Cert.ReferenceIdeal.Gmlp.res_db V0 h t).trans ?_
  unfold Cert.ReferenceIdeal.Gmlp.uOf Cert.ReferenceIdeal.Gmlp.yOf
  rw [a.z, a.y]

omit a

attribute [local instance] preFacts Cert.KernelIdeal.Gen.facts Cert.ReferenceIdeal.Gen.facts in
set_option maxHeartbeats 1600000 in
/-- From arguments that agree and that the precondition holds of, the kernel's five results are the reference's. -/
theorem algebraic : Cert.algebraic_KernelIdeal_ReferenceIdeal_pre_finite := by
  pair_intro
  · run_from Cert.KernelIdeal.Gen.run_main m g
  · have a : ∀ c, Agree m c (StableHlo.launchContents m' c) := fun c =>
      ⟨(hagree c).1, (hagree c).2.1, (hagree c).2.2.1, (hagree c).2.2.2.1, (hagree c).2.2.2.2⟩
    have f : ∀ c, Real m c := fun c => by
      obtain ⟨hz, hy, hg, hw⟩ := real_of_pre _ _ _ _ _ (hpre c)
      exact ⟨hz, hy, hg, hw⟩
    run_from Cert.ReferenceIdeal.Value.run m' g'
    · exact (same_du (a _) _ rfl).symm
    · exact (same_dv (a _) (f _) _ rfl).symm
    · exact (same_dg (a _) _ rfl).symm
    · exact (same_dw (a _) _ rfl).symm
    · exact (same_db (a _) _ rfl).symm

end Cert.GmlpMain
end
-- ==== Proof.FfnRegions.lean ====
module

public import proofs.«01_k».proof.Proof.Gen.FfnIdeal.Frame
public import Idealize.ShloMosaic.Lib.Pipeline.ValueKit

@[expose] public section

set_option maxRecDepth 16384

noncomputable section

/-! The four products of the feed-forward part: each call's result array, entry by entry, as a sum over the contracted axis. -/

namespace Cert.FfnIdeal.Prod

open Idealize.ShloMosaic Idealize.ShloMosaic.TcCoe Idealize.SL.Sem
open Cert.FfnIdeal Cert.FfnIdeal.Gen

variable (V : (c : Dev nD) → (b : Ref sig .tc) → Buf (Elt Ideal) ((c : Thread nD τ).loc b)) (c : Dev nD)

/-- The offsets of a store of a whole block of two axes. -/
theorem off2 : (![0, 0] : Fin 2 → ℕ) = fun _ => 0 := by decide
/-- The offsets of a store of a whole block of three axes. -/
theorem off3 : (![0, 0, 0] : Fin 3 → ℕ) = fun _ => 0 := by decide

/-- What the rectifier's square gives. -/
abbrev sq (x : EReal) : EReal := max x 0 * max x 0
/-- What the square's derivative gives. -/
abbrev dsq (x : EReal) : EReal := 2 * max x 0

/-! ## mm_up -/

/-- The block indices of the windows at each grid point. -/
theorem idx0 : ∀ t : Fin cfg0.N, win0_0.index t = ![t.val / 8, 0] ∧ win0_1.index t = ![t.val % 8 / 2, 0, t.val % 2]
    ∧ win0_2.index t = ![t.val / 8, t.val % 8] ∧ win0_3.index t = ![t.val / 8, t.val % 8] :=
  (by decide +kernel : ∀ t : Fin grid0.N, _)

/-- An entry of the block's product. -/
theorem pay01 (x : S1024x2048.Idx → EReal) (y : S1x2048x1024.Idx → EReal) (i j : Fin 1024) :
    k0_pay1 (F := Ideal) x y (ix2 i j) = ∑ k : Fin 2048, x (ix2 i k) * y (ix3 0 k j) := by pointwise [k0_pay1]
/-- The first result's block. -/
theorem pay02 (x : S1024x2048.Idx → EReal) (y : S1x2048x1024.Idx → EReal) (i j : Fin 1024) :
    k0_pay2 (F := Ideal) x y (ix2 i j) = ∑ k : Fin 2048, x (ix2 i k) * y (ix3 0 k j) := by
  refine Eq.trans ?_ (pay01 x y i j)
  unfold k0_pay2
  generalize k0_pay1 (F := Ideal) x y = z
  pointwise
/-- The second result's block. -/
theorem pay03 (x : S1024x2048.Idx → EReal) (y : S1x2048x1024.Idx → EReal) (i j : Fin 1024) :
    k0_pay3 (F := Ideal) x y (ix2 i j) = sq (∑ k : Fin 2048, x (ix2 i k) * y (ix3 0 k j)) := by
  refine Eq.trans ?_ (congrArg sq (pay01 x y i j))
  unfold k0_pay3
  generalize k0_pay1 (F := Ideal) x y = z
  pointwise

/-- One entry of the product, from the blocks. -/
theorem sum0 (A : S2048x2048.Idx → EReal) (B : S4x2048x2048.Idx → EReal) (hA : V c main_arg0 = A) (hB : V c main_v2 = B)
    (t : Fin cfg0.N) (x : S1024x2048.Idx → EReal) (y : S1x2048x1024.Idx → EReal) (hx : x = iblk0 V c 0 t) (hy : y = iblk0 V c 1 t) (i j : Fin 1024) (h0 : t.val / 8 * 1024 + i.val < 2048) (h1 : t.val % 8 / 2 < 4) (h2 : t.val % 2 * 1024 + j.val < 2048) :
    (∑ k : Fin 2048, x (ix2 i k) * y (ix3 0 k j))
      = ∑ k : Fin 2048, A (ix2 ⟨t.val / 8 * 1024 + i.val, h0⟩ k) * B (ix3 ⟨t.val % 8 / 2, h1⟩ k ⟨t.val % 2 * 1024 + j.val, h2⟩) := by
  subst hA hB hx hy
  refine Finset.sum_congr rfl fun k _ => congrArg₂ (· * ·) ?_ ?_
  · blk_ext [iblk0, idx0 t]
  · blk_ext [iblk0, idx0 t]

/-- The call's first result array: the product. -/
theorem final0 (A : S2048x2048.Idx → EReal) (B : S4x2048x2048.Idx → EReal) (hA : V c main_arg0 = A) (hB : V c main_v2 = B)
    (X : FVec Ideal S2048x8192 .bf16)
    (hX : ∀ (i : Fin 2048) (s : Fin 4) (j : Fin 2048), X (ix2 i ⟨s.val * 2048 + j.val, by omega⟩) = ∑ k : Fin 2048, A (ix2 i k) * B (ix3 s k j)) :
    (dat0 V c).arrAt 2 cfg0.N = X := by
  refine (dat0 V c).arrAt_eq_of_covers 2 _ (by decide +kernel) fun t _ y => ?_
  blk_simp
  rw [after0_2, out0_2, View.canon_unit_zero off2, View.ld_unit_zero off2, View.ld_unit_zero off3]
  have ht : t.val < 16 := t.isLt
  have hy0 : (y 0).val < 1024 := (y 0).isLt
  have hy1 : (y 1).val < 1024 := (y 1).isLt
  have e : (win0_2.blk t).view.emb y = (ix2 ⟨t.val / 8 * 1024 + (y 0).val, by omega⟩ ⟨t.val % 8 / 2 * 2048 + (t.val % 2 * 1024 + (y 1).val), by omega⟩ : S2048x8192.Idx) := by
    blk_ext [idx0 t]
  have ey : y = (ix2 ⟨(y 0).val, hy0⟩ ⟨(y 1).val, hy1⟩ : S1024x1024.Idx) := by blk_ext
  refine Eq.trans ?_ ((congrArg X e).trans (hX _ ⟨t.val % 8 / 2, by omega⟩ ⟨t.val % 2 * 1024 + (y 1).val, by omega⟩)).symm
  exact (congrArg (k0_pay2 _ _) ey).trans ((pay02 _ _ _ _).trans (sum0 V c A B hA hB t _ _ rfl rfl _ _ _ _ _))

/-- The call's second result array: the rectified product's square. -/
theorem final0r (A : S2048x2048.Idx → EReal) (B : S4x2048x2048.Idx → EReal) (hA : V c main_arg0 = A) (hB : V c main_v2 = B)
    (X : FVec Ideal S2048x8192 .bf16)
    (hX : ∀ (i : Fin 2048) (s : Fin 4) (j : Fin 2048), X (ix2 i ⟨s.val * 2048 + j.val, by omega⟩) = sq (∑ k : Fin 2048, A (ix2 i k) * B (ix3 s k j))) :
    (dat0 V c).arrAt 3 cfg0.N = X := by
  refine (dat0 V c).arrAt_eq_of_covers 3 _ (by decide +kernel) fun t _ y => ?_
  blk_simp
  rw [after0_3, out0_3, View.canon_unit_zero off2, View.ld_unit_zero off2, View.ld_unit_zero off3]
  have ht : t.val < 16 := t.isLt
  have hy0 : (y 0).val < 1024 := (y 0).isLt
  have hy1 : (y 1).val < 1024 := (y 1).isLt
  have e : (win0_3.blk t).view.emb y = (ix2 ⟨t.val / 8 * 1024 + (y 0).val, by omega⟩ ⟨t.val % 8 / 2 * 2048 + (t.val % 2 * 1024 + (y 1).val), by omega⟩ : S2048x8192.Idx) := by
    blk_ext [idx0 t]
  have ey : y = (ix2 ⟨(y 0).val, hy0⟩ ⟨(y 1).val, hy1⟩ : S1024x1024.Idx) := by blk_ext
  refine Eq.trans ?_ ((congrArg X e).trans (hX _ ⟨t.val % 8 / 2, by omega⟩ ⟨t.val % 2 * 1024 + (y 1).val, by omega⟩)).symm
  exact (congrArg (k0_pay3 _ _) ey).trans ((pay03 _ _ _ _).trans (congrArg sq (sum0 V c A B hA hB t _ _ rfl rfl _ _ _ _ _)))

/-! ## mm_down_dw -/

/-- The block indices of the windows at each grid point. -/
theorem idx1 : ∀ t : Fin cfg1.N, win1_0.index t = ![0, t.val / 2] ∧ win1_1.index t = ![0, t.val % 2] ∧ win1_2.index t = ![t.val / 2, t.val % 2] :=
  (by decide +kernel : ∀ t : Fin grid1.N, _)

/-- An entry of the block's product. -/
theorem pay1 (x y : S2048x1024.Idx → EReal) (i j : Fin 1024) :
    k1_pay1 (F := Ideal) x y (ix2 i j) = ∑ k : Fin 2048, x (ix2 k i) * y (ix2 k j) := by pointwise [k1_pay1]

/-- The call's result array. -/
theorem final1 (A : S2048x8192.Idx → EReal) (B : S2048x2048.Idx → EReal) (hA : V c main_v3_1 = A) (hB : V c main_arg3 = B)
    (X : FVec Ideal S8192x2048 .bf16) (hX : ∀ i j, X (ix2 i j) = ∑ k : Fin 2048, A (ix2 k i) * B (ix2 k j)) :
    (dat1 V c).arrAt 2 cfg1.N = X := by
  subst hA hB
  refine (dat1 V c).arrAt_eq_of_covers 2 _ (by decide +kernel) fun t _ y => ?_
  blk_simp
  rw [after1_2, out1_2, View.canon_unit_zero off2, View.ld_unit_zero off2, View.ld_unit_zero off2]
  have ht : t.val < 16 := t.isLt
  have hy0 : (y 0).val < 1024 := (y 0).isLt
  have hy1 : (y 1).val < 1024 := (y 1).isLt
  have e : (win1_2.blk t).view.emb y = (ix2 ⟨t.val / 2 * 1024 + (y 0).val, by omega⟩ ⟨t.val % 2 * 1024 + (y 1).val, by omega⟩ : S8192x2048.Idx) := by
    blk_ext [idx1 t]
  have ey : y = (ix2 ⟨(y 0).val, hy0⟩ ⟨(y 1).val, hy1⟩ : S1024x1024.Idx) := by blk_ext
  refine Eq.trans ?_ ((congrArg X e).trans (hX _ _)).symm
  refine (congrArg (k1_pay1 _ _) ey).trans ((pay1 _ _ _ _).trans (Finset.sum_congr rfl fun k _ => ?_))
  refine congrArg₂ (· * ·) ?_ ?_
  · blk_ext [iblk1, idx1 t]
  · blk_ext [iblk1, idx1 t]

/-! ## mm_down_dx -/

/-- The block indices of the windows at each grid point. -/
theorem idx2 : ∀ t : Fin cfg2.N, win2_0.index t = ![t.val / 8, 0] ∧ win2_1.index t = ![t.val % 8, 0]
    ∧ win2_2.index t = ![t.val / 8, t.val % 8] ∧ win2_3.index t = ![t.val / 8, t.val % 8] :=
  (by decide +kernel : ∀ t : Fin grid2.N, _)

/-- The constant two. -/
theorem two : Ideal.ofBits .bf16 16384#16 = 2 := by simp [Ideal.ofBits, Ideal.ieee, -EReal.coe_mul]; norm_num; rfl

/-- An entry of the block's product, times the square's derivative. -/
theorem pay2 (x y : S1024x2048.Idx → EReal) (u : S1024x1024.Idx → EReal) (i j : Fin 1024) :
    k2_pay1 (F := Ideal) x y u (ix2 i j) = (∑ k : Fin 2048, x (ix2 i k) * y (ix2 j k)) * dsq (u (ix2 i j)) := by
  pointwise [k2_pay1, two]

/-- The call's result array. -/
theorem final2 (A : S2048x2048.Idx → EReal) (B : S8192x2048.Idx → EReal) (U : S2048x8192.Idx → EReal) (hA : V c main_arg3 = A)
    (hB : V c main_v5 = B) (hU : V c main_v3_0 = U)
    (X : FVec Ideal S2048x8192 .bf16) (hX : ∀ i j, X (ix2 i j) = (∑ k : Fin 2048, A (ix2 i k) * B (ix2 j k)) * dsq (U (ix2 i j))) :
    (dat2 V c).arrAt 3 cfg2.N = X := by
  subst hA hB hU
  refine (dat2 V c).arrAt_eq_of_covers 3 _ (by decide +kernel) fun t _ y => ?_
  blk_simp
  rw [after2_3, out2_3, View.canon_unit_zero off2, View.ld_unit_zero off2, View.ld_unit_zero off2, View.ld_unit_zero off2]
  have ht : t.val < 16 := t.isLt
  have hy0 : (y 0).val < 1024 := (y 0).isLt
  have hy1 : (y 1).val < 1024 := (y 1).isLt
  have e : (win2_3.blk t).view.emb y = (ix2 ⟨t.val / 8 * 1024 + (y 0).val, by omega⟩ ⟨t.val % 8 * 1024 + (y 1).val, by omega⟩ : S2048x8192.Idx) := by
    blk_ext [idx2 t]
  have ey : y = (ix2 ⟨(y 0).val, hy0⟩ ⟨(y 1).val, hy1⟩ : S1024x1024.Idx) := by blk_ext
  refine Eq.trans ?_ ((congrArg X e).trans (hX _ _)).symm
  refine (congrArg (k2_pay1 _ _ _) ey).trans ((pay2 _ _ _ _ _).trans (congrArg₂ (· * ·) (Finset.sum_congr rfl fun k _ => congrArg₂ (· * ·) ?_ ?_) (congrArg dsq ?_)))
  · blk_ext [iblk2, idx2 t]
  · blk_ext [iblk2, idx2 t]
  · blk_ext [iblk2, idx2 t]

/-! ## mm_up_dw -/

/-- The block indices of the windows at each grid point. -/
theorem idx3 : ∀ t : Fin cfg3.N, win3_0.index t = ![0, t.val / 8] ∧ win3_1.index t = ![0, t.val % 8]
    ∧ win3_2.index t = ![t.val % 8 / 2, t.val / 8, t.val % 2] :=
  (by decide +kernel : ∀ t : Fin grid3.N, _)

/-- An entry of the block's product. -/
theorem pay3 (x y : S2048x1024.Idx → EReal) (i j : Fin 1024) :
    k3_pay1 (F := Ideal) x y (ix3 0 i j) = ∑ k : Fin 2048, x (ix2 k i) * y (ix2 k j) := by pointwise [k3_pay1]

/-- The call's result array. -/
theorem final3 (A : S2048x2048.Idx → EReal) (B : S2048x8192.Idx → EReal) (hA : V c main_arg0 = A) (hB : V c main_v6 = B)
    (X : FVec Ideal S4x2048x2048 .bf16)
    (hX : ∀ (s : Fin 4) (i j : Fin 2048), X (ix3 s i j) = ∑ k : Fin 2048, A (ix2 k i) * B (ix2 k ⟨s.val * 2048 + j.val, by omega⟩)) :
    (dat3 V c).arrAt 2 cfg3.N = X := by
  subst hA hB
  refine (dat3 V c).arrAt_eq_of_covers 2 _ (by decide +kernel) fun t _ y => ?_
  blk_simp
  rw [after3_2, out3_2, View.canon_unit_zero off3, View.ld_unit_zero off2, View.ld_unit_zero off2]
  have ht : t.val < 16 := t.isLt
  have hy1 : (y 1).val < 1024 := (y 1).isLt
  have hy2 : (y 2).val < 1024 := (y 2).isLt
  have e : (win3_2.blk t).view.emb y = (ix3 ⟨t.val % 8 / 2, by omega⟩ ⟨t.val / 8 * 1024 + (y 1).val, by omega⟩ ⟨t.val % 2 * 1024 + (y 2).val, by omega⟩ : S4x2048x2048.Idx) := by
    blk_ext [idx3 t]
  have ey : y = (ix3 0 ⟨(y 1).val, hy1⟩ ⟨(y 2).val, hy2⟩ : S1x1024x1024.Idx) := by blk_ext
  refine Eq.trans ?_ ((congrArg X e).trans (hX _ _ _)).symm
  refine (congrArg (k3_pay1 _ _) ey).trans ((pay3 _ _ _ _).trans (Finset.sum_congr rfl fun k _ => congrArg₂ (· * ·) ?_ ?_))
  · blk_ext [iblk3, idx3 t]
  · blk_ext [iblk3, idx3 t]

end Cert.FfnIdeal.Prod
end
-- ==== Proof.FfnRun.lean ====
module

public import proofs.«01_k».proof.Proof.FfnRegions
public import Idealize.ShloMosaic.Adequacy
public import Idealize.ShloMosaic.Init

@[expose] public section

set_option maxRecDepth 16384

noncomputable section

/-! The run of the feed-forward part's four calls: what the three result arrays hold, given by the arguments. -/

namespace Cert.FfnIdeal.Prod

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs to its end, and every buffer of the main program ends as the last boundary's contents say. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- The program runs to its end, the results hold what the regions leave in them, and the arguments are unchanged. -/
theorem run : θ_run defs (onTc (τ := τ) (main (F := Ideal))) ⟨m, fun _ => 0, ρ⟩ (fun r => ∀ c : Dev nD,
      r.2.mem ((c.tc : Thread nD τ).loc main_v4) = (dat1 (V2 m ρ) c).arrAt 2 cfg1.N
      ∧ r.2.mem ((c.tc : Thread nD τ).loc main_v6) = (dat2 (V4 m ρ) c).arrAt 3 cfg2.N
      ∧ r.2.mem ((c.tc : Thread nD τ).loc main_v7) = (dat3 (V5 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans
        ((W6_of m ρ c main_v4 (by decide)).trans ((W5_of m ρ c main_v4 (by decide)).trans
          ((W4_of m ρ c main_v4 (by decide)).trans (W3_arr m ρ c 2)))),
     (h c _ (mem_uc main_v6 (by decide))).trans ((W6_of m ρ c main_v6 (by decide)).trans (W5_arr m ρ c 3)),
     (h c _ (mem_uc main_v7 (by decide))).trans (W6_arr m ρ c 2),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

/-! ## What each region finds -/

variable (c : Dev nD)

/-- The first argument, as an array of entries. -/
abbrev aH : S2048x2048.Idx → EReal := m ((c.tc : Thread nD τ).loc main_arg0)
/-- The weights up. -/
abbrev aU : S2048x8192.Idx → EReal := m ((c.tc : Thread nD τ).loc main_arg1)
/-- The weights down. -/
abbrev aD : S8192x2048.Idx → EReal := m ((c.tc : Thread nD τ).loc main_arg2)
/-- The incoming gradient. -/
abbrev aO : S2048x2048.Idx → EReal := m ((c.tc : Thread nD τ).loc main_arg3)

/-- An argument at a region's entry is the argument of the launch. -/
theorem arg0_1 : V1 m ρ c main_arg0 = aH m c := W1_args m ρ c _ (by decide)
/-- The incoming gradient at the second region's entry. -/
theorem arg3_2 : V2 m ρ c main_arg3 = aO m c := W2_args m ρ c _ (by decide)
/-- The incoming gradient at the third region's entry. -/
theorem arg3_4 : V4 m ρ c main_arg3 = aO m c := W4_args m ρ c _ (by decide)
/-- The first argument at the last region's entry. -/
theorem arg0_5 : V5 m ρ c main_arg0 = aH m c := W5_args m ρ c _ (by decide)

/-- An entry of a matrix cut in slabs of its columns. -/
theorem slab_of (w : FVec Ideal S2048x8192 .f32) (s : Fin 4) (k j : Fin 2048) :
    transpose S4x2048x2048 [1, 0, 2] (shapeCast S2048x4x2048 (truncf .bf16 w bitsLt_bf16_f32) shapeCasts_S2048x8192_S2048x4x2048)
      transposes_S2048x4x2048_S4x2048x2048_1_0_2 (ix3 s k j) = w (ix2 k ⟨s.val * 2048 + j.val, by omega⟩) := by pointwise

/-- The weights up in slabs, at the first region's entry. -/
theorem slab_1 (s : Fin 4) (k j : Fin 2048) :
    (V1 m ρ c main_v2 : S4x2048x2048.Idx → EReal) (ix3 s k j) = aU m c (ix2 k ⟨s.val * 2048 + j.val, by omega⟩) := by
  show (StableHlo.after hostOps0 (W0 m ρ c) (Proc.devRef .tc main_v2) : S4x2048x2048.Idx → EReal) (ix3 s k j) = _
  entry_read
  exact slab_of _ s k j

/-- The weights down at the third region's entry. -/
theorem wd_4 : V4 m ρ c main_v5 = aD m c := by
  have h : W3 m ρ c (Proc.devRef .tc main_arg2) = aD m c := W3_args m ρ c _ (by decide)
  refine funext fun i => ?_
  rw [← h]
  show (StableHlo.after hostOps2 (W3 m ρ c) (Proc.devRef .tc main_v5) : S8192x2048.Idx → EReal) i = _
  entry_read
  rfl

/-- The product up. -/
def upA : S2048x8192.Idx → EReal := fun y => ∑ k : Fin 2048, aH m c (ix2 (y 0) k) * aU m c (ix2 k (y 1))
/-- The rectified product's square. -/
def rA : S2048x8192.Idx → EReal := fun y => sq (upA m c y)
/-- The product up's gradient. -/
def duA : S2048x8192.Idx → EReal := fun y => (∑ k : Fin 2048, aO m c (ix2 (y 0) k) * aD m c (ix2 (y 1) k)) * dsq (upA m c y)

/-- The first call leaves the product up. -/
theorem up_2 : V2 m ρ c main_v3_0 = upA m c :=
  (W2_arr m ρ c 2).trans (final0 (V1 m ρ) c _ _ (arg0_1 m ρ c) rfl (upA m c) fun i s j =>
    Finset.sum_congr rfl fun k _ => congrArg (aH m c (ix2 i k) * ·) (slab_1 m ρ c s k j).symm)
/-- The first call leaves the rectified product's square. -/
theorem r_2 : V2 m ρ c main_v3_1 = rA m c :=
  (W2_arr m ρ c 3).trans (final0r (V1 m ρ) c _ _ (arg0_1 m ρ c) rfl (rA m c) fun i s j => congrArg sq <|
    Finset.sum_congr rfl fun k _ => congrArg (aH m c (ix2 i k) * ·) (slab_1 m ρ c s k j).symm)
/-- The product up at the third region's entry. -/
theorem up_4 : V4 m ρ c main_v3_0 = upA m c :=
  (W4_of m ρ c main_v3_0 (by decide)).trans ((W3_of m ρ c main_v3_0 (by decide)).trans (up_2 m ρ c))
/-- The third call leaves the product up's gradient. -/
theorem du_arr : (dat2 (V4 m ρ) c).arrAt 3 cfg2.N = duA m c :=
  final2 (V4 m ρ) c _ _ _ (arg3_4 m ρ c) (wd_4 m ρ c) (up_4 m ρ c) (duA m c) fun _ _ => rfl
/-- The product up's gradient at the last region's entry. -/
theorem du_5 : V5 m ρ c main_v6 = duA m c := (W5_arr m ρ c 3).trans (du_arr m ρ c)

/-- The gradient of the weights down, entry by entry. -/
theorem dd_arr (X : FVec Ideal S8192x2048 .bf16) (hX : ∀ i j, X (ix2 i j) = ∑ k : Fin 2048, rA m c (ix2 k i) * aO m c (ix2 k j)) :
    (dat1 (V2 m ρ) c).arrAt 2 cfg1.N = X := final1 (V2 m ρ) c _ _ (r_2 m ρ c) (arg3_2 m ρ c) X hX
/-- The gradient of the weights up, slab by slab and entry by entry. -/
theorem dw_arr (X : FVec Ideal S4x2048x2048 .bf16)
    (hX : ∀ (s : Fin 4) (i j : Fin 2048), X (ix3 s i j) = ∑ k : Fin 2048, aH m c (ix2 k i) * duA m c (ix2 k ⟨s.val * 2048 + j.val, by omega⟩)) :
    (dat3 (V5 m ρ) c).arrAt 2 cfg3.N = X := final3 (V5 m ρ) c _ _ (arg0_5 m ρ c) (du_5 m ρ c) X hX

end Cert.FfnIdeal.Prod

end
-- ==== Proof.FfnMain.lean ====
module

public import proofs.«01_k».proof.Proof.FfnRun
public import proofs.«01_k».proof.Proof.Gen.FfnRefIdeal.Run
public import proofs.«01_k».proof.Defs

@[expose] public section

set_option maxRecDepth 16384

noncomputable section

/-! The feed-forward part's reference, entry by entry, and the equality of its three results with those of the calls. -/

namespace Cert.FfnRefIdeal.Prod

open Idealize.ShloMosaic Idealize.ShloMosaic.TcCoe Idealize.SL.Sem
open Cert.FfnRefIdeal Cert.FfnRefIdeal.Gen
open Cert.FfnIdeal.Prod (dsq)

variable (H : FVec Ideal S2048x2048 .bf16) (U : FVec Ideal S2048x8192 .f32) (D : FVec Ideal S8192x2048 .f32) (O : FVec Ideal S2048x2048 .bf16)

/-- The constant two. -/
theorem two : Ideal.ofBits .f32 0x40000000#32 = 2 := by simp [Ideal.ofBits, Ideal.ieee, -EReal.coe_mul]; norm_num; rfl

/-- The product up. -/
abbrev upT : FVec Ideal S2048x8192 .f32 := (Host.dotGeneral dot_S2048x2048_S2048x8192_S2048x8192_1_0_0_1_n_n none (extf .f32 H bitsLt_bf16_f32) U)
/-- The square's derivative times the incoming gradient: the product up's gradient. -/
abbrev duT (u : FVec Ideal S2048x8192 .f32) : FVec Ideal S2048x8192 .f32 := (select (cmpf .ogt u (broadcastInDim S2048x8192 ![] bcast_S_S2048x8192 (constant (F := Ideal) S_ .f32 0x00000000#32))) (mulf (Host.dotGeneral dot_S2048x2048_S8192x2048_S2048x8192_1_1_0_0_n_n none (extf .f32 O bitsLt_bf16_f32) D) (mulf (broadcastInDim S2048x8192 ![] bcast_S_S2048x8192 (constant (F := Ideal) S_ .f32 0x40000000#32)) (maximumf u (broadcastInDim S2048x8192 ![] bcast_S_S2048x8192 (constant (F := Ideal) S_ .f32 0x00000000#32))))) (broadcastInDim S2048x8192 ![] bcast_S_S2048x8192 (constant (F := Ideal) S_ .f32 0x00000000#32)))

/-- An entry of the product up. -/
theorem upT_at (i : Fin 2048) (j : Fin 8192) : upT H U (ix2 i j) = ∑ k : Fin 2048, H (ix2 i k) * U (ix2 k j) := by pointwise

/-- The rectifier's branch changes nothing: where the product is not positive, its rectified value is zero. -/
theorem branch (a u : EReal) : (if 0 < u then a * dsq u else 0) = a * dsq u := by
  split
  · rfl
  · rename_i h
    rw [dsq, max_eq_right (not_lt.1 h), mul_zero, mul_zero]

/-- An entry of the product up's gradient. -/
theorem duT_at (u : FVec Ideal S2048x8192 .f32) (i : Fin 2048) (j : Fin 8192) :
    duT D O u (ix2 i j) = (∑ k : Fin 2048, O (ix2 i k) * D (ix2 j k)) * dsq (u (ix2 i j)) := by
  refine Eq.trans ?_ (branch _ _)
  pointwise [two]

/-- An entry of the first result. -/
theorem dd_at (u : FVec Ideal S2048x8192 .f32) (i : Fin 8192) (j : Fin 2048) :
    (truncf .bf16 (transpose S8192x2048 [1, 0] (Host.dotGeneral dot_S2048x2048_S2048x8192_S2048x8192_0_0_1_1_n_n none (extf .f32 O bitsLt_bf16_f32) (mulf (maximumf u (broadcastInDim S2048x8192 ![] bcast_S_S2048x8192 (constant (F := Ideal) S_ .f32 0x00000000#32))) (maximumf u (broadcastInDim S2048x8192 ![] bcast_S_S2048x8192 (constant (F := Ideal) S_ .f32 0x00000000#32))))) transposes_S2048x8192_S8192x2048_1_0) bitsLt_bf16_f32 : FVec Ideal S8192x2048 .bf16) (ix2 i j)
      = ∑ k : Fin 2048, Cert.FfnIdeal.Prod.sq (u (ix2 k i)) * O (ix2 k j) := by
  pointwise
  exact Finset.sum_congr rfl fun k _ => mul_comm _ _

/-- An entry of the last result. -/
theorem dw_at (d : FVec Ideal S2048x8192 .f32) (s : Fin 4) (i j : Fin 2048) :
    (truncf .bf16 (transpose S4x2048x2048 [1, 0, 2] (shapeCast S2048x4x2048 (transpose S2048x8192 [1, 0] (Host.dotGeneral dot_S2048x8192_S2048x2048_S8192x2048_0_0_1_1_n_n none d (extf .f32 H bitsLt_bf16_f32)) transposes_S8192x2048_S2048x8192_1_0) shapeCasts_S2048x8192_S2048x4x2048) transposes_S2048x4x2048_S4x2048x2048_1_0_2) bitsLt_bf16_f32 : FVec Ideal S4x2048x2048 .bf16) (ix3 s i j)
      = ∑ k : Fin 2048, H (ix2 k i) * d (ix2 k ⟨s.val * 2048 + j.val, by omega⟩) := by
  pointwise
  exact Finset.sum_congr rfl fun k _ => mul_comm _ _

end Cert.FfnRefIdeal.Prod

namespace Cert.FfnMain

open Idealize.ShloMosaic Idealize.ShloMosaic.TcCoe Idealize.SL.Sem
open Cert.FfnRefIdeal Cert.FfnRefIdeal.Gen
open Cert.FfnRefIdeal.Prod (upT duT upT_at duT_at dd_at dw_at)
open Cert.FfnIdeal.Prod (dsq aH aU aD aO upA rA duA)

variable (m : (ℓ : Loc Cert.FfnIdeal.nD Cert.FfnIdeal.τ Cert.FfnIdeal.sig) → Buf (Elt Ideal) ℓ) (ρ : Dev Cert.FfnIdeal.nD → PrngReg) (c : Dev Cert.FfnIdeal.nD)
  {H : FVec Ideal S2048x2048 .bf16} {U : FVec Ideal S2048x8192 .f32} {D : FVec Ideal S8192x2048 .f32} {O : FVec Ideal S2048x2048 .bf16}
  (hH : H = aH m c) (hU : U = aU m c) (hD : D = aD m c) (hO : O = aO m c)

include hH hU in
/-- The two products up agree. -/
theorem same_up (i : Fin 2048) (j : Fin 8192) : upT H U (ix2 i j) = upA m c (ix2 i j) := by
  subst hH hU; exact upT_at _ _ i j

include hH hU hD hO in
/-- The two gradients of the product up agree. -/
theorem same_duE (i : Fin 2048) (j : Fin 8192) : duT D O (upT H U) (ix2 i j) = duA m c (ix2 i j) := by
  rw [duT_at, same_up m c hH hU]
  subst hD hO; rfl

include hH hU hO in
/-- The gradient of the weights down. -/
theorem same_dd (X : FVec Ideal S8192x2048 .bf16) (hX : X = truncf .bf16 (transpose S8192x2048 [1, 0] (Host.dotGeneral dot_S2048x2048_S2048x8192_S2048x8192_0_0_1_1_n_n none (extf .f32 O bitsLt_bf16_f32) (mulf (maximumf (upT H U) (broadcastInDim S2048x8192 ![] bcast_S_S2048x8192 (constant (F := Ideal) S_ .f32 0x00000000#32))) (maximumf (upT H U) (broadcastInDim S2048x8192 ![] bcast_S_S2048x8192 (constant (F := Ideal) S_ .f32 0x00000000#32))))) transposes_S2048x8192_S8192x2048_1_0) bitsLt_bf16_f32) :
    (Cert.FfnIdeal.Gen.dat1 (Cert.FfnIdeal.Gen.V2 m ρ) c).arrAt 2 Cert.FfnIdeal.cfg1.N = X := by
  subst hX
  refine Cert.FfnIdeal.Prod.dd_arr m ρ c _ fun i j => (dd_at O (upT H U) i j).trans ?_
  subst hO
  exact Finset.sum_congr rfl fun k _ => congrArg (Cert.FfnIdeal.Prod.sq · * _) (same_up m c hH hU k i)

include hH hU hD hO in
/-- The gradient of the product up. -/
theorem same_du (X : FVec Ideal S2048x8192 .bf16) (hX : X = truncf .bf16 (duT D O (upT H U)) bitsLt_bf16_f32) :
    (Cert.FfnIdeal.Gen.dat2 (Cert.FfnIdeal.Gen.V4 m ρ) c).arrAt 3 Cert.FfnIdeal.cfg2.N = X := by
  rw [Cert.FfnIdeal.Prod.du_arr m ρ c, hX]
  refine (funext fun y => ?_ : duA m c = _)
  have ey : y = (ix2 ⟨(y 0).val, (y 0).isLt⟩ ⟨(y 1).val, (y 1).isLt⟩ : S2048x8192.Idx) := by blk_ext
  rw [ey]
  exact (same_duE m c hH hU hD hO _ _).symm

include hH hU hD hO in
/-- The gradient of the weights up, in slabs. -/
theorem same_dw (X : FVec Ideal S4x2048x2048 .bf16) (hX : X = truncf .bf16 (transpose S4x2048x2048 [1, 0, 2] (shapeCast S2048x4x2048 (transpose S2048x8192 [1, 0] (Host.dotGeneral dot_S2048x8192_S2048x2048_S8192x2048_0_0_1_1_n_n none (duT D O (upT H U)) (extf .f32 H bitsLt_bf16_f32)) transposes_S8192x2048_S2048x8192_1_0) shapeCasts_S2048x8192_S2048x4x2048) transposes_S2048x4x2048_S4x2048x2048_1_0_2) bitsLt_bf16_f32) :
    (Cert.FfnIdeal.Gen.dat3 (Cert.FfnIdeal.Gen.V5 m ρ) c).arrAt 2 Cert.FfnIdeal.cfg3.N = X := by
  subst hX
  refine Cert.FfnIdeal.Prod.dw_arr m ρ c _ fun s i j => (dw_at H (duT D O (upT H U)) s i j).trans ?_
  refine Finset.sum_congr rfl fun k _ => ?_
  rw [same_duE m c hH hU hD hO]
  subst hH; rfl

attribute [local instance] Cert.FfnIdeal.Gen.facts Cert.FfnRefIdeal.Gen.facts in
set_option maxHeartbeats 1600000 in
/-- From arguments that agree, the calls' three results are the reference's. -/
theorem algebraic : Cert.algebraic_FfnIdeal_FfnRefIdeal := by
  pair_intro
  · run_from Cert.FfnIdeal.Prod.run m g
  · run_from Cert.FfnRefIdeal.Value.run m' g'
    · exact (same_dd m g _ rfl rfl rfl _ rfl).symm
    · exact (same_du m g _ rfl rfl rfl rfl _ rfl).symm
    · exact (same_dw m g _ rfl rfl rfl rfl _ rfl).symm

end Cert.FfnMain

end
-- ==== Proof.UpdxKer.lean ====
module

public import proofs.«01_k».proof.Proof.Gen.UpdxIdeal.Value
public import Idealize.ShloMosaic.Lib.Pipeline.ValueKit

@[expose] public section

set_option maxRecDepth 16384

noncomputable section

/-! The product that gives the feed-forward input's gradient: four grid points run through the contracted axis, the first three adding into
the carried buffer and the fourth writing the sum. -/

namespace Cert.UpdxIdeal.Prod

open Idealize.ShloMosaic Idealize.ShloMosaic.TcCoe Idealize.SL.Sem
open Cert.UpdxIdeal Cert.UpdxIdeal.Gen

variable (m : (ℓ : Loc nD τ sig) → Buf (Elt Ideal) ℓ) (c : Dev nD)

/-- The offsets of a store of a whole block of two axes. -/
theorem off2 : (![0, 0] : Fin 2 → ℕ) = fun _ => 0 := by decide
/-- The offsets of a store of a whole block of three axes. -/
theorem off3 : (![0, 0, 0] : Fin 3 → ℕ) = fun _ => 0 := by decide

/-- The block indices of the windows at each grid point. -/
theorem idx : ∀ t : Fin cfg0.N, win0_0.index t = ![t.val / 8, t.val % 4] ∧ win0_1.index t = ![t.val % 4, t.val % 8 / 4, 0]
    ∧ win0_2.index t = ![t.val / 8, t.val % 8 / 4] :=
  (by decide +kernel : ∀ t : Fin grid0.N, _)

/-- An entry of the block's product. -/
theorem pay1 (x : S1024x2048.Idx → EReal) (y : S1x1024x2048.Idx → EReal) (i j : Fin 1024) :
    k0_pay1 (F := Ideal) x y (ix2 i j) = ∑ k : Fin 2048, x (ix2 i k) * y (ix3 0 j k) := by pointwise [k0_pay1]
/-- What the first point of four leaves in the carried buffer. -/
theorem pay2 (x : S1024x2048.Idx → EReal) (y : S1x1024x2048.Idx → EReal) (i j : Fin 1024) :
    k0_pay2 (F := Ideal) x y (ix2 i j) = ∑ k : Fin 2048, x (ix2 i k) * y (ix3 0 j k) := by
  refine Eq.trans ?_ (pay1 x y i j)
  unfold k0_pay2
  generalize k0_pay1 (F := Ideal) x y = z
  pointwise
/-- What a middle point adds to the carried buffer. -/
theorem pay3 (x : S1024x2048.Idx → EReal) (y : S1x1024x2048.Idx → EReal) (a : S1024x1024.Idx → EReal) (i j : Fin 1024) :
    k0_pay3 (F := Ideal) x y a (ix2 i j) = a (ix2 i j) + ∑ k : Fin 2048, x (ix2 i k) * y (ix3 0 j k) := by
  refine Eq.trans ?_ (congrArg (a (ix2 i j) + ·) (pay1 x y i j))
  unfold k0_pay3
  generalize k0_pay1 (F := Ideal) x y = z
  pointwise
/-- What the last point writes. -/
theorem pay4 (x : S1024x2048.Idx → EReal) (y : S1x1024x2048.Idx → EReal) (a : S1024x1024.Idx → EReal) (i j : Fin 1024) :
    k0_pay4 (F := Ideal) x y a (ix2 i j) = a (ix2 i j) + ∑ k : Fin 2048, x (ix2 i k) * y (ix3 0 j k) := by
  refine Eq.trans ?_ (congrArg (a (ix2 i j) + ·) (pay1 x y i j))
  unfold k0_pay4
  generalize k0_pay1 (F := Ideal) x y = z
  pointwise

variable (t : Fin cfg0.N)

/-- The carried buffer after the first point of four. -/
theorem carried_A (h : t.val % 4 = 0) : (outsAt0 m c t.val t.isLt).2 = k0_pay2 (iblk m c 0 t) (iblk m c 1 t) := by
  rw [outsAt0_A m c t h (by omega) (by omega)]
  dsimp only
  unfold sout0_A_0
  rw [View.read_writes_eq_canon _ _ _ (scover0_A_0 _ _ _ _ _ _ _ _ _ _ _ _ _ _ _)]
  unfold kernelRun0_A
  dsimp only
  rw [View.canon_unit_zero off2]
  simp only [View.readAt_eq_ld, Memref.IsWhole.read_unread, View.ld_unit_zero (S := S1024x2048) off2, View.ld_unit_zero (S := S1x1024x2048) off3]

/-- The carried buffer after a middle point. -/
theorem carried_B (h : 1 ≤ t.val % 4 ∧ t.val % 4 ≤ 2) :
    (outsAt0 m c t.val t.isLt).2 = k0_pay3 (iblk m c 0 t) (iblk m c 1 t) (outsAt0 m c (t.val - 1) (by have := t.isLt; omega)).2 := by
  rw [outsAt0_B m c t (by omega) h (by omega)]
  dsimp only
  unfold sout0_B_0
  rw [View.read_writes_eq_canon _ _ _ (scover0_B_0 _ _ _ _ _ _ _ _ _ _ _ _ _ _ _ _)]
  unfold kernelRun0_B
  dsimp only
  rw [View.canon_unit_zero off2]
  simp only [View.readAt_eq_ld, Memref.IsWhole.read_unread, View.ld_unit_zero (S := S1024x2048) off2, View.ld_unit_zero (S := S1x1024x2048) off3, View.ld_unit_zero (S := S1024x1024) off2]
  exact congrArg _ ((Memref.isWhole_whole cc0_scratch0).read_unread _)

/-- The block that the last point of four writes. -/
theorem written_C (h : t.val % 4 = 3) :
    (outsAt0 m c t.val t.isLt).1 = k0_pay4 (iblk m c 0 t) (iblk m c 1 t) (outsAt0 m c (t.val - 1) (by have := t.isLt; omega)).2 := by
  rw [outsAt0_C m c t (by omega) (by omega) h]
  dsimp only
  unfold out0_C_2
  rw [View.read_writes_eq_canon _ _ _ (cover0_C_2 _ _ _ _ _ _ _ _ _ _ _ _ _ _ _ _)]
  unfold kernelRun0_C
  dsimp only
  rw [View.canon_unit_zero off2]
  simp only [View.readAt_eq_ld, Memref.IsWhole.read_unread, View.ld_unit_zero (S := S1024x2048) off2, View.ld_unit_zero (S := S1x1024x2048) off3, View.ld_unit_zero (S := S1024x1024) off2]
  exact congrArg _ ((Memref.isWhole_whole cc0_scratch0).read_unread _)

/-! ## The result array -/

/-- One point's share of an entry, given by the arrays. -/
theorem part (A : S2048x8192.Idx → EReal) (B : S4x2048x2048.Idx → EReal) (hA : V m c main_arg0 = A) (hB : V m c main_v2 = B)
    (x : S1024x2048.Idx → EReal) (y : S1x1024x2048.Idx → EReal) (hx : x = iblk m c 0 t) (hy : y = iblk m c 1 t)
    (q : Fin 4) (a b : Fin 2) (ht : t.val = a.val * 8 + b.val * 4 + q.val) (i j : Fin 1024) :
    (∑ k : Fin 2048, x (ix2 i k) * y (ix3 0 j k))
      = ∑ k : Fin 2048, A (ix2 ⟨a.val * 1024 + i.val, by omega⟩ ⟨q.val * 2048 + k.val, by omega⟩) * B (ix3 q ⟨b.val * 1024 + j.val, by omega⟩ k) := by
  subst hA hB hx hy
  have e0 : t.val / 8 = a.val := by omega
  have e1 : t.val % 4 = q.val := by omega
  have e2 : t.val % 8 / 4 = b.val := by omega
  refine Finset.sum_congr rfl fun k _ => congrArg₂ (· * ·) ?_ ?_
  · blk_ext [iblk, V, idx t, e0, e1, e2]
  · blk_ext [iblk, V, idx t, e0, e1, e2]

/-- The call's result array: the four shares, added in order. -/
theorem final (A : S2048x8192.Idx → EReal) (B : S4x2048x2048.Idx → EReal) (hA : V m c main_arg0 = A) (hB : V m c main_v2 = B)
    (X : FVec Ideal S2048x2048 .f32)
    (hX : ∀ i j : Fin 2048, X (ix2 i j) = ∑ q : Fin 4, ∑ k : Fin 2048, A (ix2 i ⟨q.val * 2048 + k.val, by omega⟩) * B (ix3 q j k)) :
    (dats m 0 c).arrAt 2 cfg0.N = X := by
  refine (dats m 0 c).arrAt_eq_of_covers 2 _ (by decide +kernel) fun t hf y => ?_
  have ht : t.val < 16 := t.isLt
  have hN : cfg0.N = 16 := N_0
  have h3 : t.val % 4 = 3 := (by decide +kernel : ∀ t : Fin cfg0.N, (cfg0.win 2).flush t = true → t.val % 4 = 3) t hf
  have hy0 : (y 0).val < 1024 := (y 0).isLt
  have hy1 : (y 1).val < 1024 := (y 1).isLt
  blk_simp
  rw [after0_2, written_C m c t h3,
    carried_B m c ⟨t.val - 1, by omega⟩ (by dsimp only; omega),
    carried_B m c ⟨t.val - 1 - 1, by omega⟩ (by dsimp only; omega),
    carried_A m c ⟨t.val - 1 - 1 - 1, by omega⟩ (by dsimp only; omega)]
  have e : (win0_2.blk t).view.emb y = (ix2 ⟨t.val / 8 * 1024 + (y 0).val, by omega⟩ ⟨t.val % 8 / 4 * 1024 + (y 1).val, by omega⟩ : S2048x2048.Idx) := by
    blk_ext [idx t]
  have ey : y = (ix2 ⟨(y 0).val, hy0⟩ ⟨(y 1).val, hy1⟩ : S1024x1024.Idx) := by blk_ext
  refine Eq.trans ?_ ((congrArg X e).trans (hX _ _)).symm
  have p := fun (n : ℕ) (h : n < cfg0.N) (q : Fin 4) (hq : n = t.val / 8 * 8 + t.val % 8 / 4 * 4 + q.val) =>
    part m c ⟨n, h⟩ A B hA hB _ _ rfl rfl q ⟨t.val / 8, by omega⟩ ⟨t.val % 8 / 4, by omega⟩ hq ⟨(y 0).val, hy0⟩ ⟨(y 1).val, hy1⟩
  refine (congrArg (k0_pay4 _ _ _) ey).trans ((pay4 _ _ _ _ _).trans ?_)
  rw [Fin.sum_univ_four]
  refine congrArg₂ (fun a b : EReal => a + b) ((pay3 _ _ _ _ _).trans (congrArg₂ (fun a b : EReal => a + b) ((pay3 _ _ _ _ _).trans
    (congrArg₂ (fun a b : EReal => a + b) ((pay2 _ _ _ _).trans (p _ _ 0 ?_)) (p _ _ 1 ?_))) (p _ _ 2 ?_))) (p _ _ 3 ?_)
  all_goals (dsimp only [Fin.isValue]; simp only [Fin.coe_ofNat_eq_mod]; omega)

end Cert.UpdxIdeal.Prod

end
-- ==== Proof.UpdxMain.lean ====
module

public import proofs.«01_k».proof.Proof.UpdxKer
public import proofs.«01_k».proof.Proof.Gen.UpdxRefIdeal.Run
public import proofs.«01_k».proof.Defs
public import Idealize.ShloMosaic.Adequacy
public import Idealize.ShloMosaic.Init

@[expose] public section

set_option maxRecDepth 16384

noncomputable section

/-! The feed-forward input's gradient: the call's result is the reference's. -/

namespace Cert.UpdxMain

open Idealize.ShloMosaic Idealize.ShloMosaic.TcCoe Idealize.SL.Sem
open Cert.UpdxRefIdeal Cert.UpdxRefIdeal.Gen

/-- A sum over 8192 places is the sum over four stretches of 2048. -/
theorem sum_stretches (f : Fin 8192 → EReal) : ∑ k, f k = ∑ q : Fin 4, ∑ k : Fin 2048, f ⟨q.val * 2048 + k.val, by omega⟩ := by
  rw [← (finProdFinEquiv : Fin 4 × Fin 2048 ≃ Fin (4 * 2048)).sum_comp, Fintype.sum_prod_type]
  refine Finset.sum_congr rfl fun q _ => Finset.sum_congr rfl fun k _ => congrArg f (Fin.ext ?_)
  show k.val + 2048 * q.val = q.val * 2048 + k.val
  omega

/-- An entry of the reference's result. -/
theorem ref_at (A : FVec Ideal S2048x8192 .bf16) (W : FVec Ideal S2048x8192 .f32) (i j : Fin 2048) :
    Host.dotGeneral dot_S2048x8192_S2048x8192_S2048x2048_1_1_0_0_n_n none (extf .f32 A bitsLt_bf16_f32) W (ix2 i j)
      = ∑ k : Fin 8192, A (ix2 i k) * W (ix2 j k) := by pointwise

variable (m : (ℓ : Loc Cert.UpdxIdeal.nD Cert.UpdxIdeal.τ Cert.UpdxIdeal.sig) → Buf (Elt Ideal) ℓ) (c : Dev Cert.UpdxIdeal.nD)

/-- The gradient of the product up, as an array of entries. -/
abbrev aD : S2048x8192.Idx → EReal := m ((c.tc : Thread Cert.UpdxIdeal.nD Cert.UpdxIdeal.τ).loc Cert.UpdxIdeal.main_arg0)
/-- The weights up. -/
abbrev aU : S2048x8192.Idx → EReal := m ((c.tc : Thread Cert.UpdxIdeal.nD Cert.UpdxIdeal.τ).loc Cert.UpdxIdeal.main_arg1)

/-- An entry of a matrix cut in slabs of its columns. -/
theorem slab_of (w : FVec Ideal Cert.UpdxIdeal.S2048x8192 .f32) (s : Fin 4) (k j : Fin 2048) :
    transpose Cert.UpdxIdeal.S4x2048x2048 [1, 0, 2] (shapeCast Cert.UpdxIdeal.S2048x4x2048 (truncf .bf16 w Cert.UpdxIdeal.Gen.bitsLt_bf16_f32)
      Cert.UpdxIdeal.Gen.shapeCasts_S2048x8192_S2048x4x2048) Cert.UpdxIdeal.Gen.transposes_S2048x4x2048_S4x2048x2048_1_0_2 (ix3 s k j)
      = w (ix2 k ⟨s.val * 2048 + j.val, by omega⟩) := by pointwise

/-- The weights up in slabs, as the call finds them. -/
theorem slab (s : Fin 4) (k j : Fin 2048) :
    (Cert.UpdxIdeal.Gen.V m c Cert.UpdxIdeal.main_v2 : Cert.UpdxIdeal.S4x2048x2048.Idx → EReal) (ix3 s k j) = aU m c (ix2 k ⟨s.val * 2048 + j.val, by omega⟩) := by
  entry_read
  exact slab_of _ s k j

/-- The gradient of the product up, as the call finds it. -/
theorem arg0 : Cert.UpdxIdeal.Gen.V m c Cert.UpdxIdeal.main_arg0 = aD m c := by
  entry_read
  rfl

/-- The call's result is the reference's. -/
theorem same (A : FVec Ideal S2048x8192 .bf16) (W : FVec Ideal S2048x8192 .f32) (hA : A = aD m c) (hW : W = aU m c) (X : FVec Ideal S2048x2048 .f32)
    (hX : X = Host.dotGeneral dot_S2048x8192_S2048x8192_S2048x2048_1_1_0_0_n_n none (extf .f32 A bitsLt_bf16_f32) W) :
    (Cert.UpdxIdeal.Gen.dats m 0 c).arrAt 2 Cert.UpdxIdeal.cfg0.N = X := by
  subst hX
  refine Cert.UpdxIdeal.Prod.final m c _ _ (arg0 m c) rfl _ fun i j => (ref_at A W i j).trans ((sum_stretches _).trans ?_)
  refine Finset.sum_congr rfl fun q _ => Finset.sum_congr rfl fun k _ => ?_
  rw [slab m c q j k]
  subst hA hW; rfl

attribute [local instance] Cert.UpdxIdeal.Gen.facts Cert.UpdxRefIdeal.Gen.facts in
/-- From arguments that agree, the call's result is the reference's. -/
theorem algebraic : Cert.algebraic_UpdxIdeal_UpdxRefIdeal := by
  pair_intro
  · run_from Cert.UpdxIdeal.Value.run_blocks m g
  · run_from Cert.UpdxRefIdeal.Value.run m' g'
    exact (same m _ _ _ rfl rfl _ rfl).symm

end Cert.UpdxMain

end
-- ==== Proof.DownKer.lean ====
module

public import proofs.«01_k».proof.Proof.Gen.DownIdeal.Value
public import Idealize.ShloMosaic.Lib.Pipeline.ValueKit

@[expose] public section

set_option maxRecDepth 16384

noncomputable section

/-! The feed-forward product down: two grid points run through the contracted axis, the first filling the carried buffer and the second
writing the sum. -/

namespace Cert.DownIdeal.Prod

open Idealize.ShloMosaic Idealize.ShloMosaic.TcCoe Idealize.SL.Sem
open Cert.DownIdeal Cert.DownIdeal.Gen

variable (m : (ℓ : Loc nD τ sig) → Buf (Elt Ideal) ℓ) (c : Dev nD)

/-- The offsets of a store of a whole block of two axes. -/
theorem off2 : (![0, 0] : Fin 2 → ℕ) = fun _ => 0 := by decide
/-- The block indices of the windows at each grid point. -/
theorem idx : ∀ t : Fin cfg0.N, win0_0.index t = ![t.val / 4, t.val % 2] ∧ win0_1.index t = ![t.val % 2, t.val % 4 / 2]
    ∧ win0_2.index t = ![t.val / 4, t.val % 4 / 2] :=
  (by decide +kernel : ∀ t : Fin grid0.N, _)

/-- An entry of the block's product. -/
theorem pay1 (x : S1024x4096.Idx → EReal) (y : S4096x1024.Idx → EReal) (i j : Fin 1024) :
    k0_pay1 (F := Ideal) x y (ix2 i j) = ∑ k : Fin 4096, x (ix2 i k) * y (ix2 k j) := by pointwise [k0_pay1]
/-- What the first point of two leaves in the carried buffer. -/
theorem pay2 (x : S1024x4096.Idx → EReal) (y : S4096x1024.Idx → EReal) (i j : Fin 1024) :
    k0_pay2 (F := Ideal) x y (ix2 i j) = ∑ k : Fin 4096, x (ix2 i k) * y (ix2 k j) := by
  refine Eq.trans ?_ (pay1 x y i j)
  unfold k0_pay2
  generalize k0_pay1 (F := Ideal) x y = z
  pointwise
/-- What the last point writes. -/
theorem pay4 (x : S1024x4096.Idx → EReal) (y : S4096x1024.Idx → EReal) (a : S1024x1024.Idx → EReal) (i j : Fin 1024) :
    k0_pay4 (F := Ideal) x y a (ix2 i j) = a (ix2 i j) + ∑ k : Fin 4096, x (ix2 i k) * y (ix2 k j) := by
  refine Eq.trans ?_ (congrArg (a (ix2 i j) + ·) (pay1 x y i j))
  unfold k0_pay4
  generalize k0_pay1 (F := Ideal) x y = z
  pointwise

variable (t : Fin cfg0.N)

/-- The carried buffer after the first point of two. -/
theorem carried_A (h : t.val % 2 = 0) : (outsAt0 m c t.val t.isLt).2 = k0_pay2 (iblk m c 0 t) (iblk m c 1 t) := by
  rw [outsAt0_A m c t h (by omega)]
  dsimp only
  unfold sout0_A_0
  rw [View.read_writes_eq_canon _ _ _ (scover0_A_0 _ _ _ _ _ _ _ _ _ _ _ _ _ _ _)]
  unfold kernelRun0_A
  dsimp only
  rw [View.canon_unit_zero off2]
  simp only [View.readAt_eq_ld, Memref.IsWhole.read_unread, View.ld_unit_zero (S := S1024x4096) off2, View.ld_unit_zero (S := S4096x1024) off2]

/-- The block that the second point of two writes. -/
theorem written_B (h : t.val % 2 = 1) :
    (outsAt0 m c t.val t.isLt).1 = k0_pay4 (iblk m c 0 t) (iblk m c 1 t) (outsAt0 m c (t.val - 1) (by have := t.isLt; omega)).2 := by
  rw [outsAt0_B m c t (by omega) h]
  dsimp only
  unfold out0_B_2
  rw [View.read_writes_eq_canon _ _ _ (cover0_B_2 _ _ _ _ _ _ _ _ _ _ _ _ _ _ _ _)]
  unfold kernelRun0_B
  dsimp only
  rw [View.canon_unit_zero off2]
  simp only [View.readAt_eq_ld, Memref.IsWhole.read_unread, View.ld_unit_zero (S := S1024x4096) off2, View.ld_unit_zero (S := S4096x1024) off2, View.ld_unit_zero (S := S1024x1024) off2]
  exact congrArg _ ((Memref.isWhole_whole cc0_scratch0).read_unread _)

/-! ## The result array -/

/-- One point's share of an entry, given by the arrays. -/
theorem part (A : S2048x8192.Idx → EReal) (B : S8192x2048.Idx → EReal) (hA : V m c main_arg0 = A) (hB : V m c main_v0 = B)
    (x : S1024x4096.Idx → EReal) (y : S4096x1024.Idx → EReal) (hx : x = iblk m c 0 t) (hy : y = iblk m c 1 t)
    (q a b : Fin 2) (ht : t.val = a.val * 4 + b.val * 2 + q.val) (i j : Fin 1024) :
    (∑ k : Fin 4096, x (ix2 i k) * y (ix2 k j))
      = ∑ k : Fin 4096, A (ix2 ⟨a.val * 1024 + i.val, by omega⟩ ⟨q.val * 4096 + k.val, by omega⟩) * B (ix2 ⟨q.val * 4096 + k.val, by omega⟩ ⟨b.val * 1024 + j.val, by omega⟩) := by
  subst hA hB hx hy
  have e0 : t.val / 4 = a.val := by omega
  have e1 : t.val % 2 = q.val := by omega
  have e2 : t.val % 4 / 2 = b.val := by omega
  refine Finset.sum_congr rfl fun k _ => congrArg₂ (· * ·) ?_ ?_
  · blk_ext [iblk, V, idx t, e0, e1, e2]
  · blk_ext [iblk, V, idx t, e0, e1, e2]

/-- The call's result array: the two shares, added in order. -/
theorem final (A : S2048x8192.Idx → EReal) (B : S8192x2048.Idx → EReal) (hA : V m c main_arg0 = A) (hB : V m c main_v0 = B)
    (X : FVec Ideal S2048x2048 .f32)
    (hX : ∀ i j : Fin 2048, X (ix2 i j) = ∑ q : Fin 2, ∑ k : Fin 4096, A (ix2 i ⟨q.val * 4096 + k.val, by omega⟩) * B (ix2 ⟨q.val * 4096 + k.val, by omega⟩ j)) :
    (dats m 0 c).arrAt 2 cfg0.N = X := by
  refine (dats m 0 c).arrAt_eq_of_covers 2 _ (by decide +kernel) fun t hf y => ?_
  have ht : t.val < 8 := t.isLt
  have hN : cfg0.N = 8 := N_0
  have h1 : t.val % 2 = 1 := (by decide +kernel : ∀ t : Fin cfg0.N, (cfg0.win 2).flush t = true → t.val % 2 = 1) t hf
  have hy0 : (y 0).val < 1024 := (y 0).isLt
  have hy1 : (y 1).val < 1024 := (y 1).isLt
  blk_simp
  rw [after0_2, written_B m c t h1, carried_A m c ⟨t.val - 1, by omega⟩ (by dsimp only; omega)]
  have e : (win0_2.blk t).view.emb y = (ix2 ⟨t.val / 4 * 1024 + (y 0).val, by omega⟩ ⟨t.val % 4 / 2 * 1024 + (y 1).val, by omega⟩ : S2048x2048.Idx) := by
    blk_ext [idx t]
  have ey : y = (ix2 ⟨(y 0).val, hy0⟩ ⟨(y 1).val, hy1⟩ : S1024x1024.Idx) := by blk_ext
  refine Eq.trans ?_ ((congrArg X e).trans (hX _ _)).symm
  have p := fun (n : ℕ) (h : n < cfg0.N) (q : Fin 2) (hq : n = t.val / 4 * 4 + t.val % 4 / 2 * 2 + q.val) =>
    part m c ⟨n, h⟩ A B hA hB _ _ rfl rfl q ⟨t.val / 4, by omega⟩ ⟨t.val % 4 / 2, by omega⟩ hq ⟨(y 0).val, hy0⟩ ⟨(y 1).val, hy1⟩
  refine (congrArg (k0_pay4 _ _ _) ey).trans ((pay4 _ _ _ _ _).trans ?_)
  rw [Fin.sum_univ_two]
  refine congrArg₂ (fun a b : EReal => a + b) ((pay2 _ _ _ _).trans (p _ _ 0 ?_)) (p _ _ 1 ?_)
  all_goals (dsimp only [Fin.isValue]; simp only [Fin.coe_ofNat_eq_mod]; omega)

end Cert.DownIdeal.Prod

end
-- ==== Proof.DownMain.lean ====
module

public import proofs.«01_k».proof.Proof.DownKer
public import proofs.«01_k».proof.Proof.Gen.DownRefIdeal.Run
public import proofs.«01_k».proof.Defs
public import Idealize.ShloMosaic.Adequacy
public import Idealize.ShloMosaic.Init

@[expose] public section

set_option maxRecDepth 16384

noncomputable section

/-! The feed-forward product down: the call's result is the reference's. -/

namespace Cert.DownMain

open Idealize.ShloMosaic Idealize.ShloMosaic.TcCoe Idealize.SL.Sem
open Cert.DownRefIdeal Cert.DownRefIdeal.Gen

/-- A sum over 8192 places is the sum over two stretches of 4096. -/
theorem sum_stretches (f : Fin 8192 → EReal) : ∑ k, f k = ∑ q : Fin 2, ∑ k : Fin 4096, f ⟨q.val * 4096 + k.val, by omega⟩ := by
  rw [← (finProdFinEquiv : Fin 2 × Fin 4096 ≃ Fin (2 * 4096)).sum_comp, Fintype.sum_prod_type]
  refine Finset.sum_congr rfl fun q _ => Finset.sum_congr rfl fun k _ => congrArg f (Fin.ext ?_)
  show k.val + 4096 * q.val = q.val * 4096 + k.val
  omega

/-- An entry of the reference's result. -/
theorem ref_at (A : FVec Ideal S2048x8192 .bf16) (W : FVec Ideal S8192x2048 .f32) (i j : Fin 2048) :
    Host.dotGeneral dot_S2048x8192_S8192x2048_S2048x2048_1_0_0_1_n_n none (extf .f32 A bitsLt_bf16_f32) W (ix2 i j)
      = ∑ k : Fin 8192, A (ix2 i k) * W (ix2 k j) := by pointwise

variable (m : (ℓ : Loc Cert.DownIdeal.nD Cert.DownIdeal.τ Cert.DownIdeal.sig) → Buf (Elt Ideal) ℓ) (c : Dev Cert.DownIdeal.nD)

/-- The activation, as an array of entries. -/
abbrev aD : S2048x8192.Idx → EReal := m ((c.tc : Thread Cert.DownIdeal.nD Cert.DownIdeal.τ).loc Cert.DownIdeal.main_arg0)
/-- The weights down. -/
abbrev aU : S8192x2048.Idx → EReal := m ((c.tc : Thread Cert.DownIdeal.nD Cert.DownIdeal.τ).loc Cert.DownIdeal.main_arg1)

/-- The activation, as the call finds it. -/
theorem arg0 : Cert.DownIdeal.Gen.V m c Cert.DownIdeal.main_arg0 = aD m c := by
  entry_read
  rfl

/-- The weights down, as the call finds them. -/
theorem arg1 : Cert.DownIdeal.Gen.V m c Cert.DownIdeal.main_v0 = aU m c := by
  entry_read
  rfl

/-- The call's result is the reference's. -/
theorem same (A : FVec Ideal S2048x8192 .bf16) (W : FVec Ideal S8192x2048 .f32) (hA : A = aD m c) (hW : W = aU m c) (X : FVec Ideal S2048x2048 .f32)
    (hX : X = Host.dotGeneral dot_S2048x8192_S8192x2048_S2048x2048_1_0_0_1_n_n none (extf .f32 A bitsLt_bf16_f32) W) :
    (Cert.DownIdeal.Gen.dats m 0 c).arrAt 2 Cert.DownIdeal.cfg0.N = X := by
  subst hX
  refine Cert.DownIdeal.Prod.final m c _ _ (arg0 m c) (arg1 m c) _ fun i j => (ref_at A W i j).trans ((sum_stretches _).trans ?_)
  subst hA hW; rfl

attribute [local instance] Cert.DownIdeal.Gen.facts Cert.DownRefIdeal.Gen.facts in
/-- From arguments that agree, the call's result is the reference's. -/
theorem algebraic : Cert.algebraic_DownIdeal_DownRefIdeal := by
  pair_intro
  · run_from Cert.DownIdeal.Value.run_blocks m g
  · run_from Cert.DownRefIdeal.Value.run m' g'
    exact (same m _ _ _ rfl rfl _ rfl).symm

end Cert.DownMain

end
-- ==== Proof.IndxKer.lean ====
module

public import proofs.«01_k».proof.Proof.Gen.IndxIdeal.Value
public import Idealize.ShloMosaic.Lib.Pipeline.ValueKit

@[expose] public section

set_option maxRecDepth 16384

noncomputable section

/-! The product that gives the gradient of the mixers' input: four grid points run through the contracted axis, the first three adding into
the carried buffer and the fourth writing the sum. -/

namespace Cert.IndxIdeal.Prod

open Idealize.ShloMosaic Idealize.ShloMosaic.TcCoe Idealize.SL.Sem
open Cert.IndxIdeal Cert.IndxIdeal.Gen

variable (m : (ℓ : Loc nD τ sig) → Buf (Elt Ideal) ℓ) (c : Dev nD)

/-- The offsets of a store of a whole block of two axes. -/
theorem off2 : (![0, 0] : Fin 2 → ℕ) = fun _ => 0 := by decide
/-- The offsets of a store of a whole block of three axes. -/
theorem off3 : (![0, 0, 0] : Fin 3 → ℕ) = fun _ => 0 := by decide

/-- The block indices of the windows at each grid point. -/
theorem idx : ∀ t : Fin cfg0.N, win0_0.index t = ![t.val / 8, t.val % 4] ∧ win0_1.index t = ![t.val % 4, t.val % 8 / 4, 0]
    ∧ win0_2.index t = ![t.val / 8, t.val % 8 / 4] :=
  (by decide +kernel : ∀ t : Fin grid0.N, _)

/-- An entry of the block's product. -/
theorem pay1 (x : S1024x896.Idx → EReal) (y : S1x1024x896.Idx → EReal) (i j : Fin 1024) :
    k0_pay1 (F := Ideal) x y (ix2 i j) = ∑ k : Fin 896, x (ix2 i k) * y (ix3 0 j k) := by pointwise [k0_pay1]
/-- What the first point of four leaves in the carried buffer. -/
theorem pay2 (x : S1024x896.Idx → EReal) (y : S1x1024x896.Idx → EReal) (i j : Fin 1024) :
    k0_pay2 (F := Ideal) x y (ix2 i j) = ∑ k : Fin 896, x (ix2 i k) * y (ix3 0 j k) := by
  refine Eq.trans ?_ (pay1 x y i j)
  unfold k0_pay2
  generalize k0_pay1 (F := Ideal) x y = z
  pointwise
/-- What a middle point adds to the carried buffer. -/
theorem pay3 (x : S1024x896.Idx → EReal) (y : S1x1024x896.Idx → EReal) (a : S1024x1024.Idx → EReal) (i j : Fin 1024) :
    k0_pay3 (F := Ideal) x y a (ix2 i j) = a (ix2 i j) + ∑ k : Fin 896, x (ix2 i k) * y (ix3 0 j k) := by
  refine Eq.trans ?_ (congrArg (a (ix2 i j) + ·) (pay1 x y i j))
  unfold k0_pay3
  generalize k0_pay1 (F := Ideal) x y = z
  pointwise
/-- What the last point writes. -/
theorem pay4 (x : S1024x896.Idx → EReal) (y : S1x1024x896.Idx → EReal) (a : S1024x1024.Idx → EReal) (i j : Fin 1024) :
    k0_pay4 (F := Ideal) x y a (ix2 i j) = a (ix2 i j) + ∑ k : Fin 896, x (ix2 i k) * y (ix3 0 j k) := by
  refine Eq.trans ?_ (congrArg (a (ix2 i j) + ·) (pay1 x y i j))
  unfold k0_pay4
  generalize k0_pay1 (F := Ideal) x y = z
  pointwise

variable (t : Fin cfg0.N)

/-- The carried buffer after the first point of four. -/
theorem carried_A (h : t.val % 4 = 0) : (outsAt0 m c t.val t.isLt).2 = k0_pay2 (iblk m c 0 t) (iblk m c 1 t) := by
  rw [outsAt0_A m c t h (by omega) (by omega)]
  dsimp only
  unfold sout0_A_0
  rw [View.read_writes_eq_canon _ _ _ (scover0_A_0 _ _ _ _ _ _ _ _ _ _ _ _ _ _ _)]
  unfold kernelRun0_A
  dsimp only
  rw [View.canon_unit_zero off2]
  simp only [View.readAt_eq_ld, Memref.IsWhole.read_unread, View.ld_unit_zero (S := S1024x896) off2, View.ld_unit_zero (S := S1x1024x896) off3]

/-- The carried buffer after a middle point. -/
theorem carried_B (h : 1 ≤ t.val % 4 ∧ t.val % 4 ≤ 2) :
    (outsAt0 m c t.val t.isLt).2 = k0_pay3 (iblk m c 0 t) (iblk m c 1 t) (outsAt0 m c (t.val - 1) (by have := t.isLt; omega)).2 := by
  rw [outsAt0_B m c t (by omega) h (by omega)]
  dsimp only
  unfold sout0_B_0
  rw [View.read_writes_eq_canon _ _ _ (scover0_B_0 _ _ _ _ _ _ _ _ _ _ _ _ _ _ _ _)]
  unfold kernelRun0_B
  dsimp only
  rw [View.canon_unit_zero off2]
  simp only [View.readAt_eq_ld, Memref.IsWhole.read_unread, View.ld_unit_zero (S := S1024x896) off2, View.ld_unit_zero (S := S1x1024x896) off3, View.ld_unit_zero (S := S1024x1024) off2]
  exact congrArg _ ((Memref.isWhole_whole cc0_scratch0).read_unread _)

/-- The block that the last point of four writes. -/
theorem written_C (h : t.val % 4 = 3) :
    (outsAt0 m c t.val t.isLt).1 = k0_pay4 (iblk m c 0 t) (iblk m c 1 t) (outsAt0 m c (t.val - 1) (by have := t.isLt; omega)).2 := by
  rw [outsAt0_C m c t (by omega) (by omega) h]
  dsimp only
  unfold out0_C_2
  rw [View.read_writes_eq_canon _ _ _ (cover0_C_2 _ _ _ _ _ _ _ _ _ _ _ _ _ _ _ _)]
  unfold kernelRun0_C
  dsimp only
  rw [View.canon_unit_zero off2]
  simp only [View.readAt_eq_ld, Memref.IsWhole.read_unread, View.ld_unit_zero (S := S1024x896) off2, View.ld_unit_zero (S := S1x1024x896) off3, View.ld_unit_zero (S := S1024x1024) off2]
  exact congrArg _ ((Memref.isWhole_whole cc0_scratch0).read_unread _)

/-! ## The result array -/

/-- One point's share of an entry, given by the arrays. -/
theorem part (A : S2048x3584.Idx → EReal) (B : S4x2048x896.Idx → EReal) (hA : V m c main_arg0 = A) (hB : V m c main_v2 = B)
    (x : S1024x896.Idx → EReal) (y : S1x1024x896.Idx → EReal) (hx : x = iblk m c 0 t) (hy : y = iblk m c 1 t)
    (q : Fin 4) (a b : Fin 2) (ht : t.val = a.val * 8 + b.val * 4 + q.val) (i j : Fin 1024) :
    (∑ k : Fin 896, x (ix2 i k) * y (ix3 0 j k))
      = ∑ k : Fin 896, A (ix2 ⟨a.val * 1024 + i.val, by omega⟩ ⟨q.val * 896 + k.val, by omega⟩) * B (ix3 q ⟨b.val * 1024 + j.val, by omega⟩ k) := by
  subst hA hB hx hy
  have e0 : t.val / 8 = a.val := by omega
  have e1 : t.val % 4 = q.val := by omega
  have e2 : t.val % 8 / 4 = b.val := by omega
  refine Finset.sum_congr rfl fun k _ => congrArg₂ (· * ·) ?_ ?_
  · blk_ext [iblk, V, idx t, e0, e1, e2]
  · blk_ext [iblk, V, idx t, e0, e1, e2]

/-- The call's result array: the four shares, added in order. -/
theorem final (A : S2048x3584.Idx → EReal) (B : S4x2048x896.Idx → EReal) (hA : V m c main_arg0 = A) (hB : V m c main_v2 = B)
    (X : FVec Ideal S2048x2048 .f32)
    (hX : ∀ i j : Fin 2048, X (ix2 i j) = ∑ q : Fin 4, ∑ k : Fin 896, A (ix2 i ⟨q.val * 896 + k.val, by omega⟩) * B (ix3 q j k)) :
    (dats m 0 c).arrAt 2 cfg0.N = X := by
  refine (dats m 0 c).arrAt_eq_of_covers 2 _ (by decide +kernel) fun t hf y => ?_
  have ht : t.val < 16 := t.isLt
  have hN : cfg0.N = 16 := N_0
  have h3 : t.val % 4 = 3 := (by decide +kernel : ∀ t : Fin cfg0.N, (cfg0.win 2).flush t = true → t.val % 4 = 3) t hf
  have hy0 : (y 0).val < 1024 := (y 0).isLt
  have hy1 : (y 1).val < 1024 := (y 1).isLt
  blk_simp
  rw [after0_2, written_C m c t h3,
    carried_B m c ⟨t.val - 1, by omega⟩ (by dsimp only; omega),
    carried_B m c ⟨t.val - 1 - 1, by omega⟩ (by dsimp only; omega),
    carried_A m c ⟨t.val - 1 - 1 - 1, by omega⟩ (by dsimp only; omega)]
  have e : (win0_2.blk t).view.emb y = (ix2 ⟨t.val / 8 * 1024 + (y 0).val, by omega⟩ ⟨t.val % 8 / 4 * 1024 + (y 1).val, by omega⟩ : S2048x2048.Idx) := by
    blk_ext [idx t]
  have ey : y = (ix2 ⟨(y 0).val, hy0⟩ ⟨(y 1).val, hy1⟩ : S1024x1024.Idx) := by blk_ext
  refine Eq.trans ?_ ((congrArg X e).trans (hX _ _)).symm
  have p := fun (n : ℕ) (h : n < cfg0.N) (q : Fin 4) (hq : n = t.val / 8 * 8 + t.val % 8 / 4 * 4 + q.val) =>
    part m c ⟨n, h⟩ A B hA hB _ _ rfl rfl q ⟨t.val / 8, by omega⟩ ⟨t.val % 8 / 4, by omega⟩ hq ⟨(y 0).val, hy0⟩ ⟨(y 1).val, hy1⟩
  refine (congrArg (k0_pay4 _ _ _) ey).trans ((pay4 _ _ _ _ _).trans ?_)
  rw [Fin.sum_univ_four]
  refine congrArg₂ (fun a b : EReal => a + b) ((pay3 _ _ _ _ _).trans (congrArg₂ (fun a b : EReal => a + b) ((pay3 _ _ _ _ _).trans
    (congrArg₂ (fun a b : EReal => a + b) ((pay2 _ _ _ _).trans (p _ _ 0 ?_)) (p _ _ 1 ?_))) (p _ _ 2 ?_))) (p _ _ 3 ?_)
  all_goals (dsimp only [Fin.isValue]; simp only [Fin.coe_ofNat_eq_mod]; omega)

end Cert.IndxIdeal.Prod

end
-- ==== Proof.IndxMain.lean ====
module

public import proofs.«01_k».proof.Proof.IndxKer
public import proofs.«01_k».proof.Proof.Gen.IndxRefIdeal.Run
public import proofs.«01_k».proof.Defs
public import Idealize.ShloMosaic.Adequacy
public import Idealize.ShloMosaic.Init

@[expose] public section

set_option maxRecDepth 16384

noncomputable section

/-! The gradient of the mixers' input: the call's result is the reference's. -/

namespace Cert.IndxMain

open Idealize.ShloMosaic Idealize.ShloMosaic.TcCoe Idealize.SL.Sem
open Cert.IndxRefIdeal Cert.IndxRefIdeal.Gen

/-- A sum over 3584 places is the sum over four stretches of 896. -/
theorem sum_stretches (f : Fin 3584 → EReal) : ∑ k, f k = ∑ q : Fin 4, ∑ k : Fin 896, f ⟨q.val * 896 + k.val, by omega⟩ := by
  rw [← (finProdFinEquiv : Fin 4 × Fin 896 ≃ Fin (4 * 896)).sum_comp, Fintype.sum_prod_type]
  refine Finset.sum_congr rfl fun q _ => Finset.sum_congr rfl fun k _ => congrArg f (Fin.ext ?_)
  show k.val + 896 * q.val = q.val * 896 + k.val
  omega

/-- An entry of the reference's result. -/
theorem ref_at (A : FVec Ideal S2048x3584 .bf16) (W : FVec Ideal S2048x3584 .f32) (i j : Fin 2048) :
    Host.dotGeneral dot_S2048x3584_S2048x3584_S2048x2048_1_1_0_0_n_n none (extf .f32 A bitsLt_bf16_f32) W (ix2 i j)
      = ∑ k : Fin 3584, A (ix2 i k) * W (ix2 j k) := by pointwise

variable (m : (ℓ : Loc Cert.IndxIdeal.nD Cert.IndxIdeal.τ Cert.IndxIdeal.sig) → Buf (Elt Ideal) ℓ) (c : Dev Cert.IndxIdeal.nD)

/-- The gradient of the mixers' projections, as an array of entries. -/
abbrev aD : S2048x3584.Idx → EReal := m ((c.tc : Thread Cert.IndxIdeal.nD Cert.IndxIdeal.τ).loc Cert.IndxIdeal.main_arg0)
/-- The projections' weights. -/
abbrev aU : S2048x3584.Idx → EReal := m ((c.tc : Thread Cert.IndxIdeal.nD Cert.IndxIdeal.τ).loc Cert.IndxIdeal.main_arg1)

/-- An entry of a matrix cut in slabs of its columns. -/
theorem slab_of (w : FVec Ideal Cert.IndxIdeal.S2048x3584 .f32) (s : Fin 4) (k : Fin 2048) (j : Fin 896) :
    transpose Cert.IndxIdeal.S4x2048x896 [1, 0, 2] (shapeCast Cert.IndxIdeal.S2048x4x896 (truncf .bf16 w Cert.IndxIdeal.Gen.bitsLt_bf16_f32)
      Cert.IndxIdeal.Gen.shapeCasts_S2048x3584_S2048x4x896) Cert.IndxIdeal.Gen.transposes_S2048x4x896_S4x2048x896_1_0_2 (ix3 s k j)
      = w (ix2 k ⟨s.val * 896 + j.val, by omega⟩) := by pointwise

/-- The projections' weights in slabs, as the call finds them. -/
theorem slab (s : Fin 4) (k : Fin 2048) (j : Fin 896) :
    (Cert.IndxIdeal.Gen.V m c Cert.IndxIdeal.main_v2 : Cert.IndxIdeal.S4x2048x896.Idx → EReal) (ix3 s k j) = aU m c (ix2 k ⟨s.val * 896 + j.val, by omega⟩) := by
  entry_read
  exact slab_of _ s k j

/-- The gradient of the mixers' projections, as the call finds it. -/
theorem arg0 : Cert.IndxIdeal.Gen.V m c Cert.IndxIdeal.main_arg0 = aD m c := by
  entry_read
  rfl

/-- The call's result is the reference's. -/
theorem same (A : FVec Ideal S2048x3584 .bf16) (W : FVec Ideal S2048x3584 .f32) (hA : A = aD m c) (hW : W = aU m c) (X : FVec Ideal S2048x2048 .f32)
    (hX : X = Host.dotGeneral dot_S2048x3584_S2048x3584_S2048x2048_1_1_0_0_n_n none (extf .f32 A bitsLt_bf16_f32) W) :
    (Cert.IndxIdeal.Gen.dats m 0 c).arrAt 2 Cert.IndxIdeal.cfg0.N = X := by
  subst hX
  refine Cert.IndxIdeal.Prod.final m c _ _ (arg0 m c) rfl _ fun i j => (ref_at A W i j).trans ((sum_stretches _).trans ?_)
  refine Finset.sum_congr rfl fun q _ => Finset.sum_congr rfl fun k _ => ?_
  rw [slab m c q j k]
  subst hA hW; rfl

attribute [local instance] Cert.IndxIdeal.Gen.facts Cert.IndxRefIdeal.Gen.facts in
/-- From arguments that agree, the call's result is the reference's. -/
theorem algebraic : Cert.algebraic_IndxIdeal_IndxRefIdeal := by
  pair_intro
  · run_from Cert.IndxIdeal.Value.run_blocks m g
  · run_from Cert.IndxRefIdeal.Value.run m' g'
    exact (same m _ _ _ rfl rfl _ rfl).symm

end Cert.IndxMain

end
-- ==== Proof.MixRegions.lean ====
module

public import proofs.«01_k».proof.Proof.Gen.MixIdeal.Frame
public import Idealize.ShloMosaic.Lib.Pipeline.ValueKit

@[expose] public section

set_option maxRecDepth 16384

noncomputable section

/-! Five products of the mixers' part: each call's result array, entry by entry, as a sum over the contracted axis. -/

namespace Cert.MixIdeal.Prod

open Idealize.ShloMosaic Idealize.ShloMosaic.TcCoe Idealize.SL.Sem
open Cert.MixIdeal Cert.MixIdeal.Gen

variable (V : (c : Dev nD) → (b : Ref sig .tc) → Buf (Elt Ideal) ((c : Thread nD τ).loc b)) (c : Dev nD)

/-- The offsets of a store of a whole block of two axes. -/
theorem off2 : (![0, 0] : Fin 2 → ℕ) = fun _ => 0 := by decide
/-- The offsets of a store of a whole block of three axes. -/
theorem off3 : (![0, 0, 0] : Fin 3 → ℕ) = fun _ => 0 := by decide

/-! ## mm_in -/

/-- The block indices of the windows at each grid point. -/
theorem idx0 : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- An entry of the block's product. -/
theorem pay0 (x : S1024x2048.Idx → EReal) (y : S1x2048x896.Idx → EReal) (i : Fin 1024) (j : Fin 896) :
    k0_pay1 (F := Ideal) x y (ix2 i j) = ∑ k : Fin 2048, x (ix2 i k) * y (ix3 0 k j) := by pointwise [k0_pay1]

/-- The call's result array. -/
theorem final0 (A : S2048x2048.Idx → EReal) (B : S4x2048x896.Idx → EReal) (hA : V c main_arg0 = A) (hB : V c main_v3 = B)
    (X : S2048x3584.Idx → EReal) (hX : ∀ (i : Fin 2048) (s : Fin 4) (j : Fin 896), X (ix2 i ⟨s.val * 896 + j.val, by omega⟩) = ∑ k : Fin 2048, A (ix2 i k) * B (ix3 s k j)) :
    (dat0 V c).arrAt 2 cfg0.N = X := by
  subst hA hB
  refine (dat0 V c).arrAt_eq_of_covers 2 _ (by decide +kernel) fun t _ y => ?_
  blk_simp
  rw [after0_2, out0_2, View.canon_unit_zero off2, View.ld_unit_zero off2, View.ld_unit_zero off3]
  have ht : t.val < 8 := t.isLt
  have hy0 : (y 0).val < 1024 := (y 0).isLt
  have hy1 : (y 1).val < 896 := (y 1).isLt
  have e : (win0_2.blk t).view.emb y = (ix2 ⟨t.val / 4 * 1024 + (y 0).val, by omega⟩ ⟨t.val % 4 * 896 + (y 1).val, by omega⟩ : S2048x3584.Idx) := by
    blk_ext [idx0 t]
  have ey : y = (ix2 ⟨(y 0).val, hy0⟩ ⟨(y 1).val, hy1⟩ : S1024x896.Idx) := by blk_ext
  refine Eq.trans ?_ ((congrArg X e).trans (hX _ ⟨t.val % 4, by omega⟩ ⟨(y 1).val, hy1⟩)).symm
  refine (congrArg (k0_pay1 _ _) ey).trans ((pay0 _ _ _ _).trans (Finset.sum_congr rfl fun k _ => congrArg₂ (· * ·) ?_ ?_))
  · blk_ext [iblk0, idx0 t]
  · blk_ext [iblk0, idx0 t]

/-! ## mm_out -/

/-- The block indices of the windows at each grid point. -/
theorem idx1 : ∀ t : Fin cfg1.N, win1_0.index t = ![t.val / 2, 0] ∧ win1_1.index t = ![0, t.val % 2] ∧ win1_2.index t = ![t.val / 2, t.val % 2] :=
  (by decide +kernel : ∀ t : Fin grid1.N, _)

/-- An entry of the block's product. -/
theorem pay1 (x : S1024x2048.Idx → EReal) (y : S2048x1024.Idx → EReal) (i : Fin 1024) (j : Fin 1024) :
    k1_pay1 (F := Ideal) x y (ix2 i j) = ∑ k : Fin 2048, x (ix2 i k) * y (ix2 k j) := by pointwise [k1_pay1]

/-- The call's result array. -/
theorem final1 (A : S2048x2048.Idx → EReal) (B : S2048x2048.Idx → EReal) (hA : V c main_arg2 = A) (hB : V c main_v0 = B)
    (X : S2048x2048.Idx → EReal) (hX : ∀ (i : Fin 2048) (j : Fin 2048), X (ix2 i j) = ∑ k : Fin 2048, A (ix2 i k) * B (ix2 k j)) :
    (dat1 V c).arrAt 2 cfg1.N = X := by
  subst hA hB
  refine (dat1 V c).arrAt_eq_of_covers 2 _ (by decide +kernel) fun t _ y => ?_
  blk_simp
  rw [after1_2, out1_2, View.canon_unit_zero off2, View.ld_unit_zero off2, View.ld_unit_zero off2]
  have ht : t.val < 4 := t.isLt
  have hy0 : (y 0).val < 1024 := (y 0).isLt
  have hy1 : (y 1).val < 1024 := (y 1).isLt
  have e : (win1_2.blk t).view.emb y = (ix2 ⟨t.val / 2 * 1024 + (y 0).val, by omega⟩ ⟨t.val % 2 * 1024 + (y 1).val, by omega⟩ : S2048x2048.Idx) := by
    blk_ext [idx1 t]
  have ey : y = (ix2 ⟨(y 0).val, hy0⟩ ⟨(y 1).val, hy1⟩ : S1024x1024.Idx) := by blk_ext
  refine Eq.trans ?_ ((congrArg X e).trans (hX _ _)).symm
  refine (congrArg (k1_pay1 _ _) ey).trans ((pay1 _ _ _ _).trans (Finset.sum_congr rfl fun k _ => congrArg₂ (· * ·) ?_ ?_))
  · blk_ext [iblk1, idx1 t]
  · blk_ext [iblk1, idx1 t]

/-! ## mm_out_dw -/

/-- The block indices of the windows at each grid point. -/
theorem idx2 : ∀ t : Fin cfg2.N, win2_0.index t = ![0, t.val / 2] ∧ win2_1.index t = ![0, t.val % 2] ∧ win2_2.index t = ![t.val / 2, t.val % 2] :=
  (by decide +kernel : ∀ t : Fin grid2.N, _)

/-- An entry of the block's product. -/
theorem pay2 (x : S2048x1024.Idx → EReal) (y : S2048x1024.Idx → EReal) (i : Fin 1024) (j : Fin 1024) :
    k2_pay1 (F := Ideal) x y (ix2 i j) = ∑ k : Fin 2048, x (ix2 k i) * y (ix2 k j) := by pointwise [k2_pay1]

/-- The call's result array. -/
theorem final2 (A : S2048x2048.Idx → EReal) (B : S2048x2048.Idx → EReal) (hA : V c main_arg2 = A) (hB : V c main_arg4 = B)
    (X : S2048x2048.Idx → EReal) (hX : ∀ (i : Fin 2048) (j : Fin 2048), X (ix2 i j) = ∑ k : Fin 2048, A (ix2 k i) * B (ix2 k j)) :
    (dat2 V c).arrAt 2 cfg2.N = X := by
  subst hA hB
  refine (dat2 V c).arrAt_eq_of_covers 2 _ (by decide +kernel) fun t _ y => ?_
  blk_simp
  rw [after2_2, out2_2, View.canon_unit_zero off2, View.ld_unit_zero off2, View.ld_unit_zero off2]
  have ht : t.val < 4 := t.isLt
  have hy0 : (y 0).val < 1024 := (y 0).isLt
  have hy1 : (y 1).val < 1024 := (y 1).isLt
  have e : (win2_2.blk t).view.emb y = (ix2 ⟨t.val / 2 * 1024 + (y 0).val, by omega⟩ ⟨t.val % 2 * 1024 + (y 1).val, by omega⟩ : S2048x2048.Idx) := by
    blk_ext [idx2 t]
  have ey : y = (ix2 ⟨(y 0).val, hy0⟩ ⟨(y 1).val, hy1⟩ : S1024x1024.Idx) := by blk_ext
  refine Eq.trans ?_ ((congrArg X e).trans (hX _ _)).symm
  refine (congrArg (k2_pay1 _ _) ey).trans ((pay2 _ _ _ _).trans (Finset.sum_congr rfl fun k _ => congrArg₂ (· * ·) ?_ ?_))
  · blk_ext [iblk2, idx2 t]
  · blk_ext [iblk2, idx2 t]

/-! ## mm_out_dx -/

/-- The block indices of the windows at each grid point. -/
theorem idx3 : ∀ t : Fin cfg3.N, win3_0.index t = ![t.val / 2, 0] ∧ win3_1.index t = ![t.val % 2, 0] ∧ win3_2.index t = ![t.val / 2, t.val % 2] :=
  (by decide +kernel : ∀ t : Fin grid3.N, _)

/-- An entry of the block's product. -/
theorem pay3 (x : S1024x2048.Idx → EReal) (y : S1024x2048.Idx → EReal) (i : Fin 1024) (j : Fin 1024) :
    k3_pay1 (F := Ideal) x y (ix2 i j) = ∑ k : Fin 2048, x (ix2 i k) * y (ix2 j k) := by pointwise [k3_pay1]

/-- The call's result array. -/
theorem final3 (A : S2048x2048.Idx → EReal) (B : S2048x2048.Idx → EReal) (hA : V c main_arg4 = A) (hB : V c main_v0 = B)
    (X : S2048x2048.Idx → EReal) (hX : ∀ (i : Fin 2048) (j : Fin 2048), X (ix2 i j) = ∑ k : Fin 2048, A (ix2 i k) * B (ix2 j k)) :
    (dat3 V c).arrAt 2 cfg3.N = X := by
  subst hA hB
  refine (dat3 V c).arrAt_eq_of_covers 2 _ (by decide +kernel) fun t _ y => ?_
  blk_simp
  rw [after3_2, out3_2, View.canon_unit_zero off2, View.ld_unit_zero off2, View.ld_unit_zero off2]
  have ht : t.val < 4 := t.isLt
  have hy0 : (y 0).val < 1024 := (y 0).isLt
  have hy1 : (y 1).val < 1024 := (y 1).isLt
  have e : (win3_2.blk t).view.emb y = (ix2 ⟨t.val / 2 * 1024 + (y 0).val, by omega⟩ ⟨t.val % 2 * 1024 + (y 1).val, by omega⟩ : S2048x2048.Idx) := by
    blk_ext [idx3 t]
  have ey : y = (ix2 ⟨(y 0).val, hy0⟩ ⟨(y 1).val, hy1⟩ : S1024x1024.Idx) := by blk_ext
  refine Eq.trans ?_ ((congrArg X e).trans (hX _ _)).symm
  refine (congrArg (k3_pay1 _ _) ey).trans ((pay3 _ _ _ _).trans (Finset.sum_congr rfl fun k _ => congrArg₂ (· * ·) ?_ ?_))
  · blk_ext [iblk3, idx3 t]
  · blk_ext [iblk3, idx3 t]

/-! ## mm_in_dw -/

/-- The block indices of the windows at each grid point. -/
theorem idx4 : ∀ t : Fin cfg4.N, win4_0.index t = ![0, t.val / 4] ∧ win4_1.index t = ![0, t.val % 4] ∧ win4_2.index t = ![t.val % 4, t.val / 4, 0] :=
  (by decide +kernel : ∀ t : Fin grid4.N, _)

/-- An entry of the block's product. -/
theorem pay4 (x : S2048x1024.Idx → EReal) (y : S2048x896.Idx → EReal) (i : Fin 1024) (j : Fin 896) :
    k4_pay1 (F := Ideal) x y (ix3 0 i j) = ∑ k : Fin 2048, x (ix2 k i) * y (ix2 k j) := by pointwise [k4_pay1]

/-- The call's result array. -/
theorem final4 (A : S2048x2048.Idx → EReal) (B : S2048x3584.Idx → EReal) (hA : V c main_arg0 = A) (hB : V c main_arg5 = B)
    (X : S4x2048x896.Idx → EReal) (hX : ∀ (s : Fin 4) (i : Fin 2048) (j : Fin 896), X (ix3 s i j) = ∑ k : Fin 2048, A (ix2 k i) * B (ix2 k ⟨s.val * 896 + j.val, by omega⟩)) :
    (dat4 V c).arrAt 2 cfg4.N = X := by
  subst hA hB
  refine (dat4 V c).arrAt_eq_of_covers 2 _ (by decide +kernel) fun t _ y => ?_
  blk_simp
  rw [after4_2, out4_2, View.canon_unit_zero off3, View.ld_unit_zero off2, View.ld_unit_zero off2]
  have ht : t.val < 8 := t.isLt
  have hy0 : (y 1).val < 1024 := (y 1).isLt
  have hy1 : (y 2).val < 896 := (y 2).isLt
  have e : (win4_2.blk t).view.emb y = (ix3 ⟨t.val % 4, by omega⟩ ⟨t.val / 4 * 1024 + (y 1).val, by omega⟩ ⟨(y 2).val, by omega⟩ : S4x2048x896.Idx) := by
    blk_ext [idx4 t]
  have ey : y = (ix3 0 ⟨(y 1).val, hy0⟩ ⟨(y 2).val, hy1⟩ : S1x1024x896.Idx) := by blk_ext
  refine Eq.trans ?_ ((congrArg X e).trans (hX ⟨t.val % 4, by omega⟩ ⟨t.val / 4 * 1024 + (y 1).val, by omega⟩ ⟨(y 2).val, hy1⟩)).symm
  refine (congrArg (k4_pay1 _ _) ey).trans ((pay4 _ _ _ _).trans (Finset.sum_congr rfl fun k _ => congrArg₂ (· * ·) ?_ ?_))
  · blk_ext [iblk4, idx4 t]
  · blk_ext [iblk4, idx4 t]

end Cert.MixIdeal.Prod

end
-- ==== Proof.MixRun.lean ====
module

public import proofs.«01_k».proof.Proof.MixRegions
public import Idealize.ShloMosaic.Adequacy
public import Idealize.ShloMosaic.Init

@[expose] public section

set_option maxRecDepth 16384

noncomputable section

/-! The run of five products of the mixers' part: what the result arrays hold, and what each call finds. -/

namespace Cert.MixIdeal.Prod

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixIdeal Cert.MixIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs to its end, and every buffer of the main program ends as the last boundary's contents say. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- The program runs to its end, the results hold what the regions leave in them, and the arguments are unchanged. -/
theorem run : θ_run defs (onTc (τ := τ) (main (F := Ideal))) ⟨m, fun _ => 0, ρ⟩ (fun r => ∀ c : Dev nD,
      r.2.mem ((c.tc : Thread nD τ).loc main_v4) = (dat0 (V1 m ρ) c).arrAt 2 cfg0.N
      ∧ r.2.mem ((c.tc : Thread nD τ).loc main_v5) = (dat1 (V2 m ρ) c).arrAt 2 cfg1.N
      ∧ r.2.mem ((c.tc : Thread nD τ).loc main_v6) = (dat2 (V3 m ρ) c).arrAt 2 cfg2.N
      ∧ r.2.mem ((c.tc : Thread nD τ).loc main_v7) = (dat3 (V4 m ρ) c).arrAt 2 cfg3.N
      ∧ r.2.mem ((c.tc : Thread nD τ).loc main_v8) = (dat4 (V5 m ρ) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v4 (by decide))).trans ((W6_of m ρ c main_v4 (by decide)).trans ((W5_of m ρ c main_v4 (by decide)).trans ((W4_of m ρ c main_v4 (by decide)).trans ((W3_of m ρ c main_v4 (by decide)).trans (W2_arr m ρ c 2))))),
     (h c _ (mem_uc main_v5 (by decide))).trans ((W6_of m ρ c main_v5 (by decide)).trans ((W5_of m ρ c main_v5 (by decide)).trans ((W4_of m ρ c main_v5 (by decide)).trans (W3_arr m ρ c 2)))),
     (h c _ (mem_uc main_v6 (by decide))).trans ((W6_of m ρ c main_v6 (by decide)).trans ((W5_of m ρ c main_v6 (by decide)).trans (W4_arr m ρ c 2))),
     (h c _ (mem_uc main_v7 (by decide))).trans ((W6_of m ρ c main_v7 (by decide)).trans (W5_arr m ρ c 2)),
     (h c _ (mem_uc main_v8 (by decide))).trans (W6_arr m ρ c 2),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

/-! ## What each region finds -/

variable (c : Dev nD)

/-- The mixers' input, as an array of entries. -/
abbrev a0 : S2048x2048.Idx → EReal := m ((c.tc : Thread nD τ).loc main_arg0)
/-- The projections' weights. -/
abbrev a1 : S2048x3584.Idx → EReal := m ((c.tc : Thread nD τ).loc main_arg1)
/-- The mixers' output. -/
abbrev a2 : S2048x2048.Idx → EReal := m ((c.tc : Thread nD τ).loc main_arg2)
/-- The output weights. -/
abbrev a3 : S2048x2048.Idx → EReal := m ((c.tc : Thread nD τ).loc main_arg3)
/-- The incoming gradient. -/
abbrev a4 : S2048x2048.Idx → EReal := m ((c.tc : Thread nD τ).loc main_arg4)
/-- The projections' gradient. -/
abbrev a5 : S2048x3584.Idx → EReal := m ((c.tc : Thread nD τ).loc main_arg5)

/-- The mixers' input at the first region's entry. -/
theorem at1_0 : V1 m ρ c main_arg0 = a0 m c := W1_args m ρ c _ (by decide)
/-- The mixers' output at the second region's entry. -/
theorem at2_2 : V2 m ρ c main_arg2 = a2 m c := W2_args m ρ c _ (by decide)
/-- The mixers' output at the third region's entry. -/
theorem at3_2 : V3 m ρ c main_arg2 = a2 m c := W3_args m ρ c _ (by decide)
/-- The incoming gradient at the third region's entry. -/
theorem at3_4 : V3 m ρ c main_arg4 = a4 m c := W3_args m ρ c _ (by decide)
/-- The incoming gradient at the fourth region's entry. -/
theorem at4_4 : V4 m ρ c main_arg4 = a4 m c := W4_args m ρ c _ (by decide)
/-- The mixers' input at the last region's entry. -/
theorem at5_0 : V5 m ρ c main_arg0 = a0 m c := W5_args m ρ c _ (by decide)
/-- The projections' gradient at the last region's entry. -/
theorem at5_5 : V5 m ρ c main_arg5 = a5 m c := W5_args m ρ c _ (by decide)

/-- An entry of a matrix cut in slabs of its columns. -/
theorem slab_of (w : FVec Ideal S2048x3584 .f32) (s : Fin 4) (k : Fin 2048) (j : Fin 896) :
    transpose S4x2048x896 [1, 0, 2] (shapeCast S2048x4x896 (truncf .bf16 w bitsLt_bf16_f32) shapeCasts_S2048x3584_S2048x4x896)
      transposes_S2048x4x896_S4x2048x896_1_0_2 (ix3 s k j) = w (ix2 k ⟨s.val * 896 + j.val, by omega⟩) := by pointwise

/-- The projections' weights in slabs, at the first region's entry. -/
theorem slab_1 (s : Fin 4) (k : Fin 2048) (j : Fin 896) :
    (V1 m ρ c main_v3 : S4x2048x896.Idx → EReal) (ix3 s k j) = a1 m c (ix2 k ⟨s.val * 896 + j.val, by omega⟩) := by
  show (StableHlo.after hostOps0 (W0 m ρ c) (Proc.devRef .tc main_v3) : S4x2048x896.Idx → EReal) (ix3 s k j) = _
  entry_read
  exact slab_of _ s k j
/-- The output weights at the first region's entry. -/
theorem v0_1 : V1 m ρ c main_v0 = a3 m c := by
  refine funext fun i => ?_
  show (StableHlo.after hostOps0 (W0 m ρ c) (Proc.devRef .tc main_v0) : S2048x2048.Idx → EReal) i = _
  entry_read
  rfl
/-- The output weights at the second region's entry. -/
theorem v0_2 : V2 m ρ c main_v0 = a3 m c := (W2_of m ρ c main_v0 (by decide)).trans (v0_1 m ρ c)
/-- The output weights at the fourth region's entry. -/
theorem v0_4 : V4 m ρ c main_v0 = a3 m c :=
  (W4_of m ρ c main_v0 (by decide)).trans ((W3_of m ρ c main_v0 (by decide)).trans (v0_2 m ρ c))

end Cert.MixIdeal.Prod

end
-- ==== Proof.MixMain.lean ====
module

public import proofs.«01_k».proof.Proof.MixRun
public import proofs.«01_k».proof.Proof.Gen.MixRefIdeal.Run
public import proofs.«01_k».proof.Defs

@[expose] public section

set_option maxRecDepth 16384

noncomputable section

/-! The products of the mixers' part: the reference's entries, and the equality of its five results with those of the calls. -/

namespace Cert.MixMain

open Idealize.ShloMosaic Idealize.ShloMosaic.TcCoe Idealize.SL.Sem
open Cert.MixRefIdeal Cert.MixRefIdeal.Gen
open Cert.MixIdeal.Prod

variable (m : (ℓ : Loc Cert.MixIdeal.nD Cert.MixIdeal.τ Cert.MixIdeal.sig) → Buf (Elt Ideal) ℓ) (ρ : Dev Cert.MixIdeal.nD → PrngReg) (c : Dev Cert.MixIdeal.nD)

/-- An entry of the reference's projections. -/
theorem z_at (A : FVec Ideal S2048x2048 .bf16) (W : FVec Ideal S2048x3584 .f32) (i : Fin 2048) (j : Fin 3584) :
    (Host.dotGeneral dot_S2048x2048_S2048x3584_S2048x3584_1_0_0_1_n_n none (extf .f32 A bitsLt_bf16_f32) W : FVec Ideal S2048x3584 .f32) (ix2 i j)
      = ∑ k : Fin 2048, A (ix2 i k) * W (ix2 k j) := by
  pointwise

/-- The projections: the call's result is the reference's. -/
theorem same_z (A : FVec Ideal S2048x2048 .bf16) (W : FVec Ideal S2048x3584 .f32) (hA : A = a0 m c) (hW : W = a1 m c) (X : FVec Ideal S2048x3584 .f32)
    (hX : X = Host.dotGeneral dot_S2048x2048_S2048x3584_S2048x3584_1_0_0_1_n_n none (extf .f32 A bitsLt_bf16_f32) W) : (Cert.MixIdeal.Gen.dat0 (Cert.MixIdeal.Gen.V1 m ρ) c).arrAt 2 Cert.MixIdeal.cfg0.N = X := by
  subst hX
  refine final0 (Cert.MixIdeal.Gen.V1 m ρ) c _ _ (at1_0 m ρ c) rfl _ fun i s j => (z_at A W i _).trans (Finset.sum_congr rfl fun k _ => ?_)
  rw [slab_1 m ρ c s k j]
  subst hA hW; rfl

/-- An entry of the reference's output product. -/
theorem o_at (A : FVec Ideal S2048x2048 .bf16) (W : FVec Ideal S2048x2048 .f32) (i : Fin 2048) (j : Fin 2048) :
    (Host.dotGeneral dot_S2048x2048_S2048x2048_S2048x2048_1_0_0_1_n_n none (extf .f32 A bitsLt_bf16_f32) W : FVec Ideal S2048x2048 .f32) (ix2 i j)
      = ∑ k : Fin 2048, A (ix2 i k) * W (ix2 k j) := by
  pointwise

/-- The output product: the call's result is the reference's. -/
theorem same_o (A : FVec Ideal S2048x2048 .bf16) (W : FVec Ideal S2048x2048 .f32) (hA : A = a2 m c) (hW : W = a3 m c) (X : FVec Ideal S2048x2048 .f32)
    (hX : X = Host.dotGeneral dot_S2048x2048_S2048x2048_S2048x2048_1_0_0_1_n_n none (extf .f32 A bitsLt_bf16_f32) W) : (Cert.MixIdeal.Gen.dat1 (Cert.MixIdeal.Gen.V2 m ρ) c).arrAt 2 Cert.MixIdeal.cfg1.N = X := by
  subst hX
  refine final1 (Cert.MixIdeal.Gen.V2 m ρ) c _ _ (at2_2 m ρ c) (v0_2 m ρ c) _ fun i j => (o_at A W i j).trans ?_
  subst hA hW; rfl

/-- An entry of the reference's gradient of the output weights. -/
theorem dout_at (A : FVec Ideal S2048x2048 .bf16) (W : FVec Ideal S2048x2048 .bf16) (i : Fin 2048) (j : Fin 2048) :
    (truncf .bf16 (transpose S2048x2048 [1, 0] (Host.dotGeneral dot_S2048x2048_S2048x2048_S2048x2048_0_0_1_1_n_n none (extf .f32 W bitsLt_bf16_f32) (extf .f32 A bitsLt_bf16_f32)) transposes_S2048x2048_S2048x2048_1_0) bitsLt_bf16_f32 : FVec Ideal S2048x2048 .bf16) (ix2 i j)
      = ∑ k : Fin 2048, A (ix2 k i) * W (ix2 k j) := by
  pointwise
  exact Finset.sum_congr rfl fun k _ => mul_comm _ _

/-- The gradient of the output weights: the call's result is the reference's. -/
theorem same_dout (A : FVec Ideal S2048x2048 .bf16) (W : FVec Ideal S2048x2048 .bf16) (hA : A = a2 m c) (hW : W = a4 m c) (X : FVec Ideal S2048x2048 .bf16)
    (hX : X = truncf .bf16 (transpose S2048x2048 [1, 0] (Host.dotGeneral dot_S2048x2048_S2048x2048_S2048x2048_0_0_1_1_n_n none (extf .f32 W bitsLt_bf16_f32) (extf .f32 A bitsLt_bf16_f32)) transposes_S2048x2048_S2048x2048_1_0) bitsLt_bf16_f32) : (Cert.MixIdeal.Gen.dat2 (Cert.MixIdeal.Gen.V3 m ρ) c).arrAt 2 Cert.MixIdeal.cfg2.N = X := by
  subst hX
  refine final2 (Cert.MixIdeal.Gen.V3 m ρ) c _ _ (at3_2 m ρ c) (at3_4 m ρ c) _ fun i j => (dout_at A W i j).trans ?_
  subst hA hW; rfl

/-- An entry of the reference's gradient of the mixers' output. -/
theorem dy_at (A : FVec Ideal S2048x2048 .bf16) (W : FVec Ideal S2048x2048 .f32) (i : Fin 2048) (j : Fin 2048) :
    (Host.dotGeneral dot_S2048x2048_S2048x2048_S2048x2048_1_1_0_0_n_n none (extf .f32 A bitsLt_bf16_f32) W : FVec Ideal S2048x2048 .f32) (ix2 i j)
      = ∑ k : Fin 2048, A (ix2 i k) * W (ix2 j k) := by
  pointwise

/-- The gradient of the mixers' output: the call's result is the reference's. -/
theorem same_dy (A : FVec Ideal S2048x2048 .bf16) (W : FVec Ideal S2048x2048 .f32) (hA : A = a4 m c) (hW : W = a3 m c) (X : FVec Ideal S2048x2048 .f32)
    (hX : X = Host.dotGeneral dot_S2048x2048_S2048x2048_S2048x2048_1_1_0_0_n_n none (extf .f32 A bitsLt_bf16_f32) W) : (Cert.MixIdeal.Gen.dat3 (Cert.MixIdeal.Gen.V4 m ρ) c).arrAt 2 Cert.MixIdeal.cfg3.N = X := by
  subst hX
  refine final3 (Cert.MixIdeal.Gen.V4 m ρ) c _ _ (at4_4 m ρ c) (v0_4 m ρ c) _ fun i j => (dy_at A W i j).trans ?_
  subst hA hW; rfl

/-- An entry of the reference's gradient of the projections' weights. -/
theorem din_at (A : FVec Ideal S2048x2048 .bf16) (W : FVec Ideal S2048x3584 .bf16) (s : Fin 4) (i : Fin 2048) (j : Fin 896) :
    (truncf .bf16 (transpose S4x2048x896 [1, 0, 2] (shapeCast S2048x4x896 (transpose S2048x3584 [1, 0] (Host.dotGeneral dot_S2048x3584_S2048x2048_S3584x2048_0_0_1_1_n_n none (extf .f32 W bitsLt_bf16_f32) (extf .f32 A bitsLt_bf16_f32)) transposes_S3584x2048_S2048x3584_1_0) shapeCasts_S2048x3584_S2048x4x896) transposes_S2048x4x896_S4x2048x896_1_0_2) bitsLt_bf16_f32 : FVec Ideal S4x2048x896 .bf16) (ix3 s i j)
      = ∑ k : Fin 2048, A (ix2 k i) * W (ix2 k ⟨s.val * 896 + j.val, by omega⟩) := by
  pointwise
  exact Finset.sum_congr rfl fun k _ => mul_comm _ _

/-- The gradient of the projections' weights: the call's result is the reference's. -/
theorem same_din (A : FVec Ideal S2048x2048 .bf16) (W : FVec Ideal S2048x3584 .bf16) (hA : A = a0 m c) (hW : W = a5 m c) (X : FVec Ideal S4x2048x896 .bf16)
    (hX : X = truncf .bf16 (transpose S4x2048x896 [1, 0, 2] (shapeCast S2048x4x896 (transpose S2048x3584 [1, 0] (Host.dotGeneral dot_S2048x3584_S2048x2048_S3584x2048_0_0_1_1_n_n none (extf .f32 W bitsLt_bf16_f32) (extf .f32 A bitsLt_bf16_f32)) transposes_S3584x2048_S2048x3584_1_0) shapeCasts_S2048x3584_S2048x4x896) transposes_S2048x4x896_S4x2048x896_1_0_2) bitsLt_bf16_f32) : (Cert.MixIdeal.Gen.dat4 (Cert.MixIdeal.Gen.V5 m ρ) c).arrAt 2 Cert.MixIdeal.cfg4.N = X := by
  subst hX
  refine final4 (Cert.MixIdeal.Gen.V5 m ρ) c _ _ (at5_0 m ρ c) (at5_5 m ρ c) _ fun s i j => (din_at A W s i j).trans ?_
  subst hA hW; rfl

attribute [local instance] Cert.MixIdeal.Gen.facts Cert.MixRefIdeal.Gen.facts in
set_option maxHeartbeats 1600000 in
/-- From arguments that agree, the calls' results are the reference's. -/
theorem algebraic : Cert.algebraic_MixIdeal_MixRefIdeal := by
  pair_intro
  · run_from Cert.MixIdeal.Prod.run m g
  · run_from Cert.MixRefIdeal.Value.run m' g'
    · exact (same_z m g _ _ _ rfl rfl _ rfl).symm
    · exact (same_o m g _ _ _ rfl rfl _ rfl).symm
    · exact (same_dout m g _ _ _ rfl rfl _ rfl).symm
    · exact (same_dy m g _ _ _ rfl rfl _ rfl).symm
    · exact (same_din m g _ _ _ rfl rfl _ rfl).symm

end Cert.MixMain

end
-- ==== Proof.XattRegions.lean ====
module

public import proofs.«01_k».proof.Proof.Gen.XattIdeal.Frame
public import Idealize.ShloMosaic.Lib.Pipeline.ValueKit

@[expose] public section

set_option maxRecDepth 16384

noncomputable section

/-! Five products of the attention's projections: each call's result array, entry by entry, as a sum over the contracted axis. -/

namespace Cert.XattIdeal.Prod

open Idealize.ShloMosaic Idealize.ShloMosaic.TcCoe Idealize.SL.Sem
open Cert.XattIdeal Cert.XattIdeal.Gen

variable (V : (c : Dev nD) → (b : Ref sig .tc) → Buf (Elt Ideal) ((c : Thread nD τ).loc b)) (c : Dev nD)

/-- The offsets of a store of a whole block of two axes. -/
theorem off2 : (![0, 0] : Fin 2 → ℕ) = fun _ => 0 := by decide

/-! ## mm_q -/

/-- The block indices of the windows at each grid point. -/
theorem idx0 : ∀ t : Fin cfg0.N, win0_0.index t = ![t.val / 2, 0] ∧ win0_1.index t = ![0, t.val % 2] ∧ win0_2.index t = ![t.val / 2, t.val % 2] :=
  (by decide +kernel : ∀ t : Fin grid0.N, _)

/-- An entry of the block's product. -/
theorem pay0 (x : S1024x2048.Idx → EReal) (y : S2048x1024.Idx → EReal) (i : Fin 1024) (j : Fin 1024) :
    k0_pay1 (F := Ideal) x y (ix2 i j) = ∑ k : Fin 2048, x (ix2 i k) * y (ix2 k j) := by pointwise [k0_pay1]

/-- The call's result array. -/
theorem final0 (A : S2048x2048.Idx → EReal) (B : S2048x2048.Idx → EReal) (hA : V c main_arg0 = A) (hB : V c main_v1 = B)
    (X : S2048x2048.Idx → EReal) (hX : ∀ (i : Fin 2048) (j : Fin 2048), X (ix2 i j) = ∑ k : Fin 2048, A (ix2 i k) * B (ix2 k j)) :
    (dat0 V c).arrAt 2 cfg0.N = X := by
  subst hA hB
  refine (dat0 V c).arrAt_eq_of_covers 2 _ (by decide +kernel) fun t _ y => ?_
  blk_simp
  rw [after0_2, out0_2, View.canon_unit_zero off2, View.ld_unit_zero off2, View.ld_unit_zero off2]
  have ht : t.val < 4 := t.isLt
  have hy0 : (y 0).val < 1024 := (y 0).isLt
  have hy1 : (y 1).val < 1024 := (y 1).isLt
  have e : (win0_2.blk t).view.emb y = (ix2 ⟨t.val / 2 * 1024 + (y 0).val, by omega⟩ ⟨t.val % 2 * 1024 + (y 1).val, by omega⟩ : S2048x2048.Idx) := by
    blk_ext [idx0 t]
  have ey : y = (ix2 ⟨(y 0).val, hy0⟩ ⟨(y 1).val, hy1⟩ : S1024x1024.Idx) := by blk_ext
  refine Eq.trans ?_ ((congrArg X e).trans (hX _ _)).symm
  refine (congrArg (k0_pay1 _ _) ey).trans ((pay0 _ _ _ _).trans (Finset.sum_congr rfl fun k _ => congrArg₂ (· * ·) ?_ ?_))
  · blk_ext [iblk0, idx0 t]
  · blk_ext [iblk0, idx0 t]

/-! ## mm_k -/

/-- The block indices of the windows at each grid point. -/
theorem idx1 : ∀ t : Fin cfg1.N, win1_0.index t = ![0, 0] ∧ win1_1.index t = ![0, t.val] ∧ win1_2.index t = ![0, t.val] :=
  (by decide +kernel : ∀ t : Fin grid1.N, _)

/-- An entry of the block's product. -/
theorem pay1 (x : S256x2048.Idx → EReal) (y : S2048x1024.Idx → EReal) (i : Fin 256) (j : Fin 1024) :
    k1_pay1 (F := Ideal) x y (ix2 i j) = ∑ k : Fin 2048, x (ix2 i k) * y (ix2 k j) := by pointwise [k1_pay1]

/-- The call's result array. -/
theorem final1 (A : S256x2048.Idx → EReal) (B : S2048x2048.Idx → EReal) (hA : V c main_arg1 = A) (hB : V c main_v0 = B)
    (X : S256x2048.Idx → EReal) (hX : ∀ (i : Fin 256) (j : Fin 2048), X (ix2 i j) = ∑ k : Fin 2048, A (ix2 i k) * B (ix2 k j)) :
    (dat1 V c).arrAt 2 cfg1.N = X := by
  subst hA hB
  refine (dat1 V c).arrAt_eq_of_covers 2 _ (by decide +kernel) fun t _ y => ?_
  blk_simp
  rw [after1_2, out1_2, View.canon_unit_zero off2, View.ld_unit_zero off2, View.ld_unit_zero off2]
  have ht : t.val < 2 := t.isLt
  have hy0 : (y 0).val < 256 := (y 0).isLt
  have hy1 : (y 1).val < 1024 := (y 1).isLt
  have e : (win1_2.blk t).view.emb y = (ix2 ⟨(y 0).val, by omega⟩ ⟨t.val * 1024 + (y 1).val, by omega⟩ : S256x2048.Idx) := by
    blk_ext [idx1 t]
  have ey : y = (ix2 ⟨(y 0).val, hy0⟩ ⟨(y 1).val, hy1⟩ : S256x1024.Idx) := by blk_ext
  refine Eq.trans ?_ ((congrArg X e).trans (hX _ _)).symm
  refine (congrArg (k1_pay1 _ _) ey).trans ((pay1 _ _ _ _).trans (Finset.sum_congr rfl fun k _ => congrArg₂ (· * ·) ?_ ?_))
  · blk_ext [iblk1, idx1 t]
  · blk_ext [iblk1, idx1 t]

/-! ## mm_o_dx -/

/-- The block indices of the windows at each grid point. -/
theorem idx2 : ∀ t : Fin cfg2.N, win2_0.index t = ![t.val / 2, 0] ∧ win2_1.index t = ![t.val % 2, 0] ∧ win2_2.index t = ![t.val / 2, t.val % 2] :=
  (by decide +kernel : ∀ t : Fin grid2.N, _)

/-- An entry of the block's product. -/
theorem pay2 (x : S1024x2048.Idx → EReal) (y : S1024x2048.Idx → EReal) (i : Fin 1024) (j : Fin 1024) :
    k2_pay1 (F := Ideal) x y (ix2 i j) = ∑ k : Fin 2048, x (ix2 i k) * y (ix2 j k) := by pointwise [k2_pay1]

/-- The call's result array. -/
theorem final2 (A : S2048x2048.Idx → EReal) (B : S2048x2048.Idx → EReal) (hA : V c main_arg6 = A) (hB : V c main_v4 = B)
    (X : S2048x2048.Idx → EReal) (hX : ∀ (i : Fin 2048) (j : Fin 2048), X (ix2 i j) = ∑ k : Fin 2048, A (ix2 i k) * B (ix2 j k)) :
    (dat2 V c).arrAt 2 cfg2.N = X := by
  subst hA hB
  refine (dat2 V c).arrAt_eq_of_covers 2 _ (by decide +kernel) fun t _ y => ?_
  blk_simp
  rw [after2_2, out2_2, View.canon_unit_zero off2, View.ld_unit_zero off2, View.ld_unit_zero off2]
  have ht : t.val < 4 := t.isLt
  have hy0 : (y 0).val < 1024 := (y 0).isLt
  have hy1 : (y 1).val < 1024 := (y 1).isLt
  have e : (win2_2.blk t).view.emb y = (ix2 ⟨t.val / 2 * 1024 + (y 0).val, by omega⟩ ⟨t.val % 2 * 1024 + (y 1).val, by omega⟩ : S2048x2048.Idx) := by
    blk_ext [idx2 t]
  have ey : y = (ix2 ⟨(y 0).val, hy0⟩ ⟨(y 1).val, hy1⟩ : S1024x1024.Idx) := by blk_ext
  refine Eq.trans ?_ ((congrArg X e).trans (hX _ _)).symm
  refine (congrArg (k2_pay1 _ _) ey).trans ((pay2 _ _ _ _).trans (Finset.sum_congr rfl fun k _ => congrArg₂ (· * ·) ?_ ?_))
  · blk_ext [iblk2, idx2 t]
  · blk_ext [iblk2, idx2 t]

/-! ## mm_k_dw -/

/-- The block indices of the windows at each grid point. -/
theorem idx3 : ∀ t : Fin cfg3.N, win3_0.index t = ![0, t.val / 2] ∧ win3_1.index t = ![0, t.val % 2] ∧ win3_2.index t = ![t.val / 2, t.val % 2] :=
  (by decide +kernel : ∀ t : Fin grid3.N, _)

/-- An entry of the block's product. -/
theorem pay3 (x : S256x1024.Idx → EReal) (y : S256x1024.Idx → EReal) (i : Fin 1024) (j : Fin 1024) :
    k3_pay1 (F := Ideal) x y (ix2 i j) = ∑ k : Fin 256, x (ix2 k i) * y (ix2 k j) := by pointwise [k3_pay1]

/-- The call's result array. -/
theorem final3 (A : S256x2048.Idx → EReal) (B : S256x2048.Idx → EReal) (hA : V c main_arg1 = A) (hB : V c main_arg5 = B)
    (X : S2048x2048.Idx → EReal) (hX : ∀ (i : Fin 2048) (j : Fin 2048), X (ix2 i j) = ∑ k : Fin 256, A (ix2 k i) * B (ix2 k j)) :
    (dat3 V c).arrAt 2 cfg3.N = X := by
  subst hA hB
  refine (dat3 V c).arrAt_eq_of_covers 2 _ (by decide +kernel) fun t _ y => ?_
  blk_simp
  rw [after3_2, out3_2, View.canon_unit_zero off2, View.ld_unit_zero off2, View.ld_unit_zero off2]
  have ht : t.val < 4 := t.isLt
  have hy0 : (y 0).val < 1024 := (y 0).isLt
  have hy1 : (y 1).val < 1024 := (y 1).isLt
  have e : (win3_2.blk t).view.emb y = (ix2 ⟨t.val / 2 * 1024 + (y 0).val, by omega⟩ ⟨t.val % 2 * 1024 + (y 1).val, by omega⟩ : S2048x2048.Idx) := by
    blk_ext [idx3 t]
  have ey : y = (ix2 ⟨(y 0).val, hy0⟩ ⟨(y 1).val, hy1⟩ : S1024x1024.Idx) := by blk_ext
  refine Eq.trans ?_ ((congrArg X e).trans (hX _ _)).symm
  refine (congrArg (k3_pay1 _ _) ey).trans ((pay3 _ _ _ _).trans (Finset.sum_congr rfl fun k _ => congrArg₂ (· * ·) ?_ ?_))
  · blk_ext [iblk3, idx3 t]
  · blk_ext [iblk3, idx3 t]

/-! ## mm_k_dx -/

/-- The block indices of the windows at each grid point. -/
theorem idx4 : ∀ t : Fin cfg4.N, win4_0.index t = ![0, 0] ∧ win4_1.index t = ![t.val, 0] ∧ win4_2.index t = ![0, t.val] :=
  (by decide +kernel : ∀ t : Fin grid4.N, _)

/-- An entry of the block's product. -/
theorem pay4 (x : S256x2048.Idx → EReal) (y : S1024x2048.Idx → EReal) (i : Fin 256) (j : Fin 1024) :
    k4_pay1 (F := Ideal) x y (ix2 i j) = ∑ k : Fin 2048, x (ix2 i k) * y (ix2 j k) := by pointwise [k4_pay1]

/-- The call's result array. -/
theorem final4 (A : S256x2048.Idx → EReal) (B : S2048x2048.Idx → EReal) (hA : V c main_arg5 = A) (hB : V c main_v0 = B)
    (X : S256x2048.Idx → EReal) (hX : ∀ (i : Fin 256) (j : Fin 2048), X (ix2 i j) = ∑ k : Fin 2048, A (ix2 i k) * B (ix2 j k)) :
    (dat4 V c).arrAt 2 cfg4.N = X := by
  subst hA hB
  refine (dat4 V c).arrAt_eq_of_covers 2 _ (by decide +kernel) fun t _ y => ?_
  blk_simp
  rw [after4_2, out4_2, View.canon_unit_zero off2, View.ld_unit_zero off2, View.ld_unit_zero off2]
  have ht : t.val < 2 := t.isLt
  have hy0 : (y 0).val < 256 := (y 0).isLt
  have hy1 : (y 1).val < 1024 := (y 1).isLt
  have e : (win4_2.blk t).view.emb y = (ix2 ⟨(y 0).val, by omega⟩ ⟨t.val * 1024 + (y 1).val, by omega⟩ : S256x2048.Idx) := by
    blk_ext [idx4 t]
  have ey : y = (ix2 ⟨(y 0).val, hy0⟩ ⟨(y 1).val, hy1⟩ : S256x1024.Idx) := by blk_ext
  refine Eq.trans ?_ ((congrArg X e).trans (hX _ _)).symm
  refine (congrArg (k4_pay1 _ _) ey).trans ((pay4 _ _ _ _).trans (Finset.sum_congr rfl fun k _ => congrArg₂ (· * ·) ?_ ?_))
  · blk_ext [iblk4, idx4 t]
  · blk_ext [iblk4, idx4 t]

end Cert.XattIdeal.Prod

end
-- ==== Proof.XattRun.lean ====
module

public import proofs.«01_k».proof.Proof.XattRegions
public import Idealize.ShloMosaic.Adequacy
public import Idealize.ShloMosaic.Init

@[expose] public section

set_option maxRecDepth 16384

noncomputable section

/-! The run of five products of the attention's projections: what the result arrays hold, and what each call finds. -/

namespace Cert.XattIdeal.Prod

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.XattIdeal Cert.XattIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs to its end, and every buffer of the main program ends as the last boundary's contents say. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

/-- The program runs to its end, the results hold what the regions leave in them, and the arguments are unchanged. -/
theorem run : θ_run defs (onTc (τ := τ) (main (F := Ideal))) ⟨m, fun _ => 0, ρ⟩ (fun r => ∀ c : Dev nD,
      r.2.mem ((c.tc : Thread nD τ).loc main_v2) = (dat0 (V1 m ρ) c).arrAt 2 cfg0.N
      ∧ r.2.mem ((c.tc : Thread nD τ).loc main_v3) = (dat1 (V2 m ρ) c).arrAt 2 cfg1.N
      ∧ r.2.mem ((c.tc : Thread nD τ).loc main_v5) = (dat2 (V4 m ρ) c).arrAt 2 cfg2.N
      ∧ r.2.mem ((c.tc : Thread nD τ).loc main_v6) = (dat3 (V5 m ρ) c).arrAt 2 cfg3.N
      ∧ r.2.mem ((c.tc : Thread nD τ).loc main_v7) = (dat4 (V6 m ρ) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v2 (by decide))).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_arr m ρ c 2)))))),
     (h c _ (mem_uc main_v3 (by decide))).trans ((W7_of m ρ c main_v3 (by decide)).trans ((W6_of m ρ c main_v3 (by decide)).trans ((W5_of m ρ c main_v3 (by decide)).trans ((W4_of m ρ c main_v3 (by decide)).trans (W3_arr m ρ c 2))))),
     (h c _ (mem_uc main_v5 (by decide))).trans ((W7_of m ρ c main_v5 (by decide)).trans ((W6_of m ρ c main_v5 (by decide)).trans (W5_arr m ρ c 2))),
     (h c _ (mem_uc main_v6 (by decide))).trans ((W7_of m ρ c main_v6 (by decide)).trans (W6_arr m ρ c 2)),
     (h c _ (mem_uc main_v7 (by decide))).trans (W7_arr m ρ c 2),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

/-! ## What each region finds -/

variable (c : Dev nD)

/-- The queries' input, as an array of entries. -/
abbrev a0 : S2048x2048.Idx → EReal := m ((c.tc : Thread nD τ).loc main_arg0)
/-- The memory. -/
abbrev a1 : S256x2048.Idx → EReal := m ((c.tc : Thread nD τ).loc main_arg1)
/-- The queries' weights. -/
abbrev a2 : S2048x2048.Idx → EReal := m ((c.tc : Thread nD τ).loc main_arg2)
/-- The keys' weights. -/
abbrev a3 : S2048x2048.Idx → EReal := m ((c.tc : Thread nD τ).loc main_arg3)
/-- The output weights. -/
abbrev a4 : S2048x2048.Idx → EReal := m ((c.tc : Thread nD τ).loc main_arg4)
/-- The keys' gradient. -/
abbrev a5 : S256x2048.Idx → EReal := m ((c.tc : Thread nD τ).loc main_arg5)
/-- The incoming gradient. -/
abbrev a6 : S2048x2048.Idx → EReal := m ((c.tc : Thread nD τ).loc main_arg6)

/-- The queries' input at the first region's entry. -/
theorem at1_0 : V1 m ρ c main_arg0 = a0 m c := W1_args m ρ c _ (by decide)
/-- The memory at the second region's entry. -/
theorem at2_1 : V2 m ρ c main_arg1 = a1 m c := W2_args m ρ c _ (by decide)
/-- The incoming gradient at the third region's entry. -/
theorem at4_6 : V4 m ρ c main_arg6 = a6 m c := W4_args m ρ c _ (by decide)
/-- The memory at the fourth region's entry. -/
theorem at5_1 : V5 m ρ c main_arg1 = a1 m c := W5_args m ρ c _ (by decide)
/-- The keys' gradient at the fourth region's entry. -/
theorem at5_5 : V5 m ρ c main_arg5 = a5 m c := W5_args m ρ c _ (by decide)
/-- The keys' gradient at the last region's entry. -/
theorem at6_5 : V6 m ρ c main_arg5 = a5 m c := W6_args m ρ c _ (by decide)
/-- The queries' weights at the first region's entry. -/
theorem v1_1 : V1 m ρ c main_v1 = a2 m c := by
  refine funext fun i => ?_
  show (StableHlo.after hostOps0 (W0 m ρ c) (Proc.devRef .tc main_v1) : S2048x2048.Idx → EReal) i = _
  entry_read
  rfl
/-- The keys' weights at the first region's entry. -/
theorem v0_1 : V1 m ρ c main_v0 = a3 m c := by
  refine funext fun i => ?_
  show (StableHlo.after hostOps0 (W0 m ρ c) (Proc.devRef .tc main_v0) : S2048x2048.Idx → EReal) i = _
  entry_read
  rfl
/-- The keys' weights at the second region's entry. -/
theorem v0_2 : V2 m ρ c main_v0 = a3 m c := (W2_of m ρ c main_v0 (by decide)).trans (v0_1 m ρ c)
/-- The keys' weights at the last region's entry. -/
theorem v0_6 : V6 m ρ c main_v0 = a3 m c :=
  (W6_of m ρ c main_v0 (by decide)).trans ((W5_of m ρ c main_v0 (by decide)).trans ((W4_of m ρ c main_v0 (by decide)).trans
    ((W3_of m ρ c main_v0 (by decide)).trans (v0_2 m ρ c))))
/-- The output weights at the third region's entry. -/
theorem v4_4 : V4 m ρ c main_v4 = a4 m c := by
  have h : W3 m ρ c (Proc.devRef .tc main_arg4) = a4 m c := W3_args m ρ c _ (by decide)
  refine funext fun i => ?_
  rw [← h]
  show (StableHlo.after hostOps2 (W3 m ρ c) (Proc.devRef .tc main_v4) : S2048x2048.Idx → EReal) i = _
  entry_read
  rfl

end Cert.XattIdeal.Prod

end
-- ==== Proof.XattMain.lean ====
module

public import proofs.«01_k».proof.Proof.XattRun
public import proofs.«01_k».proof.Proof.Gen.XattRefIdeal.Run
public import proofs.«01_k».proof.Defs

@[expose] public section

set_option maxRecDepth 16384

noncomputable section

/-! The products of the attention's projections: the reference's entries, and the equality of its five results with those of the calls. -/

namespace Cert.XattMain

open Idealize.ShloMosaic Idealize.ShloMosaic.TcCoe Idealize.SL.Sem
open Cert.XattRefIdeal Cert.XattRefIdeal.Gen
open Cert.XattIdeal.Prod

variable (m : (ℓ : Loc Cert.XattIdeal.nD Cert.XattIdeal.τ Cert.XattIdeal.sig) → Buf (Elt Ideal) ℓ) (ρ : Dev Cert.XattIdeal.nD → PrngReg) (c : Dev Cert.XattIdeal.nD)

/-- An entry of the reference's queries. -/
theorem q_at (A : FVec Ideal S2048x2048 .bf16) (W : FVec Ideal S2048x2048 .f32) (i : Fin 2048) (j : Fin 2048) :
    (truncf .bf16 (Host.dotGeneral dot_S2048x2048_S2048x2048_S2048x2048_1_0_0_1_n_n none (extf .f32 A bitsLt_bf16_f32) W) bitsLt_bf16_f32 : FVec Ideal S2048x2048 .bf16) (ix2 i j)
      = ∑ k : Fin 2048, A (ix2 i k) * W (ix2 k j) := by
  pointwise

/-- The queries: the call's result is the reference's. -/
theorem same_q (A : FVec Ideal S2048x2048 .bf16) (W : FVec Ideal S2048x2048 .f32) (hA : A = a0 m c) (hW : W = a2 m c) (X : FVec Ideal S2048x2048 .bf16)
    (hX : X = truncf .bf16 (Host.dotGeneral dot_S2048x2048_S2048x2048_S2048x2048_1_0_0_1_n_n none (extf .f32 A bitsLt_bf16_f32) W) bitsLt_bf16_f32) : (Cert.XattIdeal.Gen.dat0 (Cert.XattIdeal.Gen.V1 m ρ) c).arrAt 2 Cert.XattIdeal.cfg0.N = X := by
  subst hX
  refine final0 (Cert.XattIdeal.Gen.V1 m ρ) c _ _ (at1_0 m ρ c) (v1_1 m ρ c) _ fun i j => (q_at A W i j).trans ?_
  subst hA hW; rfl

/-- An entry of the reference's keys. -/
theorem k_at (A : FVec Ideal S256x2048 .bf16) (W : FVec Ideal S2048x2048 .f32) (i : Fin 256) (j : Fin 2048) :
    (truncf .bf16 (Host.dotGeneral dot_S256x2048_S2048x2048_S256x2048_1_0_0_1_n_n none (extf .f32 A bitsLt_bf16_f32) W) bitsLt_bf16_f32 : FVec Ideal S256x2048 .bf16) (ix2 i j)
      = ∑ k : Fin 2048, A (ix2 i k) * W (ix2 k j) := by
  pointwise

/-- The keys: the call's result is the reference's. -/
theorem same_k (A : FVec Ideal S256x2048 .bf16) (W : FVec Ideal S2048x2048 .f32) (hA : A = a1 m c) (hW : W = a3 m c) (X : FVec Ideal S256x2048 .bf16)
    (hX : X = truncf .bf16 (Host.dotGeneral dot_S256x2048_S2048x2048_S256x2048_1_0_0_1_n_n none (extf .f32 A bitsLt_bf16_f32) W) bitsLt_bf16_f32) : (Cert.XattIdeal.Gen.dat1 (Cert.XattIdeal.Gen.V2 m ρ) c).arrAt 2 Cert.XattIdeal.cfg1.N = X := by
  subst hX
  refine final1 (Cert.XattIdeal.Gen.V2 m ρ) c _ _ (at2_1 m ρ c) (v0_2 m ρ c) _ fun i j => (k_at A W i j).trans ?_
  subst hA hW; rfl

/-- An entry of the reference's gradient of the attention's output. -/
theorem da_at (A : FVec Ideal S2048x2048 .bf16) (W : FVec Ideal S2048x2048 .f32) (i : Fin 2048) (j : Fin 2048) :
    (truncf .bf16 (Host.dotGeneral dot_S2048x2048_S2048x2048_S2048x2048_1_1_0_0_n_n none (extf .f32 A bitsLt_bf16_f32) W) bitsLt_bf16_f32 : FVec Ideal S2048x2048 .bf16) (ix2 i j)
      = ∑ k : Fin 2048, A (ix2 i k) * W (ix2 j k) := by
  pointwise

/-- The gradient of the attention's output: the call's result is the reference's. -/
theorem same_da (A : FVec Ideal S2048x2048 .bf16) (W : FVec Ideal S2048x2048 .f32) (hA : A = a6 m c) (hW : W = a4 m c) (X : FVec Ideal S2048x2048 .bf16)
    (hX : X = truncf .bf16 (Host.dotGeneral dot_S2048x2048_S2048x2048_S2048x2048_1_1_0_0_n_n none (extf .f32 A bitsLt_bf16_f32) W) bitsLt_bf16_f32) : (Cert.XattIdeal.Gen.dat2 (Cert.XattIdeal.Gen.V4 m ρ) c).arrAt 2 Cert.XattIdeal.cfg2.N = X := by
  subst hX
  refine final2 (Cert.XattIdeal.Gen.V4 m ρ) c _ _ (at4_6 m ρ c) (v4_4 m ρ c) _ fun i j => (da_at A W i j).trans ?_
  subst hA hW; rfl

/-- An entry of the reference's gradient of the keys' weights. -/
theorem dk_at (A : FVec Ideal S256x2048 .bf16) (W : FVec Ideal S256x2048 .bf16) (i : Fin 2048) (j : Fin 2048) :
    (truncf .bf16 (transpose S2048x2048 [1, 0] (Host.dotGeneral dot_S256x2048_S256x2048_S2048x2048_0_0_1_1_n_n none (extf .f32 W bitsLt_bf16_f32) (extf .f32 A bitsLt_bf16_f32)) transposes_S2048x2048_S2048x2048_1_0) bitsLt_bf16_f32 : FVec Ideal S2048x2048 .bf16) (ix2 i j)
      = ∑ k : Fin 256, A (ix2 k i) * W (ix2 k j) := by
  pointwise
  exact Finset.sum_congr rfl fun k _ => mul_comm _ _

/-- The gradient of the keys' weights: the call's result is the reference's. -/
theorem same_dk (A : FVec Ideal S256x2048 .bf16) (W : FVec Ideal S256x2048 .bf16) (hA : A = a1 m c) (hW : W = a5 m c) (X : FVec Ideal S2048x2048 .bf16)
    (hX : X = truncf .bf16 (transpose S2048x2048 [1, 0] (Host.dotGeneral dot_S256x2048_S256x2048_S2048x2048_0_0_1_1_n_n none (extf .f32 W bitsLt_bf16_f32) (extf .f32 A bitsLt_bf16_f32)) transposes_S2048x2048_S2048x2048_1_0) bitsLt_bf16_f32) : (Cert.XattIdeal.Gen.dat3 (Cert.XattIdeal.Gen.V5 m ρ) c).arrAt 2 Cert.XattIdeal.cfg3.N = X := by
  subst hX
  refine final3 (Cert.XattIdeal.Gen.V5 m ρ) c _ _ (at5_1 m ρ c) (at5_5 m ρ c) _ fun i j => (dk_at A W i j).trans ?_
  subst hA hW; rfl

/-- An entry of the reference's gradient of the memory. -/
theorem dm_at (A : FVec Ideal S256x2048 .bf16) (W : FVec Ideal S2048x2048 .f32) (i : Fin 256) (j : Fin 2048) :
    (Host.dotGeneral dot_S256x2048_S2048x2048_S256x2048_1_1_0_0_n_n none (extf .f32 A bitsLt_bf16_f32) W : FVec Ideal S256x2048 .f32) (ix2 i j)
      = ∑ k : Fin 2048, A (ix2 i k) * W (ix2 j k) := by
  pointwise

/-- The gradient of the memory: the call's result is the reference's. -/
theorem same_dm (A : FVec Ideal S256x2048 .bf16) (W : FVec Ideal S2048x2048 .f32) (hA : A = a5 m c) (hW : W = a3 m c) (X : FVec Ideal S256x2048 .f32)
    (hX : X = Host.dotGeneral dot_S256x2048_S2048x2048_S256x2048_1_1_0_0_n_n none (extf .f32 A bitsLt_bf16_f32) W) : (Cert.XattIdeal.Gen.dat4 (Cert.XattIdeal.Gen.V6 m ρ) c).arrAt 2 Cert.XattIdeal.cfg4.N = X := by
  subst hX
  refine final4 (Cert.XattIdeal.Gen.V6 m ρ) c _ _ (at6_5 m ρ c) (v0_6 m ρ c) _ fun i j => (dm_at A W i j).trans ?_
  subst hA hW; rfl

attribute [local instance] Cert.XattIdeal.Gen.facts Cert.XattRefIdeal.Gen.facts in
set_option maxHeartbeats 1600000 in
/-- From arguments that agree, the calls' results are the reference's. -/
theorem algebraic : Cert.algebraic_XattIdeal_XattRefIdeal := by
  pair_intro
  · run_from Cert.XattIdeal.Prod.run m g
  · run_from Cert.XattRefIdeal.Value.run m' g'
    · exact (same_q m g _ _ _ rfl rfl _ rfl).symm
    · exact (same_k m g _ _ _ rfl rfl _ rfl).symm
    · exact (same_da m g _ _ _ rfl rfl _ rfl).symm
    · exact (same_dk m g _ _ _ rfl rfl _ rfl).symm
    · exact (same_dm m g _ _ _ rfl rfl _ rfl).symm

end Cert.XattMain

end
-- ==== Proof.AttnMath.lean ====
module

public import Idealize.ShloMosaic.Lib.KernelVsHost
public import proofs.«01_k».proof.Proof.GmlpEq

@[expose] public section

noncomputable section

/-! One row of the cross-attention's softmax: its probabilities, and the gradient of its scores in the two orders of computing it. -/

namespace Cert.AttnMath

open Idealize.ShloMosaic Cert.GmlpMath

/-- The scale of the scores, as the programs write it. -/
def cS : EReal := Ideal.ofBits .f32 1026884851#32

variable (s d : Fin 256 → EReal)

/-- The row's largest score. -/
def top : EReal := Finset.fold max (Ideal.ofBits .f32 4286578688#32) s Finset.univ
/-- The exponential of a score, the largest taken off. -/
def ex (j : Fin 256) : EReal := Ideal.exp (s j - top s)
/-- The sum of the row's exponentials. -/
def tot : EReal := ∑ j, ex s j
/-- A probability. -/
def pr (j : Fin 256) : EReal := Ideal.div (ex s j) (tot s)
/-- The gradient of a score as the kernel has it: the probability times the gradient less its mean. -/
def ds (j : Fin 256) : EReal := pr s j * (d j - ∑ k, d k * pr s k) * cS
/-- The gradient of a score as differentiating the quotient and the exponential one after the other gives it. -/
def dsRef (j : Fin 256) : EReal :=
  (Ideal.div (d j) (tot s) + -∑ k, d k * Ideal.div 1 (tot s * tot s) * ex s k) * ex s j * cS

/-- The scale is a real number. -/
theorem cS_real : IsR cS := ⟨_, by simp [cS, Ideal.ofBits, Ideal.ieee, -EReal.coe_mul]; rfl⟩

/-- The largest of real scores is real. -/
theorem top_real (hs : ∀ j, IsR (s j)) : IsR (top s) := by
  have hb : Ideal.ofBits .f32 4286578688#32 = ⊥ := by simp [Ideal.ofBits, Ideal.ieee]
  have key : ∀ S : Finset (Fin 256), S.Nonempty → IsR (Finset.fold max ⊥ s S) := fun S hS => by
    induction hS using Finset.Nonempty.cons_induction with
    | singleton a => rw [Finset.fold_singleton, max_bot_right]; exact hs a
    | cons a S ha _ ih => rw [Finset.fold_cons]; exact (max_choice (s a) (Finset.fold max ⊥ s S)).elim (fun h => by rw [h]; exact hs a) fun h => by rw [h]; exact ih
  unfold top; rw [hb]; exact key _ Finset.univ_nonempty

/-- The exponentials of real scores are positive reals. -/
theorem ex_real (hs : ∀ j, IsR (s j)) (j : Fin 256) : ∃ r : ℝ, 0 < r ∧ ex s j = (r : EReal) := by
  obtain ⟨r, hr⟩ := (hs j).sub (top_real s hs)
  exact ⟨Real.exp r, Real.exp_pos r, by unfold ex; rw [hr]; rfl⟩

/-- A nonnegative real factor goes through a sum of 256 numbers. -/
theorem mul_sum_real {c : EReal} (h : 0 ≤ c) (hc : c ≠ ⊤) (f : Fin 256 → EReal) : c * ∑ k, f k = ∑ k, c * f k :=
  Finset.induction_on Finset.univ (by simp) fun a S ha ih => by
    rw [Finset.sum_insert ha, Finset.sum_insert ha, EReal.left_distrib_of_nonneg_of_ne_top h hc, ih]

/-- Of real scores, the two ways of computing the gradient agree, whatever the incoming gradient is. -/
theorem ds_eq (hs : ∀ j, IsR (s j)) (j : Fin 256) : ds s d j = dsRef s d j := by
  choose e he hx using ex_real s hs
  set Z : ℝ := ∑ k, e k with hZ
  have ht : tot s = (Z : EReal) := by
    unfold tot; rw [Finset.sum_congr rfl fun k _ => hx k, hZ]; exact (map_sum (⟨⟨Real.toEReal, rfl⟩, fun x y => EReal.coe_add x y⟩ : ℝ →+ EReal) e Finset.univ).symm
  have hZ0 : 0 < Z := Finset.sum_pos (fun k _ => he k) Finset.univ_nonempty
  have hne : (Z : EReal) ≠ 0 := fun h => hZ0.ne' (EReal.coe_eq_zero.1 h)
  have hne2 : (Z : EReal) * Z ≠ 0 := by rw [← EReal.coe_mul]; exact fun h => (mul_pos hZ0 hZ0).ne' (EReal.coe_eq_zero.1 h)
  have hp : ∀ k, pr s k = ((Z⁻¹ * e k : ℝ) : EReal) := fun k => by
    unfold pr Ideal.div; rw [ht, if_neg hne, hx, ← EReal.coe_inv, ← EReal.coe_mul, mul_comm]
  have i0 : (0 : EReal) ≤ ((Z⁻¹ : ℝ) : EReal) := EReal.coe_nonneg.2 (inv_nonneg.2 hZ0.le)
  have hq : ∀ k, d k * Ideal.div 1 (tot s * tot s) * ex s k = ((Z⁻¹ : ℝ) : EReal) * (d k * pr s k) := fun k => by
    rw [ht, hp, hx]; unfold Ideal.div; rw [if_neg hne2, one_mul, ← EReal.coe_mul, ← EReal.coe_inv, mul_assoc, ← EReal.coe_mul, mul_left_comm, ← EReal.coe_mul]
    congr 2; field_simp
  have hd : Ideal.div (d j) (tot s) = ((Z⁻¹ : ℝ) : EReal) * d j := by
    rw [ht]; unfold Ideal.div; rw [if_neg hne, ← EReal.coe_inv, mul_comm]
  unfold ds dsRef
  rw [hd, Finset.sum_congr rfl fun k _ => hq k, ← mul_sum_real i0 (EReal.coe_ne_top _), hp, hx, EReal.coe_mul]
  rw [← mul_neg, ← EReal.left_distrib_of_nonneg_of_ne_top i0 (EReal.coe_ne_top _), ← sub_eq_add_neg]
  exact congrArg (· * cS) (mul_right_comm _ _ _)

/-! ## The heads -/

/-- Column `k` of head `h`. -/
abbrev col (h : Fin 4) (k : Fin 512) : Fin 2048 := ⟨h.val * 512 + k.val, by omega⟩

/-- Every column is a head's. -/
theorem col_surj (j : Fin 2048) : ∃ h k, j = col h k :=
  ⟨⟨j.val / 512, by omega⟩, ⟨j.val % 512, by omega⟩, Fin.ext (by simp only [col]; omega)⟩

variable (A D : Fin 2048 → Fin 2048 → EReal) (B C : Fin 256 → Fin 2048 → EReal)

/-- A query's products with the memory, in one head. -/
def prods (h : Fin 4) (i : Fin 2048) (j : Fin 256) : EReal := ∑ k : Fin 512, A i (col h k) * B j (col h k)
/-- A query's scores, in one head. -/
def scores (h : Fin 4) (i : Fin 2048) (j : Fin 256) : EReal := prods A B h i j * cS

/-- Of real queries and keys, the scores are real. -/
theorem scores_real (hA : ∀ i j, IsR (A i j)) (hB : ∀ i j, IsR (B i j)) (h : Fin 4) (i : Fin 2048) (j : Fin 256) : IsR (scores A B h i j) :=
  (IsR.sum fun k => (hA _ _).mul (hB _ _)).mul cS_real

end Cert.AttnMath
end
-- ==== Proof.AttnRegions.lean ====
module

public import proofs.«01_k».proof.Proof.AttnMath
public import proofs.«01_k».proof.Proof.Gen.AttnIdeal.Frame
public import Idealize.ShloMosaic.Lib.Pipeline.ValueKit

@[expose] public section

set_option maxRecDepth 16384

noncomputable section

/-! The cross-attention's softmax and its backward pass: each call's result arrays, entry by entry. -/

namespace Cert.AttnIdeal.Att

open Idealize.ShloMosaic Idealize.ShloMosaic.TcCoe Idealize.SL.Sem
open Cert.AttnIdeal Cert.AttnIdeal.Gen Cert.AttnMath

variable (V : (c : Dev nD) → (b : Ref sig .tc) → Buf (Elt Ideal) ((c : Thread nD τ).loc b)) (c : Dev nD)

/-- The offsets of a store of a whole block of two axes. -/
theorem off2 : (![0, 0] : Fin 2 → ℕ) = fun _ => 0 := by decide

/-! ## A head's block -/

/-- A query's products with the memory, in a head's block. -/
def bprods (x : S2048x512.Idx → EReal) (y : S256x512.Idx → EReal) (i : Fin 2048) (j : Fin 256) : EReal := ∑ k : Fin 512, x (ix2 i k) * y (ix2 j k)
/-- A query's scores, in a head's block. -/
def bscores (x : S2048x512.Idx → EReal) (y : S256x512.Idx → EReal) (i : Fin 2048) (j : Fin 256) : EReal := bprods x y i j * cS

/-- A probability of the backward call. -/
theorem p1_at (x : S2048x512.Idx → EReal) (y : S256x512.Idx → EReal) (i : Fin 2048) (j : Fin 256) :
    k1_pay1 (F := Ideal) x y (ix2 i j) = pr (bscores x y i) j := by
  pointwise [k1_pay1]
  rfl

/-- An entry of the scores' gradient. -/
theorem p3_at (x : S2048x512.Idx → EReal) (y z : S256x512.Idx → EReal) (w : S2048x512.Idx → EReal) (i : Fin 2048) (j : Fin 256) :
    k1_pay3 (F := Ideal) x y z w (ix2 i j) = ds (bscores x y i) (bprods w z i) j := by
  pointwise [k1_pay3]
  simp only [p1_at]
  rfl

/-- An entry of the output's block. -/
theorem pay_out (x : S2048x512.Idx → EReal) (y z : S256x512.Idx → EReal) (i : Fin 2048) (k : Fin 512) :
    k0_pay1 (F := Ideal) x y z (ix2 i k) = ∑ j : Fin 256, pr (bscores x y i) j * z (ix2 j k) := by
  pointwise [k0_pay1]
  rfl

/-- An entry of the values' gradient. -/
theorem pay_dv (x : S2048x512.Idx → EReal) (y : S256x512.Idx → EReal) (w : S2048x512.Idx → EReal) (j : Fin 256) (k : Fin 512) :
    k1_pay2 (F := Ideal) x y w (ix2 j k) = ∑ i : Fin 2048, pr (bscores x y i) j * w (ix2 i k) := by
  pointwise [k1_pay2]
  simp only [p1_at]

/-- An entry of the queries' gradient. -/
theorem pay_dq (x : S2048x512.Idx → EReal) (y z : S256x512.Idx → EReal) (w : S2048x512.Idx → EReal) (i : Fin 2048) (k : Fin 512) :
    k1_pay4 (F := Ideal) x y z w (ix2 i k) = ∑ j : Fin 256, ds (bscores x y i) (bprods w z i) j * y (ix2 j k) := by
  pointwise [k1_pay4]
  simp only [p3_at]

/-- An entry of the keys' gradient. -/
theorem pay_dk (x : S2048x512.Idx → EReal) (y z : S256x512.Idx → EReal) (w : S2048x512.Idx → EReal) (j : Fin 256) (k : Fin 512) :
    k1_pay5 (F := Ideal) x y z w (ix2 j k) = ∑ i : Fin 2048, ds (bscores x y i) (bprods w z i) j * x (ix2 i k) := by
  pointwise [k1_pay5]
  simp only [p3_at]

/-! ## The blocks are the heads -/

/-- The block indices of the forward call's windows at each grid point. -/
theorem idx0 : ∀ t : Fin cfg0.N, win0_0.index t = ![0, t.val] ∧ win0_1.index t = ![0, t.val] ∧ win0_2.index t = ![0, t.val] ∧ win0_3.index t = ![0, t.val] :=
  (by decide +kernel : ∀ t : Fin grid0.N, _)

/-- The block indices of the backward call's windows at each grid point. -/
theorem idx1 : ∀ t : Fin cfg1.N, win1_0.index t = ![0, t.val] ∧ win1_1.index t = ![0, t.val] ∧ win1_2.index t = ![0, t.val] ∧ win1_3.index t = ![0, t.val]
    ∧ win1_4.index t = ![0, t.val] ∧ win1_5.index t = ![0, t.val] ∧ win1_6.index t = ![0, t.val] :=
  (by decide +kernel : ∀ t : Fin grid1.N, _)

/-- A block's products are the head's, where the blocks hold the head's columns. -/
theorem bprods_eq (x : S2048x512.Idx → EReal) (y : S256x512.Idx → EReal) (A : S2048x2048.Idx → EReal) (B : S256x2048.Idx → EReal) (h : Fin 4)
    (hx : ∀ i k, x (ix2 i k) = A (ix2 i (col h k))) (hy : ∀ j k, y (ix2 j k) = B (ix2 j (col h k))) (i : Fin 2048) :
    bprods x y i = prods (fun i j => A (ix2 i j)) (fun i j => B (ix2 i j)) h i :=
  funext fun j => Finset.sum_congr rfl fun k _ => congrArg₂ (· * ·) (hx i k) (hy j k)

/-- A block's scores are the head's, where the blocks hold the head's columns. -/
theorem bscores_eq (x : S2048x512.Idx → EReal) (y : S256x512.Idx → EReal) (A : S2048x2048.Idx → EReal) (B : S256x2048.Idx → EReal) (h : Fin 4)
    (hx : ∀ i k, x (ix2 i k) = A (ix2 i (col h k))) (hy : ∀ j k, y (ix2 j k) = B (ix2 j (col h k))) (i : Fin 2048) :
    bscores x y i = scores (fun i j => A (ix2 i j)) (fun i j => B (ix2 i j)) h i :=
  funext fun j => congrArg (· * cS) (congrFun (bprods_eq x y A B h hx hy i) j)

variable (A D : S2048x2048.Idx → EReal) (B C : S256x2048.Idx → EReal)

/-- The forward call's result array. -/
theorem final_out (hA : V c main_arg0 = A) (hB : V c main_arg1 = B) (hC : V c main_arg2 = C) (X : S2048x2048.Idx → EReal)
    (hX : ∀ i h k, X (ix2 i (col h k)) = ∑ j : Fin 256, pr (scores (fun i j => A (ix2 i j)) (fun i j => B (ix2 i j)) h i) j * C (ix2 j (col h k))) :
    (dat0 V c).arrAt 3 cfg0.N = X := by
  subst hA hB hC
  refine (dat0 V c).arrAt_eq_of_covers 3 _ (by decide +kernel) fun t _ y => ?_
  blk_simp
  rw [after0_3, out0_3, View.canon_unit_zero off2, View.ld_unit_zero off2, View.ld_unit_zero off2, View.ld_unit_zero off2]
  have ht : t.val < 4 := t.isLt
  have hy0 : (y 0).val < 2048 := (y 0).isLt
  have hy1 : (y 1).val < 512 := (y 1).isLt
  have e : (win0_3.blk t).view.emb y = (ix2 ⟨(y 0).val, hy0⟩ (col ⟨t.val, ht⟩ ⟨(y 1).val, hy1⟩) : S2048x2048.Idx) := by
    blk_ext [idx0 t]
  have ey : y = (ix2 ⟨(y 0).val, hy0⟩ ⟨(y 1).val, hy1⟩ : S2048x512.Idx) := by blk_ext
  refine Eq.trans ?_ ((congrArg X e).trans (hX _ _ _)).symm
  refine (congrArg (k0_pay1 _ _ _) ey).trans ((pay_out _ _ _ _ _).trans (Finset.sum_congr rfl fun j _ => congrArg₂ (fun s v => pr s j * v) (bscores_eq _ _ _ _ _ ?_ ?_ _) ?_))
  · intro i k; blk_ext [iblk0, idx0 t]
  · intro i k; blk_ext [iblk0, idx0 t]
  · blk_ext [iblk0, idx0 t]

/-- The backward call's gradient of the values. -/
theorem final_dv (hA : V c main_arg0 = A) (hB : V c main_arg1 = B) (hC : V c main_arg2 = C) (hD : V c main_arg3 = D) (X : S256x2048.Idx → EReal)
    (hX : ∀ j h k, X (ix2 j (col h k)) = ∑ i : Fin 2048, pr (scores (fun i j => A (ix2 i j)) (fun i j => B (ix2 i j)) h i) j * D (ix2 i (col h k))) :
    (dat1 V c).arrAt 6 cfg1.N = X := by
  subst hA hB hC hD
  refine (dat1 V c).arrAt_eq_of_covers 6 _ (by decide +kernel) fun t _ y => ?_
  blk_simp
  rw [after1_6, out1_6, View.canon_unit_zero off2, View.ld_unit_zero off2, View.ld_unit_zero off2, View.ld_unit_zero off2]
  have ht : t.val < 4 := t.isLt
  have hy0 : (y 0).val < 256 := (y 0).isLt
  have hy1 : (y 1).val < 512 := (y 1).isLt
  have e : (win1_6.blk t).view.emb y = (ix2 ⟨(y 0).val, hy0⟩ (col ⟨t.val, ht⟩ ⟨(y 1).val, hy1⟩) : S256x2048.Idx) := by
    blk_ext [idx1 t]
  have ey : y = (ix2 ⟨(y 0).val, hy0⟩ ⟨(y 1).val, hy1⟩ : S256x512.Idx) := by blk_ext
  refine Eq.trans ?_ ((congrArg X e).trans (hX _ _ _)).symm
  refine (congrArg (k1_pay2 _ _ _ ) ey).trans ((pay_dv _ _ _ _ _ ).trans (Finset.sum_congr rfl fun z _ => congrArg₂ (fun s v => pr s _ * v) (bscores_eq _ _ _ _ _ ?_ ?_ _) ?_))
  all_goals first | (intro i k; blk_ext [iblk1, idx1 t]) | blk_ext [iblk1, idx1 t]

/-- The backward call's gradient of the queries. -/
theorem final_dq (hA : V c main_arg0 = A) (hB : V c main_arg1 = B) (hC : V c main_arg2 = C) (hD : V c main_arg3 = D) (X : S2048x2048.Idx → EReal)
    (hX : ∀ i h k, X (ix2 i (col h k)) = ∑ j : Fin 256, ds (scores (fun i j => A (ix2 i j)) (fun i j => B (ix2 i j)) h i) (prods (fun i j => D (ix2 i j)) (fun i j => C (ix2 i j)) h i) j * B (ix2 j (col h k))) :
    (dat1 V c).arrAt 4 cfg1.N = X := by
  subst hA hB hC hD
  refine (dat1 V c).arrAt_eq_of_covers 4 _ (by decide +kernel) fun t _ y => ?_
  blk_simp
  rw [after1_4, out1_4, View.canon_unit_zero off2, View.ld_unit_zero off2, View.ld_unit_zero off2, View.ld_unit_zero off2, View.ld_unit_zero off2]
  have ht : t.val < 4 := t.isLt
  have hy0 : (y 0).val < 2048 := (y 0).isLt
  have hy1 : (y 1).val < 512 := (y 1).isLt
  have e : (win1_4.blk t).view.emb y = (ix2 ⟨(y 0).val, hy0⟩ (col ⟨t.val, ht⟩ ⟨(y 1).val, hy1⟩) : S2048x2048.Idx) := by
    blk_ext [idx1 t]
  have ey : y = (ix2 ⟨(y 0).val, hy0⟩ ⟨(y 1).val, hy1⟩ : S2048x512.Idx) := by blk_ext
  refine Eq.trans ?_ ((congrArg X e).trans (hX _ _ _)).symm
  refine (congrArg (k1_pay4 _ _ _ _ ) ey).trans ((pay_dq _ _ _ _ _ _ ).trans (Finset.sum_congr rfl fun z _ => congrArg₂ (· * ·) (congrArg₂ (fun s d => ds s d z) (bscores_eq _ _ _ _ _ ?_ ?_ _) (bprods_eq _ _ _ _ _ ?_ ?_ _)) ?_))
  all_goals first | (intro i k; blk_ext [iblk1, idx1 t]) | blk_ext [iblk1, idx1 t]

/-- The backward call's gradient of the keys. -/
theorem final_dk (hA : V c main_arg0 = A) (hB : V c main_arg1 = B) (hC : V c main_arg2 = C) (hD : V c main_arg3 = D) (X : S256x2048.Idx → EReal)
    (hX : ∀ j h k, X (ix2 j (col h k)) = ∑ i : Fin 2048, ds (scores (fun i j => A (ix2 i j)) (fun i j => B (ix2 i j)) h i) (prods (fun i j => D (ix2 i j)) (fun i j => C (ix2 i j)) h i) j * A (ix2 i (col h k))) :
    (dat1 V c).arrAt 5 cfg1.N = X := by
  subst hA hB hC hD
  refine (dat1 V c).arrAt_eq_of_covers 5 _ (by decide +kernel) fun t _ y => ?_
  blk_simp
  rw [after1_5, out1_5, View.canon_unit_zero off2, View.ld_unit_zero off2, View.ld_unit_zero off2, View.ld_unit_zero off2, View.ld_unit_zero off2]
  have ht : t.val < 4 := t.isLt
  have hy0 : (y 0).val < 256 := (y 0).isLt
  have hy1 : (y 1).val < 512 := (y 1).isLt
  have e : (win1_5.blk t).view.emb y = (ix2 ⟨(y 0).val, hy0⟩ (col ⟨t.val, ht⟩ ⟨(y 1).val, hy1⟩) : S256x2048.Idx) := by
    blk_ext [idx1 t]
  have ey : y = (ix2 ⟨(y 0).val, hy0⟩ ⟨(y 1).val, hy1⟩ : S256x512.Idx) := by blk_ext
  refine Eq.trans ?_ ((congrArg X e).trans (hX _ _ _)).symm
  refine (congrArg (k1_pay5 _ _ _ _ ) ey).trans ((pay_dk _ _ _ _ _ _ ).trans (Finset.sum_congr rfl fun z _ => congrArg₂ (· * ·) (congrArg₂ (fun s d => ds s d _) (bscores_eq _ _ _ _ _ ?_ ?_ _) (bprods_eq _ _ _ _ _ ?_ ?_ _)) ?_))
  all_goals first | (intro i k; blk_ext [iblk1, idx1 t]) | blk_ext [iblk1, idx1 t]

end Cert.AttnIdeal.Att

end
-- ==== Proof.AttnRun.lean ====
module

public import proofs.«01_k».proof.Proof.AttnRegions
public import Idealize.ShloMosaic.Adequacy
public import Idealize.ShloMosaic.Init

@[expose] public section

set_option maxRecDepth 16384

noncomputable section

/-! The run of the cross-attention's two calls: what the result arrays hold, and what each call finds. -/

namespace Cert.AttnIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs to its end, and every buffer of the main program ends as the last boundary's contents say. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)

/-- The program runs to its end, the results hold what the calls leave in them, and the arguments are unchanged. -/
theorem run : θ_run defs (onTc (τ := τ) (main (F := Ideal))) ⟨m, fun _ => 0, ρ⟩ (fun r => ∀ c : Dev nD,
      r.2.mem ((c.tc : Thread nD τ).loc main_v0) = (dat0 (V0 m ρ) c).arrAt 3 cfg0.N
      ∧ r.2.mem ((c.tc : Thread nD τ).loc main_v1_0) = (dat1 (V1 m ρ) c).arrAt 4 cfg1.N
      ∧ r.2.mem ((c.tc : Thread nD τ).loc main_v1_1) = (dat1 (V1 m ρ) c).arrAt 5 cfg1.N
      ∧ r.2.mem ((c.tc : Thread nD τ).loc main_v1_2) = (dat1 (V1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v0 (by decide))).trans ((W2_of m ρ c main_v0 (by decide)).trans (W1_arr m ρ c 3)),
     (h c _ (mem_uc main_v1_0 (by decide))).trans (W2_arr m ρ c 4),
     (h c _ (mem_uc main_v1_1 (by decide))).trans (W2_arr m ρ c 5),
     (h c _ (mem_uc main_v1_2 (by decide))).trans (W2_arr m ρ c 6),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

/-! ## What each call finds -/

variable (c : Dev nD)

/-- The queries, as an array of entries. -/
abbrev a0 : S2048x2048.Idx → EReal := m ((c.tc : Thread nD τ).loc main_arg0)
/-- The keys. -/
abbrev a1 : S256x2048.Idx → EReal := m ((c.tc : Thread nD τ).loc main_arg1)
/-- The values. -/
abbrev a2 : S256x2048.Idx → EReal := m ((c.tc : Thread nD τ).loc main_arg2)
/-- The output's gradient. -/
abbrev a3 : S2048x2048.Idx → EReal := m ((c.tc : Thread nD τ).loc main_arg3)

/-- The queries at the backward call's entry. -/
theorem at1_0 : V1 m ρ c main_arg0 = a0 m c := W1_args m ρ c _ (by decide)
/-- The keys at the backward call's entry. -/
theorem at1_1 : V1 m ρ c main_arg1 = a1 m c := W1_args m ρ c _ (by decide)
/-- The values at the backward call's entry. -/
theorem at1_2 : V1 m ρ c main_arg2 = a2 m c := W1_args m ρ c _ (by decide)
/-- The output's gradient at the backward call's entry. -/
theorem at1_3 : V1 m ρ c main_arg3 = a3 m c := W1_args m ρ c _ (by decide)

end Cert.AttnIdeal.Att

end
-- ==== Proof.AttnRef.lean ====
module

public import proofs.«01_k».proof.Proof.AttnMath
public import proofs.«01_k».proof.Proof.Gen.AttnRefIdeal.Run
public import Idealize.ShloMosaic.Lib.Pipeline.ValueKit

@[expose] public section

set_option maxRecDepth 16384

noncomputable section

/-! The reference of the cross-attention's softmax: its arrays entry by entry. -/

namespace Cert.AttnRefIdeal.Att

open Idealize.ShloMosaic Idealize.ShloMosaic.TcCoe Idealize.SL.Sem
open Cert.AttnRefIdeal Cert.AttnRefIdeal.Gen Cert.AttnMath

variable (A D : FVec Ideal S2048x2048 .bf16) (B C : FVec Ideal S256x2048 .bf16) (S P : FVec Ideal S4x2048x256 .f32) (h : Fin 4) (i : Fin 2048)

/-- An array of queries by heads. -/
def heads : FVec Ideal S2048x4x512 .f32 := shapeCast _ (extf .f32 A bitsLt_bf16_f32) shapeCasts_S2048x2048_S2048x4x512
/-- An array of the memory by heads. -/
def memHeads : FVec Ideal S256x4x512 .f32 := shapeCast _ (extf .f32 B bitsLt_bf16_f32) shapeCasts_S256x2048_S256x4x512

/-- A query's entry by heads. -/
theorem heads_at (k : Fin 512) : heads A (ix3 i h k) = A (ix2 i (col h k)) := by pointwise [heads]
/-- A memory's entry by heads. -/
theorem memHeads_at (j : Fin 256) (k : Fin 512) : memHeads B (ix3 j h k) = B (ix2 j (col h k)) := by pointwise [memHeads]

/-- The scores. -/
def sc : FVec Ideal S4x2048x256 .f32 :=
  mulf (Host.dotGeneral dot_S2048x4x512_S256x4x512_S4x2048x256_2_2_0_0_1_1 none (heads A) (memHeads B)) (broadcastInDim S4x2048x256 ![] bcast_S_S4x2048x256 (constant S_ .f32 0x3D3504F3#32))

/-- A score. -/
theorem sc_at (j : Fin 256) : sc A B (ix3 h i j) = scores (fun i j => A (ix2 i j)) (fun i j => B (ix2 i j)) h i j := by
  pointwise [sc]
  exact congrArg (· * cS) (Finset.sum_congr rfl fun k _ => congrArg₂ (· * ·) (heads_at A h i k) (memHeads_at B h j k))

/-- The word that the programs start a maximum with is minus infinity. -/
theorem bot : Ideal.ofBits .f32 4286578688#32 = ⊥ := by simp [Ideal.ofBits, Ideal.ieee]

/-- The rows' largest scores. -/
def topA : FVec Ideal S4x2048 .f32 := Host.reduce FloatOps.maximumf S (constant S_ .f32 0xFF800000#32) reducesTo_S4x2048x256_S4x2048_d2 h_S_

/-- A row's largest score. -/
theorem topA_at : topA S (ix2 h i) = top fun j => S (ix3 h i j) := by
  pointwise [topA]
  rfl

/-- A maximum's entry. -/
theorem max_at {s : Shape} (a b : FVec Ideal s .f32) (i : s.Idx) : maximumf a b i = max (a i) (b i) := rfl

/-- The rows' largest scores, none below minus infinity. -/
def topB : FVec Ideal S4x2048 .f32 := maximumf (broadcastInDim S4x2048 ![] bcast_S_S4x2048 (constant S_ .f32 0xFF800000#32)) (topA S)

/-- A row's largest score, not below minus infinity. -/
theorem topB_at : topB S (ix2 h i) = top fun j => S (ix3 h i j) := by
  have e : (broadcastInDim S4x2048 ![] bcast_S_S4x2048 (constant S_ .f32 0xFF800000#32) : FVec Ideal S4x2048 .f32) (ix2 h i) = Ideal.ofBits .f32 4286578688#32 := by pointwise
  unfold topB
  rw [max_at, e, bot, topA_at]
  exact max_bot_left _

/-- The exponentials of scores. -/
def exA : FVec Ideal S4x2048x256 .f32 :=
  Host.exp (subf S (broadcastInDim S4x2048x256 ![0, 1, 2] bcast_S4x2048x1_S4x2048x256_0_1_2 (broadcastInDim S4x2048x1 ![0, 1] bcast_S4x2048_S4x2048x1_0_1 (topB S))))

/-- An exponential. -/
theorem exA_at (j : Fin 256) : exA S (ix3 h i j) = ex (fun j => S (ix3 h i j)) j := by
  pointwise [exA]
  rw [topB_at]
  rfl

/-- The exponentials' sums, a column. -/
def totA : FVec Ideal S4x2048x1 .f32 :=
  broadcastInDim S4x2048x1 ![0, 1] bcast_S4x2048_S4x2048x1_0_1 (Host.reduceAdd (exA S) (constant S_ .f32 0x00000000#32) reducesTo_S4x2048x256_S4x2048_d2 h_S_)

/-- A sum of exponentials. -/
theorem totA_at (j : Fin 1) : totA S (ix3 h i j) = tot fun j => S (ix3 h i j) := by
  pointwise [totA]
  exact Finset.sum_congr rfl fun k _ => exA_at S h i k

/-- The probabilities. -/
def prA : FVec Ideal S4x2048x256 .f32 :=
  Host.divf (exA S) (broadcastInDim S4x2048x256 ![0, 1, 2] bcast_S4x2048x1_S4x2048x256_0_1_2 (totA S))

/-- A probability. -/
theorem prA_at (j : Fin 256) : prA S (ix3 h i j) = pr (fun j => S (ix3 h i j)) j := by
  pointwise [prA]
  rw [exA_at, totA_at]; rfl

/-- The probabilities' gradient. -/
def dpA : FVec Ideal S4x2048x256 .f32 :=
  Host.dotGeneral dot_S4x512x2048_S256x4x512_S4x2048x256_1_2_2_0_0_1 none (transpose S4x512x2048 [1, 2, 0] (heads D) transposes_S2048x4x512_S4x512x2048_1_2_0) (memHeads C)

/-- An entry of the probabilities' gradient. -/
theorem dpA_at (j : Fin 256) : dpA D C (ix3 h i j) = prods (fun i j => D (ix2 i j)) (fun i j => C (ix2 i j)) h i j := by
  pointwise [dpA]
  exact Finset.sum_congr rfl fun k _ => congrArg₂ (· * ·) (heads_at D h i k) (memHeads_at C h j k)

/-- The sum of a row's products of the probabilities' gradient with the exponentials over the square of their sum. -/
def rowA : FVec Ideal S4x2048 .f32 :=
  Host.reduceAdd (mulf (mulf P (broadcastInDim S4x2048x256 ![0, 1, 2] bcast_S4x2048x1_S4x2048x256_0_1_2 (Host.divf (broadcastInDim S4x2048x1 ![] bcast_S_S4x2048x1 (constant S_ .f32 0x3F800000#32)) (mulf (totA S) (totA S))))) (exA S))
    (constant S_ .f32 0x00000000#32) reducesTo_S4x2048x256_S4x2048_d2 h_S_

/-- A row's sum of products. -/
theorem rowA_at : rowA S P (ix2 h i) = ∑ k, P (ix3 h i k) * Ideal.div 1 (tot (fun j => S (ix3 h i j)) * tot (fun j => S (ix3 h i j))) * ex (fun j => S (ix3 h i j)) k := by
  pointwise [rowA]
  simp only [totA_at, exA_at]

/-- The rows' sums with their signs changed, as the derivative of a broadcast of a column leaves them. -/
def negA (R : FVec Ideal S4x2048 .f32) : FVec Ideal S4x2048 .f32 :=
  Host.reduceAdd (Host.negf (shapeCast _ R shapeCasts_S4x2048_S4x2048x1)) (constant S_ .f32 0x00000000#32) reducesTo_S4x2048x1_S4x2048_d2 h_S_

/-- A row's sum with its sign changed. -/
theorem negA_at (R : FVec Ideal S4x2048 .f32) : negA R (ix2 h i) = -R (ix2 h i) := by
  pointwise [negA]
  exact Fin.sum_univ_one _

/-- The scores' gradient. -/
def dsA : FVec Ideal S4x2048x256 .f32 :=
  mulf (mulf (addf (Host.divf P (broadcastInDim S4x2048x256 ![0, 1, 2] bcast_S4x2048x1_S4x2048x256_0_1_2 (totA S)))
    (broadcastInDim S4x2048x256 ![0, 1] bcast_S4x2048_S4x2048x256_0_1 (negA (rowA S P)))) (exA S))
    (broadcastInDim S4x2048x256 ![] bcast_S_S4x2048x256 (constant S_ .f32 0x3D3504F3#32))

/-- An entry of the scores' gradient. -/
theorem dsA_at (j : Fin 256) : dsA S P (ix3 h i j) = dsRef (fun j => S (ix3 h i j)) (fun j => P (ix3 h i j)) j := by
  pointwise [dsA]
  rw [totA_at, exA_at, negA_at, rowA_at]
  rfl

/-! ## The results -/

/-- A column's head. -/
theorem head_col (k : Fin 512) (p) : (⟨(h.val * 512 + k.val) / 512, p⟩ : Fin 4) = h := Fin.ext (by simp only; omega)
/-- A column's place in its head. -/
theorem lane_col (k : Fin 512) (p) : (⟨(h.val * 512 + k.val) % 512, p⟩ : Fin 512) = k := Fin.ext (by simp only; omega)

/-- The scores' gradient of real queries and keys is the kernel's. -/
theorem ds_at (hA : ∀ i j, Cert.GmlpMath.IsR (A (ix2 i j))) (hB : ∀ i j, Cert.GmlpMath.IsR (B (ix2 i j))) (j : Fin 256) :
    dsA (sc A B) (dpA D C) (ix3 h i j) = ds (scores (fun i j => A (ix2 i j)) (fun i j => B (ix2 i j)) h i) (prods (fun i j => D (ix2 i j)) (fun i j => C (ix2 i j)) h i) j := by
  rw [dsA_at, ds_eq _ _ (scores_real _ _ hA hB h i)]
  exact congrArg₂ (fun s d => dsRef s d j) (funext fun j => sc_at A B h i j) (funext fun j => dpA_at D C h i j)

/-- The probabilities from the queries and the keys. -/
theorem pr_at (j : Fin 256) : prA (sc A B) (ix3 h i j) = pr (scores (fun i j => A (ix2 i j)) (fun i j => B (ix2 i j)) h i) j := by
  rw [prA_at]
  exact congrArg (fun s => pr s j) (funext fun j => sc_at A B h i j)

/-- The attention's output. -/
def outA : FVec Ideal S2048x2048 .bf16 :=
  truncf .bf16 (shapeCast _ (transpose S2048x4x512 [2, 0, 1] (Host.dotGeneral dot_S256x4x512_S4x2048x256_S4x512x2048_0_2_2_1_1_0 none (memHeads C) (prA S)) transposes_S4x512x2048_S2048x4x512_2_0_1) shapeCasts_S2048x4x512_S2048x2048) bitsLt_bf16_f32

/-- An entry of the attention's output. -/
theorem outA_at (k : Fin 512) : outA C S (ix2 i (col h k)) = ∑ j : Fin 256, prA S (ix3 h i j) * C (ix2 j (col h k)) := by
  pointwise [outA]
  exact Finset.sum_congr rfl fun j _ => by rw [mul_comm, head_col, lane_col, memHeads_at]

/-- The values' gradient. -/
def dvA : FVec Ideal S256x2048 .bf16 :=
  truncf .bf16 (shapeCast _ (transpose S256x4x512 [2, 0, 1] (Host.dotGeneral dot_S4x512x2048_S4x2048x256_S4x512x256_2_1_1_2_0_0 none (transpose S4x512x2048 [1, 2, 0] (heads D) transposes_S2048x4x512_S4x512x2048_1_2_0) (prA S)) transposes_S4x512x256_S256x4x512_2_0_1) shapeCasts_S256x4x512_S256x2048) bitsLt_bf16_f32

/-- An entry of the values' gradient. -/
theorem dvA_at (j : Fin 256) (k : Fin 512) : dvA D S (ix2 j (col h k)) = ∑ i : Fin 2048, prA S (ix3 h i j) * D (ix2 i (col h k)) := by
  pointwise [dvA]
  exact Finset.sum_congr rfl fun i _ => by rw [mul_comm, head_col, lane_col, heads_at]

/-- The queries' gradient. -/
def dqA : FVec Ideal S2048x2048 .bf16 :=
  truncf .bf16 (shapeCast _ (transpose S2048x4x512 [1, 0, 2] (Host.dotGeneral dot_S4x2048x256_S256x4x512_S4x2048x512_2_0_1_2_0_1 none P (memHeads B)) transposes_S4x2048x512_S2048x4x512_1_0_2) shapeCasts_S2048x4x512_S2048x2048) bitsLt_bf16_f32

/-- An entry of the queries' gradient. -/
theorem dqA_at (k : Fin 512) : dqA B P (ix2 i (col h k)) = ∑ j : Fin 256, P (ix3 h i j) * B (ix2 j (col h k)) := by
  pointwise [dqA]
  exact Finset.sum_congr rfl fun j _ => by rw [head_col, lane_col, memHeads_at]

/-- The keys' gradient. -/
def dkA : FVec Ideal S256x2048 .bf16 :=
  truncf .bf16 (shapeCast _ (transpose S256x4x512 [1, 0, 2] (Host.dotGeneral dot_S4x2048x256_S2048x4x512_S4x256x512_1_0_2_2_0_1 none P (heads A)) transposes_S4x256x512_S256x4x512_1_0_2) shapeCasts_S256x4x512_S256x2048) bitsLt_bf16_f32

/-- An entry of the keys' gradient. -/
theorem dkA_at (j : Fin 256) (k : Fin 512) : dkA A P (ix2 j (col h k)) = ∑ i : Fin 2048, P (ix3 h i j) * A (ix2 i (col h k)) := by
  pointwise [dkA]
  exact Finset.sum_congr rfl fun i _ => by rw [head_col, lane_col, heads_at]

/-! ## The run -/

/-- The reference runs to its end, its results are the four arrays, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = outA (m ((c.tc : Thread nD τ).loc main_arg2)) (sc (m ((c.tc : Thread nD τ).loc main_arg0)) (m ((c.tc : Thread nD τ).loc main_arg1)))
      ∧ r.2.mem ((c.tc : Thread nD τ).loc main_v68) = dqA (m ((c.tc : Thread nD τ).loc main_arg1)) (dsA (sc (m ((c.tc : Thread nD τ).loc main_arg0)) (m ((c.tc : Thread nD τ).loc main_arg1))) (dpA (m ((c.tc : Thread nD τ).loc main_arg3)) (m ((c.tc : Thread nD τ).loc main_arg2))))
      ∧ r.2.mem ((c.tc : Thread nD τ).loc main_v69) = dkA (m ((c.tc : Thread nD τ).loc main_arg0)) (dsA (sc (m ((c.tc : Thread nD τ).loc main_arg0)) (m ((c.tc : Thread nD τ).loc main_arg1))) (dpA (m ((c.tc : Thread nD τ).loc main_arg3)) (m ((c.tc : Thread nD τ).loc main_arg2))))
      ∧ r.2.mem ((c.tc : Thread nD τ).loc main_v70) = dvA (m ((c.tc : Thread nD τ).loc main_arg3)) (sc (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2.1.trans rfl, (h c).2.2.2.2⟩)
    (Cert.AttnRefIdeal.Value.run m ρ)

end Cert.AttnRefIdeal.Att

end
-- ==== Proof.AttnMain.lean ====
module

public import proofs.«01_k».proof.Proof.AttnRun
public import proofs.«01_k».proof.Proof.AttnRef
public import proofs.«01_k».proof.Proof.GmlpPre
public import proofs.«01_k».proof.Defs

@[expose] public section

set_option maxRecDepth 16384

noncomputable section

/-! The cross-attention: the precondition read back, and the equality of the calls' four results with the reference's. -/

namespace Cert.AttnMain

open Idealize.ShloMosaic Idealize.ShloMosaic.TcCoe Idealize.SL.Sem
open Cert.AttnRefIdeal Cert.AttnRefIdeal.Gen Cert.AttnRefIdeal.Att Cert.GmlpMath
open Cert.AttnIdeal.Att (a0 a1 a2 a3 at1_0 at1_1 at1_2 at1_3 final_out final_dq final_dk final_dv)

/-- The precondition's shape relations hold. -/
theorem preFacts : Cert.Pre_finite_qk.Facts := by
  constructor <;> decide

/-- Where the precondition holds, the entries of the queries and of the keys are real. -/
theorem real_of_pre [Cert.Pre_finite_qk.Facts] (q : FVec Ideal S2048x2048 .bf16) (k v : FVec Ideal S256x2048 .bf16) (d : FVec Ideal S2048x2048 .bf16)
    (h : Cert.Pre_finite_qk.fn q k v d = fun _ => 1#1) : (∀ i, IsR (q i)) ∧ (∀ i, IsR (k i)) := by
  obtain ⟨hq, hk⟩ := IntOp.andi_eq_one.1 (congrFun h (fun k => k.elim0))
  exact ⟨isR_of_all (extf .f32 q Cert.Pre_finite_qk.Facts.bitsLt_bf16_f32) _ _ _ _ hq, isR_of_all (extf .f32 k Cert.Pre_finite_qk.Facts.bitsLt_bf16_f32) _ _ _ _ hk⟩

variable (m : (ℓ : Loc Cert.AttnIdeal.nD Cert.AttnIdeal.τ Cert.AttnIdeal.sig) → Buf (Elt Ideal) ℓ) (ρ : Dev Cert.AttnIdeal.nD → PrngReg) (c : Dev Cert.AttnIdeal.nD)
variable (A D : FVec Ideal S2048x2048 .bf16) (B C : FVec Ideal S256x2048 .bf16) (hA : A = a0 m c) (hB : B = a1 m c) (hC : C = a2 m c) (hD : D = a3 m c)

include hA hB hC in
/-- The attention's output: the call's result is the reference's. -/
theorem same_out (X : FVec Ideal S2048x2048 .bf16) (hX : X = outA C (sc A B)) :
    (Cert.AttnIdeal.Gen.dat0 (Cert.AttnIdeal.Gen.V0 m ρ) c).arrAt 3 Cert.AttnIdeal.cfg0.N = X := by
  subst hX
  refine final_out (Cert.AttnIdeal.Gen.V0 m ρ) c A B C hA.symm hB.symm hC.symm _ fun i h k => (outA_at C (sc A B) h i k).trans ?_
  exact Finset.sum_congr rfl fun j _ => congrArg (· * C (ix2 j _)) (pr_at A B h i j)

include hA hB hC hD in
/-- The values' gradient: the call's result is the reference's. -/
theorem same_dv (X : FVec Ideal S256x2048 .bf16) (hX : X = dvA D (sc A B)) :
    (Cert.AttnIdeal.Gen.dat1 (Cert.AttnIdeal.Gen.V1 m ρ) c).arrAt 6 Cert.AttnIdeal.cfg1.N = X := by
  subst hX
  refine final_dv (Cert.AttnIdeal.Gen.V1 m ρ) c A D B C ((at1_0 m ρ c).trans hA.symm) ((at1_1 m ρ c).trans hB.symm) ((at1_2 m ρ c).trans hC.symm) ((at1_3 m ρ c).trans hD.symm) _
    fun j h k => (dvA_at D (sc A B) h j k).trans ?_
  exact Finset.sum_congr rfl fun i _ => congrArg (· * D (ix2 i _)) (pr_at A B h i j)

variable (rA : ∀ i, IsR (A i)) (rB : ∀ i, IsR (B i))

include hA hB hC hD rA rB in
/-- The queries' gradient: of real queries and keys, the call's result is the reference's. -/
theorem same_dq (X : FVec Ideal S2048x2048 .bf16) (hX : X = dqA B (dsA (sc A B) (dpA D C))) :
    (Cert.AttnIdeal.Gen.dat1 (Cert.AttnIdeal.Gen.V1 m ρ) c).arrAt 4 Cert.AttnIdeal.cfg1.N = X := by
  subst hX
  refine final_dq (Cert.AttnIdeal.Gen.V1 m ρ) c A D B C ((at1_0 m ρ c).trans hA.symm) ((at1_1 m ρ c).trans hB.symm) ((at1_2 m ρ c).trans hC.symm) ((at1_3 m ρ c).trans hD.symm) _
    fun i h k => (dqA_at B _ h i k).trans ?_
  exact Finset.sum_congr rfl fun j _ => congrArg (· * B (ix2 j _)) (ds_at A D B C h i (fun i j => rA _) (fun i j => rB _) j)

include hA hB hC hD rA rB in
/-- The keys' gradient: of real queries and keys, the call's result is the reference's. -/
theorem same_dk (X : FVec Ideal S256x2048 .bf16) (hX : X = dkA A (dsA (sc A B) (dpA D C))) :
    (Cert.AttnIdeal.Gen.dat1 (Cert.AttnIdeal.Gen.V1 m ρ) c).arrAt 5 Cert.AttnIdeal.cfg1.N = X := by
  subst hX
  refine final_dk (Cert.AttnIdeal.Gen.V1 m ρ) c A D B C ((at1_0 m ρ c).trans hA.symm) ((at1_1 m ρ c).trans hB.symm) ((at1_2 m ρ c).trans hC.symm) ((at1_3 m ρ c).trans hD.symm) _
    fun j h k => (dkA_at A _ h j k).trans ?_
  exact Finset.sum_congr rfl fun i _ => congrArg (· * A (ix2 i _)) (ds_at A D B C h i (fun i j => rA _) (fun i j => rB _) j)

attribute [local instance] preFacts Cert.AttnIdeal.Gen.facts Cert.AttnRefIdeal.Gen.facts in
set_option maxHeartbeats 1600000 in
/-- From arguments that agree, with real queries and keys, the calls' results are the reference's. -/
theorem algebraic : Cert.algebraic_AttnIdeal_AttnRefIdeal_pre_finite_qk := by
  pair_intro
  · run_from Cert.AttnIdeal.Att.run m g
  · have f : ∀ c, (∀ i, IsR (a0 m c i)) ∧ (∀ i, IsR (a1 m c i)) := fun c => real_of_pre _ _ _ _ (hpre c)
    run_from Cert.AttnRefIdeal.Att.run m' g'
    · exact (same_out m g _ _ _ _ rfl rfl rfl _ rfl).symm
    · exact (same_dq m g _ _ _ _ _ rfl rfl rfl rfl (f _).1 (f _).2 _ rfl).symm
    · exact (same_dk m g _ _ _ _ _ rfl rfl rfl rfl (f _).1 (f _).2 _ rfl).symm
    · exact (same_dv m g _ _ _ _ _ rfl rfl rfl rfl _ rfl).symm

end Cert.AttnMain

end
-- ==== Proof.Tiles.lean ====
module

public import Idealize.ShloMosaic.Lib.Pipeline.ValueKit

@[expose] public section

noncomputable section

/-! A sum over 2048 rows that eight grid points add up, 256 rows each. -/

namespace Cert.Tiles

/-- A sum over 2048 places is the sum over eight stretches of 256. -/
theorem sum_stretches (f : Fin 2048 → EReal) : ∑ k, f k = ∑ q : Fin 8, ∑ i : Fin 256, f ⟨q.val * 256 + i.val, by omega⟩ := by
  rw [← (finProdFinEquiv : Fin 8 × Fin 256 ≃ Fin (8 * 256)).sum_comp, Fintype.sum_prod_type]
  refine Finset.sum_congr rfl fun q _ => Finset.sum_congr rfl fun k _ => congrArg f (Fin.ext ?_)
  show k.val + 256 * q.val = q.val * 256 + k.val
  omega

/-- What the eighth point leaves, where the first sets its stretch's sum and each later one adds its own, is the whole sum. -/
theorem last (f : Fin 2048 → EReal) (a : (n : ℕ) → n < 8 → EReal) (h0 : a 0 (by omega) = ∑ i : Fin 256, f ⟨0 * 256 + i.val, by omega⟩)
    (hs : ∀ (n : ℕ) (h : n + 1 < 8), a (n + 1) h = a n (by omega) + ∑ i : Fin 256, f ⟨(n + 1) * 256 + i.val, by omega⟩) :
    a 7 (by omega) = ∑ k, f k := by
  rw [sum_stretches, Fin.sum_univ_eight, hs 6, hs 5, hs 4, hs 3, hs 2, hs 1, hs 0, h0]
  rfl

/-- A nonnegative real factor goes through a finite sum. -/
theorem mul_sum_real {ι : Type} [Fintype ι] {c : EReal} (h : 0 ≤ c) (hc : c ≠ ⊤) (f : ι → EReal) : c * ∑ k, f k = ∑ k, c * f k := by
  classical
  exact Finset.induction_on Finset.univ (by simp) fun a S ha ih => by
    rw [Finset.sum_insert ha, Finset.sum_insert ha, EReal.left_distrib_of_nonneg_of_ne_top h hc, ih]

end Cert.Tiles

end
-- ==== Proof.NormMain.lean ====
module

public import proofs.«01_k».proof.Proof.Tiles
public import proofs.«01_k».proof.Proof.Gen.NormIdeal.Value
public import proofs.«01_k».proof.Proof.Gen.NormRefIdeal.Run
public import proofs.«01_k».proof.Defs
public import Idealize.ShloMosaic.Adequacy
public import Idealize.ShloMosaic.Init

@[expose] public section

set_option maxRecDepth 16384

noncomputable section

/-! The first norm's backward pass: the gradient of the row, added to the gradient that passes it by, and the gradient of the norm's weight, which eight grid points add up over the rows. -/

namespace Cert.NormReal

open Idealize.ShloMosaic

/-- The number of features. -/
abbrev num : EReal := Ideal.ofBits .f32 0x45000000#32
/-- The small constant under the root. -/
abbrev eps : EReal := Ideal.ofBits .f32 0x358637BD#32

/-- The number of features is 2048. -/
theorem num_eq : num = ((2048 : ℝ) : EReal) := by simp [num, Ideal.ofBits, Ideal.ieee, -EReal.coe_mul]; norm_num
/-- Minus one half. -/
theorem c_neg : Ideal.ofBits .f32 0xBF000000#32 = ((-(2 : ℝ)⁻¹ : ℝ) : EReal) := by simp [Ideal.ofBits, Ideal.ieee, -EReal.coe_mul]; norm_num
/-- The small constant is a positive real. -/
theorem eps_pos : ∃ e : ℝ, 0 < e ∧ eps = (e : EReal) := by
  refine ⟨_, ?_, by simp [eps, Ideal.ofBits, Ideal.ieee, -EReal.coe_mul]; rfl⟩
  norm_num

/-- The mean square of a row with the small constant added. -/
def ms (X : Fin 2048 → EReal) : EReal := Ideal.div (∑ k, X k * X k) num + eps

/-- The gradient of a row as the kernel computes it: `r` is one over the root of the mean square. -/
def ker (r d : EReal) (D X : Fin 2048 → EReal) (j : Fin 2048) : EReal :=
  d + r * (D j - (X j * r) * Ideal.div (∑ k, D k * (X k * r)) num)

/-- The factor of the row in the reference's gradient. -/
def fac (r s : EReal) (D X : Fin 2048 → EReal) : EReal :=
  Ideal.div ((∑ k, X k * D k) * (Ideal.ofBits .f32 0xBF000000#32 * Ideal.div r s)) num

/-- The gradient of a row as the reference computes it. -/
def ref (r s d : EReal) (D X : Fin 2048 → EReal) (j : Fin 2048) : EReal :=
  d + D j * r + X j * fac r s D X + fac r s D X * X j

/-- The square of an extended real is not negative. -/
theorem sq_nonneg (x : EReal) : 0 ≤ x * x := by
  induction x with
  | bot => simp
  | top => simp
  | coe r => rw [← EReal.coe_mul]; exact EReal.coe_nonneg.2 (mul_self_nonneg r)

/-- The mean square is a positive real, or infinite. -/
theorem ms_cases (X : Fin 2048 → EReal) : ms X = ⊤ ∨ ∃ s : ℝ, 0 < s ∧ ms X = (s : EReal) := by
  obtain ⟨e, he, hE⟩ := eps_pos
  have h0 : 0 ≤ ∑ k, X k * X k := Finset.sum_nonneg fun k _ => sq_nonneg _
  unfold ms
  rw [hE, num_eq, Ideal.div_coe (by norm_num)]
  generalize (∑ k, X k * X k) = S at h0
  induction S with
  | bot => simp at h0
  | top => left; rw [EReal.top_mul_coe_of_pos (by norm_num)]; rfl
  | coe a =>
    right
    refine ⟨a * (1 / 2048) + e, ?_, by rw [EReal.coe_add, EReal.coe_mul]⟩
    have := EReal.coe_nonneg.1 h0
    positivity

/-- One over the root of the mean square is a nonnegative real, and its quotient by the mean square is its cube. -/
theorem root (X : Fin 2048 → EReal) : ∃ r : ℝ, 0 ≤ r ∧ Ideal.rsqrt (ms X) = (r : EReal) ∧ Ideal.div (r : EReal) (ms X) = ((r * r * r : ℝ) : EReal) := by
  rcases ms_cases X with h | ⟨s, hs, h⟩
  · refine ⟨0, le_rfl, by rw [h]; simp, ?_⟩
    rw [h]
    simp [Ideal.div]
  · refine ⟨(Real.sqrt s)⁻¹, by positivity, by rw [h, Ideal.rsqrt_coe]; simp [hs.not_ge, hs.ne', hs.le], ?_⟩
    rw [h, Ideal.div_coe hs.ne', ← EReal.coe_mul]
    congr 1
    rw [mul_assoc, ← mul_inv, Real.mul_self_sqrt hs.le, one_div]

/-- The two computations of a row's gradient agree. -/
theorem same (d : EReal) (D X : Fin 2048 → EReal) (j : Fin 2048) : ker (Ideal.rsqrt (ms X)) d D X j = ref (Ideal.rsqrt (ms X)) (ms X) d D X j := by
  obtain ⟨r, h0, hr, hd⟩ := root X
  have h0' : (0 : EReal) ≤ (r : EReal) := EReal.coe_nonneg.2 h0
  have hs : ∑ k, D k * (X k * (r : EReal)) = (r : EReal) * ∑ k, X k * D k := by
    rw [Tiles.mul_sum_real h0' (EReal.coe_ne_top _)]
    exact Finset.sum_congr rfl fun k _ => by rw [← mul_assoc, mul_comm (D k), mul_comm]
  rw [hr]
  unfold ker ref fac
  rw [hd, hs, c_neg, num_eq, Ideal.div_coe (by norm_num), Ideal.div_coe (by norm_num)]
  generalize (∑ k, X k * D k) = S
  rw [sub_eq_add_neg, EReal.left_distrib_of_nonneg_of_ne_top h0' (EReal.coe_ne_top _), add_assoc, add_assoc, mul_comm (D j)]
  congr 2
  have e : X j * (S * (((-(2 : ℝ)⁻¹ : ℝ) : EReal) * ((r * r * r : ℝ) : EReal)) * ((1 / 2048 : ℝ) : EReal))
      = (((2 : ℝ)⁻¹ : ℝ) : EReal) * -((r : EReal) * (X j * (r : EReal) * ((r : EReal) * S * ((1 / 2048 : ℝ) : EReal)))) := by
    rw [EReal.coe_neg, EReal.coe_mul, EReal.coe_mul]
    simp only [mul_neg, neg_mul, neg_inj]
    ac_rfl
  rw [mul_comm _ (X j), e, ← EReal.right_distrib_of_nonneg (EReal.coe_nonneg.2 (by positivity)) (EReal.coe_nonneg.2 (by positivity)), ← EReal.coe_add, mul_neg]
  norm_num

end Cert.NormReal

namespace Cert.NormRef

open Idealize.ShloMosaic Idealize.ShloMosaic.TcCoe Idealize.SL.Sem
open Cert.NormRefIdeal Cert.NormRefIdeal.Gen
open Cert.NormReal (ms fac ref num eps)

/-! ## The reference -/

/-- The mean squares of the rows, with the small constant. -/
def rows (X : FVec Ideal S2048x2048 .f32) : FVec Ideal S2048x1 .f32 :=
  addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))
/-- The gradient with the weight's factor. -/
def wt (H : FVec Ideal S2048x2048 .f32) (G : FVec Ideal S2048 .f32) : FVec Ideal S2048x2048 .f32 :=
  mulf H (broadcastInDim S2048x2048 ![0, 1] bcast_S1x2048_S2048x2048_0_1 (broadcastInDim S1x2048 ![1] bcast_S2048_S1x2048_1 G))
/-- The factors of the rows. -/
def facs (H X : FVec Ideal S2048x2048 .f32) (G : FVec Ideal S2048 .f32) : FVec Ideal S2048x2048 .f32 :=
  broadcastInDim S2048x2048 ![0] bcast_S2048_S2048x2048_0 (Host.reduceAdd (Host.divf (mulf (shapeCast _ (Host.reduceAdd (mulf X (wt H G)) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (rows X)) (rows X)))) (broadcastInDim S2048x1 ![] bcast_S_S2048x1 (constant S_ .f32 0x45000000#32))) (constant S_ .f32 0x00000000#32) reducesTo_S2048x1_S2048_d1 h_S_)
/-- The reference's gradient of the row. -/
def dx (A H X : FVec Ideal S2048x2048 .f32) (G : FVec Ideal S2048 .f32) : FVec Ideal S2048x2048 .f32 :=
  addf (addf (addf A (mulf (wt H G) (broadcastInDim S2048x2048 ![0, 1] bcast_S2048x1_S2048x2048_0_1 (Host.rsqrt (rows X))))) (mulf X (facs H X G))) (mulf (facs H X G) X)
/-- The reference's gradient of the weight. -/
def dg (H X : FVec Ideal S2048x2048 .f32) : FVec Ideal S1x2048 .f32 :=
  shapeCast _ (Host.reduceAdd (shapeCast _ (Host.reduceAdd (mulf (mulf X (broadcastInDim S2048x2048 ![0, 1] bcast_S2048x1_S2048x2048_0_1 (Host.rsqrt (rows X)))) H) (constant S_ .f32 0x00000000#32) reducesTo_S2048x2048_S2048_d0 h_S_) shapeCasts_S2048_S1x2048) (constant S_ .f32 0x00000000#32) reducesTo_S1x2048_S2048_d0 h_S_) shapeCasts_S2048_S1x2048

/-- A row's mean square. -/
theorem rows_at (X : FVec Ideal S2048x2048 .f32) (i : Fin 2048) : rows X (ix2 i 0) = ms fun k => X (ix2 i k) := by
  unfold ms
  pointwise [rows]
/-- An entry with the weight's factor. -/
theorem wt_at (H : FVec Ideal S2048x2048 .f32) (G : FVec Ideal S2048 .f32) (i j : Fin 2048) : wt H G (ix2 i j) = H (ix2 i j) * G (ix1 j) := by
  pointwise [wt]
/-- A row's factor. -/
theorem facs_at (H X : FVec Ideal S2048x2048 .f32) (G : FVec Ideal S2048 .f32) (i j : Fin 2048) :
    facs H X G (ix2 i j) = fac (Ideal.rsqrt (ms fun k => X (ix2 i k))) (ms fun k => X (ix2 i k)) (fun k => H (ix2 i k) * G (ix1 k)) fun k => X (ix2 i k) := by
  rw [← rows_at]
  simp only [← wt_at]
  unfold facs fac
  generalize wt H G = D
  generalize rows X = R
  pointwise
  exact Fintype.sum_unique _
/-- An entry of the gradient of the row. -/
theorem dx_at (A H X : FVec Ideal S2048x2048 .f32) (G : FVec Ideal S2048 .f32) (i j : Fin 2048) :
    dx A H X G (ix2 i j) = ref (Ideal.rsqrt (ms fun k => X (ix2 i k))) (ms fun k => X (ix2 i k)) (A (ix2 i j)) (fun k => H (ix2 i k) * G (ix1 k)) (fun k => X (ix2 i k)) j := by
  unfold ref
  rw [← facs_at H X G i j, ← rows_at]
  dsimp only
  rw [← wt_at]
  unfold dx
  generalize facs H X G = C
  generalize wt H G = D
  generalize rows X = R
  pointwise
/-- An entry of the gradient of the weight. -/
theorem dg_at (H X : FVec Ideal S2048x2048 .f32) (j : Fin 2048) :
    dg H X (ix2 0 j) = ∑ i : Fin 2048, H (ix2 i j) * (X (ix2 i j) * Ideal.rsqrt (ms fun k => X (ix2 i k))) := by
  have h : dg H X (ix2 0 j) = ∑ i : Fin 2048, (X (ix2 i j) * Ideal.rsqrt (rows X (ix2 i 0))) * H (ix2 i j) := by
    unfold dg
    generalize rows X = R
    pointwise
    exact Fintype.sum_unique _
  rw [h]
  exact Finset.sum_congr rfl fun i _ => by rw [rows_at, mul_comm]

/-- The reference's run, with its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = dx (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v37) = dg (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2⟩) (Cert.NormRefIdeal.Value.run m ρ)

end Cert.NormRef

namespace Cert.NormMain

open Idealize.ShloMosaic Idealize.ShloMosaic.TcCoe Idealize.SL.Sem
open Cert.NormIdeal Cert.NormIdeal.Gen
open Cert.NormReal (ms ker num eps)

variable (m : (ℓ : Loc nD τ sig) → Buf (Elt Ideal) ℓ) (c : Dev nD)

/-- The offsets of a store of a whole block of two axes. -/
theorem off2 : (![0, 0] : Fin 2 → ℕ) = fun _ => 0 := by decide

/-- The block indices of the windows at each grid point. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, _)

/-! ## What a grid point computes -/

variable (a x h : S256x2048.Idx → EReal) (w : S1x2048.Idx → EReal)

/-- One over the root of a row's mean square. -/
theorem pay1 (i : Fin 256) : k0_pay1 (F := Ideal) x (ix2 i 0) = Ideal.rsqrt (ms fun k => x (ix2 i k)) := by
  unfold ms
  pointwise [k0_pay1]
/-- An entry of the normalised row. -/
theorem pay2 (i : Fin 256) (j : Fin 2048) : k0_pay2 (F := Ideal) x (ix2 i j) = x (ix2 i j) * Ideal.rsqrt (ms fun k => x (ix2 i k)) := by
  rw [← pay1]
  unfold k0_pay2
  generalize k0_pay1 (F := Ideal) x = R
  pointwise
/-- A weight's gradient over the point's rows. -/
theorem pay3 (j : Fin 2048) : k0_pay3 (F := Ideal) x h (ix2 0 j) = ∑ i : Fin 256, h (ix2 i j) * (x (ix2 i j) * Ideal.rsqrt (ms fun k => x (ix2 i k))) := by
  simp only [← pay2]
  unfold k0_pay3
  generalize k0_pay2 (F := Ideal) x = R
  pointwise
/-- An entry of the gradient's block. -/
theorem pay4 (i : Fin 256) (j : Fin 2048) : k0_pay4 (F := Ideal) a x w h (ix2 i j)
    = ker (Ideal.rsqrt (ms fun k => x (ix2 i k))) (a (ix2 i j)) (fun k => h (ix2 i k) * w (ix2 0 k)) (fun k => x (ix2 i k)) j := by
  unfold ker
  simp only [← pay2]
  rw [← pay1]
  unfold k0_pay4
  generalize k0_pay2 (F := Ideal) x = Y
  generalize k0_pay1 (F := Ideal) x = R
  pointwise
/-- A later point adds its rows' part. -/
theorem pay5 (z : S1x2048.Idx → EReal) (j : Fin 2048) : k0_pay5 (F := Ideal) x h z (ix2 0 j) = z (ix2 0 j) + k0_pay3 (F := Ideal) x h (ix2 0 j) := by
  unfold k0_pay5
  generalize k0_pay3 (F := Ideal) x h = w
  pointwise

variable (t : Fin cfg0.N)

/-- The gradient's block that a point writes. -/
theorem dx_block : (outsAt0 m c t.val t.isLt).1 = k0_pay4 (iblk m c 0 t) (iblk m c 2 t) (iblk m c 3 t) (iblk m c 1 t) := by
  have h8 : t.val < 8 := t.isLt
  by_cases h : t.val = 0
  · rw [outsAt0_A m c t (by omega) (by omega)]
    dsimp only
    unfold out0_A_4
    rw [View.read_writes_eq_canon _ _ _ (cover0_A_4 _ _ _ _ _ _ _ _ _ _ _ _ _ _ _ _ _ _ _ _)]
    unfold kernelRun0_A
    dsimp only
    rw [View.canon_unit_zero off2]
    unfold kernelRun0_A.sl.r
    simp only [View.readAt_eq_ld, Memref.IsWhole.read_unread, View.ld_unit_zero (S := S256x2048) off2, View.ld_unit_zero (S := S1x2048) off2]
  · rw [outsAt0_B m c t (by omega) (by omega)]
    dsimp only
    unfold out0_B_4
    rw [View.read_writes_eq_canon _ _ _ (cover0_B_4 _ _ _ _ _ _ _ _ _ _ _ _ _ _ _ _ _ _ _ _ _)]
    unfold kernelRun0_B
    dsimp only
    rw [View.canon_unit_zero off2]
    unfold kernelRun0_B.sl.r
    simp only [View.readAt_eq_ld, Memref.IsWhole.read_unread, View.ld_unit_zero (S := S256x2048) off2, View.ld_unit_zero (S := S1x2048) off2]

/-- The weight's gradient after the first point. -/
theorem dg_first (h : t.val = 0) : (outsAt0 m c t.val t.isLt).2 = k0_pay3 (iblk m c 2 t) (iblk m c 1 t) := by
  rw [outsAt0_A m c t (by omega) (by omega)]
  dsimp only
  unfold out0_A_5
  rw [View.read_writes_eq_canon _ _ _ (cover0_A_5 _ _ _ _ _ _ _ _ _ _ _ _ _ _ _ _ _ _ _ _)]
  unfold kernelRun0_A
  dsimp only
  rw [View.canon_unit_zero off2]
  simp only [View.readAt_eq_ld, Memref.IsWhole.read_unread, View.ld_unit_zero (S := S256x2048) off2]

/-- The weight's gradient after a later point. -/
theorem dg_later (h : 1 ≤ t.val) :
    (outsAt0 m c t.val t.isLt).2 = k0_pay5 (iblk m c 2 t) (iblk m c 1 t) (outsAt0 m c (t.val - 1) (by have := t.isLt; omega)).2 := by
  have h8 : t.val < 8 := t.isLt
  rw [outsAt0_B m c t (by omega) h]
  dsimp only
  unfold out0_B_5
  rw [View.read_writes_eq_canon _ _ _ (cover0_B_5 _ _ _ _ _ _ _ _ _ _ _ _ _ _ _ _ _ _ _ _ _)]
  unfold kernelRun0_B
  dsimp only
  rw [View.canon_unit_zero off2]
  simp only [View.readAt_eq_ld, Memref.IsWhole.read_unread, View.ld_unit_zero (S := S256x2048) off2, View.ld_unit_zero (S := S1x2048) off2]

/-! ## The result arrays -/

variable (A H X : S2048x2048.Idx → EReal) (G : S2048.Idx → EReal)

/-- The array's row at a block's row. -/
abbrev row (i : Fin 256) : Fin 2048 := ⟨t.val * 256 + i.val, by have : t.val < 8 := t.isLt; omega⟩

/-- An entry of the block of the gradient that passes by. -/
theorem blk0 (hA : V m c main_arg0 = A) (i : Fin 256) (j : Fin 2048) : (iblk m c 0 t : S256x2048.Idx → EReal) (ix2 i j) = A (ix2 (row t i) j) := by
  subst hA
  blk_ext [iblk, V, idx t]
/-- An entry of the block of the norm's gradient. -/
theorem blk1 (hH : V m c main_arg1 = H) (i : Fin 256) (j : Fin 2048) : (iblk m c 1 t : S256x2048.Idx → EReal) (ix2 i j) = H (ix2 (row t i) j) := by
  subst hH
  blk_ext [iblk, V, idx t]
/-- An entry of the block of the norm's argument. -/
theorem blk2 (hX : V m c main_arg2 = X) (i : Fin 256) (j : Fin 2048) : (iblk m c 2 t : S256x2048.Idx → EReal) (ix2 i j) = X (ix2 (row t i) j) := by
  subst hX
  blk_ext [iblk, V, idx t]
/-- An entry of the weight's block. -/
theorem blk3 (hG : ∀ j : Fin 2048, (V m c main_v0 : S1x2048.Idx → EReal) (ix2 0 j) = G (ix1 j)) (j : Fin 2048) :
    (iblk m c 3 t : S1x2048.Idx → EReal) (ix2 0 j) = G (ix1 j) := by
  refine Eq.trans ?_ (hG j)
  blk_ext [iblk, idx t]

/-- A weight's gradient at one row. -/
abbrev term (j k : Fin 2048) : EReal := H (ix2 k j) * (X (ix2 k j) * Ideal.rsqrt (ms fun l => X (ix2 k l)))

/-- A point's part of the weight's gradient, given by the arrays. -/
theorem part_at (hH : V m c main_arg1 = H) (hX : V m c main_arg2 = X) (j : Fin 2048) :
    k0_pay3 (F := Ideal) (iblk m c 2 t) (iblk m c 1 t) (ix2 0 j) = ∑ i : Fin 256, term H X j (row t i) := by
  rw [pay3]
  refine Finset.sum_congr rfl fun i _ => ?_
  simp only [blk1 m c t H hH, blk2 m c t X hX]

/-- The weight's gradient after the last point. -/
theorem dg_at (h : t.val = 7) (hH : V m c main_arg1 = H) (hX : V m c main_arg2 = X) (j : Fin 2048) :
    (outsAt0 m c t.val t.isLt).2 (ix2 0 j) = ∑ k : Fin 2048, term H X j k := by
  obtain rfl : t = ⟨7, by decide⟩ := Fin.ext h
  refine Tiles.last _ (fun n h => (outsAt0 m c n h).2 (ix2 0 j)) ?_ fun n h => ?_
  · rw [dg_first m c ⟨0, by decide⟩ rfl]
    exact part_at m c ⟨0, by decide⟩ H X hH hX j
  · refine (congrFun (dg_later m c ⟨n + 1, h⟩ (by dsimp only; omega)) _).trans ((pay5 _ _ _ _).trans ?_)
    exact congrArg _ (part_at m c ⟨n + 1, h⟩ H X hH hX j)

/-- The array of the row's gradient. -/
theorem final_dx (hA : V m c main_arg0 = A) (hH : V m c main_arg1 = H) (hX : V m c main_arg2 = X)
    (hG : ∀ j : Fin 2048, (V m c main_v0 : S1x2048.Idx → EReal) (ix2 0 j) = G (ix1 j)) (Z : FVec Ideal S2048x2048 .f32)
    (hZ : ∀ i j : Fin 2048, Z (ix2 i j) = ker (Ideal.rsqrt (ms fun k => X (ix2 i k))) (A (ix2 i j)) (fun k => H (ix2 i k) * G (ix1 k)) (fun k => X (ix2 i k)) j) :
    (dats m 0 c).arrAt 4 cfg0.N = Z := by
  refine (dats m 0 c).arrAt_eq_of_covers 4 _ (by decide +kernel) fun t _ y => ?_
  have ht : t.val < 8 := t.isLt
  have hy0 : (y 0).val < 256 := (y 0).isLt
  have hy1 : (y 1).val < 2048 := (y 1).isLt
  blk_simp
  rw [after0_4, dx_block m c t]
  have e : (win0_4.blk t).view.emb y = (ix2 (row t ⟨(y 0).val, hy0⟩) ⟨(y 1).val, hy1⟩ : S2048x2048.Idx) := by
    blk_ext [idx t]
  have ey : y = (ix2 ⟨(y 0).val, hy0⟩ ⟨(y 1).val, hy1⟩ : S256x2048.Idx) := by blk_ext
  refine Eq.trans ?_ ((congrArg Z e).trans (hZ _ _)).symm
  refine (congrArg (k0_pay4 _ _ _ _) ey).trans ((pay4 _ _ _ _ _ _).trans ?_)
  simp only [blk0 m c t A hA, blk1 m c t H hH, blk2 m c t X hX, blk3 m c t G hG]

/-- The array of the weight's gradient. -/
theorem final_dg (hH : V m c main_arg1 = H) (hX : V m c main_arg2 = X) (Z : FVec Ideal S1x2048 .f32)
    (hZ : ∀ j : Fin 2048, Z (ix2 0 j) = ∑ k : Fin 2048, term H X j k) :
    (dats m 0 c).arrAt 5 cfg0.N = Z := by
  refine (dats m 0 c).arrAt_eq_of_covers 5 _ (by decide +kernel) fun t hf y => ?_
  have h7 : t.val = 7 := (by decide +kernel : ∀ t : Fin cfg0.N, (cfg0.win 5).flush t = true → t.val = 7) t hf
  have hy0 : (y 0).val < 1 := (y 0).isLt
  have hy1 : (y 1).val < 2048 := (y 1).isLt
  blk_simp
  rw [after0_5]
  have e : (win0_5.blk t).view.emb y = (ix2 0 ⟨(y 1).val, hy1⟩ : S1x2048.Idx) := by
    blk_ext [idx t]
  have ey : y = (ix2 0 ⟨(y 1).val, hy1⟩ : S1x2048.Idx) := by blk_ext
  refine Eq.trans ?_ ((congrArg Z e).trans (hZ _)).symm
  exact (congrArg _ ey).trans (dg_at m c t H X h7 hH hX _)

/-- The gradient that passes by, as an array of entries. -/
abbrev a0 : S2048x2048.Idx → EReal := m ((c.tc : Thread nD τ).loc main_arg0)
/-- The norm's gradient. -/
abbrev a1 : S2048x2048.Idx → EReal := m ((c.tc : Thread nD τ).loc main_arg1)
/-- The norm's argument. -/
abbrev a2 : S2048x2048.Idx → EReal := m ((c.tc : Thread nD τ).loc main_arg2)
/-- The norm's weight. -/
abbrev a3 : S2048.Idx → EReal := m ((c.tc : Thread nD τ).loc main_arg3)

/-- The arguments, as the call finds them. -/
theorem args : V m c main_arg0 = a0 m c ∧ V m c main_arg1 = a1 m c ∧ V m c main_arg2 = a2 m c := by
  refine ⟨?_, ?_, ?_⟩
  · entry_read
    rfl
  · entry_read
    rfl
  · entry_read
    rfl

/-- The weight, as the call finds it. -/
theorem weight (j : Fin 2048) : (V m c main_v0 : S1x2048.Idx → EReal) (ix2 0 j) = a3 m c (ix1 j) := by
  entry_read
  pointwise

/-- The row's gradient: the call's result is the reference's. -/
theorem same_dx (A H X : FVec Ideal S2048x2048 .f32) (G : FVec Ideal S2048 .f32) (hA : A = a0 m c) (hH : H = a1 m c) (hX : X = a2 m c) (hG : G = a3 m c)
    (Z : FVec Ideal S2048x2048 .f32) (hZ : Z = Cert.NormRef.dx A H X G) : (dats m 0 c).arrAt 4 cfg0.N = Z := by
  subst hZ
  exact final_dx m c A H X G ((args m c).1.trans hA.symm) ((args m c).2.1.trans hH.symm) ((args m c).2.2.trans hX.symm)
    (fun j => (weight m c j).trans (congrFun hG _).symm) _ fun i j => (Cert.NormRef.dx_at A H X G i j).trans (Cert.NormReal.same _ _ _ _).symm

/-- The weight's gradient: the call's result is the reference's. -/
theorem same_dg (H X : FVec Ideal S2048x2048 .f32) (hH : H = a1 m c) (hX : X = a2 m c)
    (Z : FVec Ideal S1x2048 .f32) (hZ : Z = Cert.NormRef.dg H X) : (dats m 0 c).arrAt 5 cfg0.N = Z := by
  subst hZ
  exact final_dg m c H X ((args m c).2.1.trans hH.symm) ((args m c).2.2.trans hX.symm) _ (Cert.NormRef.dg_at H X)

attribute [local instance] Cert.NormIdeal.Gen.facts Cert.NormRefIdeal.Gen.facts in
/-- From arguments that agree, the call's results are the reference's. -/
theorem algebraic : Cert.algebraic_NormIdeal_NormRefIdeal := by
  pair_intro
  · run_from Cert.NormIdeal.Value.run_blocks m g
  · run_from Cert.NormRef.run m' g'
    · exact (same_dx m _ _ _ _ _ rfl rfl rfl rfl _ rfl).symm
    · exact (same_dg m _ _ _ rfl rfl _ rfl).symm

end Cert.NormMain

end
-- ==== Proof.LossMain.lean ====
module

public import proofs.«01_k».proof.Proof.Tiles
public import proofs.«01_k».proof.Proof.Gen.LossIdeal.Value
public import proofs.«01_k».proof.Proof.Gen.LossRefIdeal.Run
public import proofs.«01_k».proof.Defs
public import Idealize.ShloMosaic.Adequacy
public import Idealize.ShloMosaic.Init

@[expose] public section

set_option maxRecDepth 16384

noncomputable section

/-! The loss head: the gradient of the loss, and each feature's part of the loss, which eight grid points add up over the rows. -/

namespace Cert.LossRef

open Idealize.ShloMosaic Idealize.ShloMosaic.TcCoe Idealize.SL.Sem
open Cert.LossRefIdeal Cert.LossRefIdeal.Gen

/-- The constant that the kernel multiplies the difference by is one over the number of features. -/
theorem c_inv : Ideal.ofBits .f32 0x3A000000#32 = (((2048 : ℝ)⁻¹ : ℝ) : EReal) := by simp [Ideal.ofBits, Ideal.ieee, -EReal.coe_mul]; norm_num
/-- The constant that the kernel multiplies the squares by is one half over the number of features. -/
theorem c_part : Ideal.ofBits .f32 0x39800000#32 = (((4096 : ℝ)⁻¹ : ℝ) : EReal) := by simp [Ideal.ofBits, Ideal.ieee, -EReal.coe_mul]; norm_num
/-- One half. -/
theorem c_half : Ideal.ofBits .f32 0x3F000000#32 = (((2 : ℝ)⁻¹ : ℝ) : EReal) := by simp [Ideal.ofBits, Ideal.ieee, -EReal.coe_mul]; norm_num
/-- One. -/
theorem c_one : Ideal.ofBits .f32 0x3F800000#32 = ((1 : ℝ) : EReal) := by simp [Ideal.ofBits, Ideal.ieee, -EReal.coe_mul]; norm_num
/-- Two. -/
theorem c_two : Ideal.ofBits .f32 0x40000000#32 = ((2 : ℝ) : EReal) := by simp [Ideal.ofBits, Ideal.ieee, -EReal.coe_mul]; norm_num
/-- The number of features. -/
theorem c_n : Ideal.ofBits .f32 0x45000000#32 = ((2048 : ℝ) : EReal) := by simp [Ideal.ofBits, Ideal.ieee, -EReal.coe_mul]; norm_num

/-- The square of a difference, an entry's share of the loss before the factor. -/
abbrev sq (A B : S2048x2048.Idx → EReal) (j k : Fin 2048) : EReal := (A (ix2 k j) - B (ix2 k j)) * (A (ix2 k j) - B (ix2 k j))

/-! ## The reference -/

/-- The reference's gradient. -/
def grad (A B : FVec Ideal S2048x2048 .f32) : FVec Ideal S2048x2048 .f32 :=
  mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (subf A B))
/-- The reference's parts of the loss. -/
def parts (A B : FVec Ideal S2048x2048 .f32) : FVec Ideal S1x2048 .f32 :=
  mulf (broadcastInDim S1x2048 ![] bcast_S_S1x2048 (constant S_ .f32 0x3F000000#32)) (broadcastInDim S1x2048 ![1] bcast_S2048_S1x2048_1 (Host.reduceAdd (Host.divf (mulf (subf A B) (subf A B)) (broadcastInDim S2048x2048 ![] bcast_S_S2048x2048 (constant S_ .f32 0x45000000#32))) (constant S_ .f32 0x00000000#32) reducesTo_S2048x2048_S2048_d0 h_S_))

/-- The gradient, computed from the loss of reference.py. -/
theorem grad_ref (A B : FVec Ideal S2048x2048 .f32) (i j : Fin 2048) :
    grad A B (ix2 i j)
      = (A (ix2 i j) - B (ix2 i j)) * Ideal.ofBits .f32 0x3A000000#32 := by
  have e : Ideal.div (Ideal.ofBits .f32 0x3F000000#32 * Ideal.ofBits .f32 0x3F800000#32) (Ideal.ofBits .f32 0x45000000#32) * Ideal.ofBits .f32 0x40000000#32
      = Ideal.ofBits .f32 0x3A000000#32 := by
    rw [c_half, c_one, c_n, c_two, c_inv, Ideal.div_coe (by norm_num), ← EReal.coe_mul, ← EReal.coe_mul, ← EReal.coe_mul]
    norm_num
  rw [← e, mul_comm (A (ix2 i j) - B (ix2 i j)), mul_assoc]
  pointwise [grad]

/-- A feature's part of the loss, computed as reference.py has it. -/
theorem parts_ref (A B : FVec Ideal S2048x2048 .f32) (j : Fin 2048) :
    parts A B (ix2 0 j)
      = ∑ k : Fin 2048, Ideal.ofBits .f32 0x39800000#32 * sq A B j k := by
  have h : parts A B (ix2 0 j)
      = Ideal.ofBits .f32 0x3F000000#32 * ∑ k : Fin 2048, Ideal.div (sq A B j k) (Ideal.ofBits .f32 0x45000000#32) := by
    pointwise [parts]
  rw [h, c_half, c_n, c_part, Tiles.mul_sum_real (EReal.coe_nonneg.2 (by positivity)) (EReal.coe_ne_top _)]
  refine Finset.sum_congr rfl fun k _ => ?_
  rw [Ideal.div_coe (by norm_num), mul_left_comm, ← EReal.coe_mul, mul_comm]
  norm_num

/-- The reference's run, with its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = grad (m ((c.tc : Thread nD τ).loc main_arg0)) (m ((c.tc : Thread nD τ).loc main_arg1))
      ∧ r.2.mem ((c.tc : Thread nD τ).loc main_v22) = parts (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2.1.trans rfl, (h c).2.2⟩) (Cert.LossRefIdeal.Value.run m ρ)

end Cert.LossRef

namespace Cert.LossMain

open Idealize.ShloMosaic Idealize.ShloMosaic.TcCoe Idealize.SL.Sem
open Cert.LossIdeal Cert.LossIdeal.Gen
open Cert.LossRef (sq c_part grad_ref parts_ref)

variable (m : (ℓ : Loc nD τ sig) → Buf (Elt Ideal) ℓ) (c : Dev nD)

/-- The offsets of a store of a whole block of two axes. -/
theorem off2 : (![0, 0] : Fin 2 → ℕ) = fun _ => 0 := by decide

/-- The block indices of the windows at each grid point. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-! ## What a grid point computes -/

variable (x y : S256x2048.Idx → EReal)

/-- An entry of the gradient's block. -/
theorem pay2 (i : Fin 256) (j : Fin 2048) : k0_pay2 (F := Ideal) x y (ix2 i j) = (x (ix2 i j) - y (ix2 i j)) * Ideal.ofBits .f32 0x3A000000#32 := by
  pointwise [k0_pay2, k0_pay1]
/-- A feature's part over the point's rows. -/
theorem pay3 (j : Fin 2048) : k0_pay3 (F := Ideal) x y (ix2 0 j)
    = (∑ i : Fin 256, (x (ix2 i j) - y (ix2 i j)) * (x (ix2 i j) - y (ix2 i j))) * Ideal.ofBits .f32 0x39800000#32 := by
  pointwise [k0_pay3, k0_pay1]
/-- A later point adds its rows' part. -/
theorem pay4 (z : S1x2048.Idx → EReal) (j : Fin 2048) : k0_pay4 (F := Ideal) x y z (ix2 0 j) = z (ix2 0 j) + k0_pay3 (F := Ideal) x y (ix2 0 j) := by
  unfold k0_pay4
  generalize k0_pay3 (F := Ideal) x y = w
  pointwise

variable (t : Fin cfg0.N)

/-- The gradient's block that a point writes. -/
theorem grad_block : (outsAt0 m c t.val t.isLt).1 = k0_pay2 (iblk m c 0 t) (iblk m c 1 t) := by
  have h8 : t.val < 8 := t.isLt
  by_cases h : t.val = 0
  · rw [outsAt0_A m c t (by omega) (by omega)]
    dsimp only
    unfold out0_A_2
    rw [View.read_writes_eq_canon _ _ _ (cover0_A_2 _ _ _ _ _ _ _ _ _ _ _ _ _ _)]
    unfold kernelRun0_A
    dsimp only
    rw [View.canon_unit_zero off2]
    simp only [View.readAt_eq_ld, Memref.IsWhole.read_unread, View.ld_unit_zero (S := S256x2048) off2]
  · rw [outsAt0_B m c t (by omega) (by omega)]
    dsimp only
    unfold out0_B_2
    rw [View.read_writes_eq_canon _ _ _ (cover0_B_2 _ _ _ _ _ _ _ _ _ _ _ _ _ _ _)]
    unfold kernelRun0_B
    dsimp only
    rw [View.canon_unit_zero off2]
    simp only [View.readAt_eq_ld, Memref.IsWhole.read_unread, View.ld_unit_zero (S := S256x2048) off2]

/-- The features' parts after the first point. -/
theorem parts_first (h : t.val = 0) : (outsAt0 m c t.val t.isLt).2 = k0_pay3 (iblk m c 0 t) (iblk m c 1 t) := by
  rw [outsAt0_A m c t (by omega) (by omega)]
  dsimp only
  unfold out0_A_3
  rw [View.read_writes_eq_canon _ _ _ (cover0_A_3 _ _ _ _ _ _ _ _ _ _ _ _ _ _)]
  unfold kernelRun0_A
  dsimp only
  rw [View.canon_unit_zero off2]
  simp only [View.readAt_eq_ld, Memref.IsWhole.read_unread, View.ld_unit_zero (S := S256x2048) off2]

/-- The features' parts after a later point. -/
theorem parts_later (h : 1 ≤ t.val) :
    (outsAt0 m c t.val t.isLt).2 = k0_pay4 (iblk m c 0 t) (iblk m c 1 t) (outsAt0 m c (t.val - 1) (by have := t.isLt; omega)).2 := by
  have h8 : t.val < 8 := t.isLt
  rw [outsAt0_B m c t (by omega) h]
  dsimp only
  unfold out0_B_3
  rw [View.read_writes_eq_canon _ _ _ (cover0_B_3 _ _ _ _ _ _ _ _ _ _ _ _ _ _ _)]
  unfold kernelRun0_B
  dsimp only
  rw [View.canon_unit_zero off2]
  simp only [View.readAt_eq_ld, Memref.IsWhole.read_unread, View.ld_unit_zero (S := S256x2048) off2, View.ld_unit_zero (S := S1x2048) off2]

/-! ## The result arrays -/

variable (A B : S2048x2048.Idx → EReal)

/-- The blocks' entries, given by the arrays. -/
theorem blks (hA : V m c main_arg0 = A) (hB : V m c main_arg1 = B) (i : Fin 256) (j : Fin 2048) :
    (iblk m c 0 t : S256x2048.Idx → EReal) (ix2 i j) = A (ix2 ⟨t.val * 256 + i.val, by have : t.val < 8 := t.isLt; omega⟩ j)
      ∧ (iblk m c 1 t : S256x2048.Idx → EReal) (ix2 i j) = B (ix2 ⟨t.val * 256 + i.val, by have : t.val < 8 := t.isLt; omega⟩ j) := by
  subst hA hB
  constructor
  · blk_ext [iblk, V, idx t]
  · blk_ext [iblk, V, idx t]

/-- The square of an extended real is not negative. -/
theorem sq_nonneg (x : EReal) : 0 ≤ x * x := by
  induction x with
  | bot => simp
  | top => simp
  | coe r => rw [← EReal.coe_mul]; exact EReal.coe_nonneg.2 (mul_self_nonneg r)

/-- A point's part of a feature, given by the arrays. -/
theorem part_at (hA : V m c main_arg0 = A) (hB : V m c main_arg1 = B) (j : Fin 2048) :
    k0_pay3 (F := Ideal) (iblk m c 0 t) (iblk m c 1 t) (ix2 0 j)
      = ∑ i : Fin 256, Ideal.ofBits .f32 0x39800000#32 * sq A B j ⟨t.val * 256 + i.val, by have : t.val < 8 := t.isLt; omega⟩ := by
  rw [pay3, mul_comm, c_part, Tiles.mul_sum_real (EReal.coe_nonneg.2 (by positivity)) (EReal.coe_ne_top _)]
  refine Finset.sum_congr rfl fun i _ => ?_
  rw [(blks m c t A B hA hB i j).1, (blks m c t A B hA hB i j).2]

/-- The features' parts after the last point. -/
theorem parts_at (h : t.val = 7) (hA : V m c main_arg0 = A) (hB : V m c main_arg1 = B) (j : Fin 2048) :
    (outsAt0 m c t.val t.isLt).2 (ix2 0 j) = ∑ k : Fin 2048, Ideal.ofBits .f32 0x39800000#32 * sq A B j k := by
  obtain rfl : t = ⟨7, by decide⟩ := Fin.ext h
  refine Tiles.last _ (fun n h => (outsAt0 m c n h).2 (ix2 0 j)) ?_ fun n h => ?_
  · rw [parts_first m c ⟨0, by decide⟩ rfl]
    exact part_at m c ⟨0, by decide⟩ A B hA hB j
  · refine (congrFun (parts_later m c ⟨n + 1, h⟩ (by dsimp only; omega)) _).trans ((pay4 _ _ _ _).trans ?_)
    exact congrArg _ (part_at m c ⟨n + 1, h⟩ A B hA hB j)

/-- The gradient array. -/
theorem final_grad (hA : V m c main_arg0 = A) (hB : V m c main_arg1 = B) (X : FVec Ideal S2048x2048 .f32)
    (hX : ∀ i j : Fin 2048, X (ix2 i j) = (A (ix2 i j) - B (ix2 i j)) * Ideal.ofBits .f32 0x3A000000#32) :
    (dats m 0 c).arrAt 2 cfg0.N = X := by
  refine (dats m 0 c).arrAt_eq_of_covers 2 _ (by decide +kernel) fun t _ y => ?_
  have ht : t.val < 8 := t.isLt
  have hy0 : (y 0).val < 256 := (y 0).isLt
  have hy1 : (y 1).val < 2048 := (y 1).isLt
  blk_simp
  rw [after0_2, grad_block m c t]
  have e : (win0_2.blk t).view.emb y = (ix2 ⟨t.val * 256 + (y 0).val, by omega⟩ ⟨(y 1).val, hy1⟩ : S2048x2048.Idx) := by
    blk_ext [idx t]
  have ey : y = (ix2 ⟨(y 0).val, hy0⟩ ⟨(y 1).val, hy1⟩ : S256x2048.Idx) := by blk_ext
  refine Eq.trans ?_ ((congrArg X e).trans (hX _ _)).symm
  refine (congrArg (k0_pay2 _ _) ey).trans ((pay2 _ _ _ _).trans ?_)
  rw [(blks m c t A B hA hB _ _).1, (blks m c t A B hA hB _ _).2]

/-- The array of the features' parts. -/
theorem final_parts (hA : V m c main_arg0 = A) (hB : V m c main_arg1 = B) (X : FVec Ideal S1x2048 .f32)
    (hX : ∀ j : Fin 2048, X (ix2 0 j) = ∑ k : Fin 2048, Ideal.ofBits .f32 0x39800000#32 * sq A B j k) :
    (dats m 0 c).arrAt 3 cfg0.N = X := by
  refine (dats m 0 c).arrAt_eq_of_covers 3 _ (by decide +kernel) fun t hf y => ?_
  have h7 : t.val = 7 := (by decide +kernel : ∀ t : Fin cfg0.N, (cfg0.win 3).flush t = true → t.val = 7) t hf
  have hy0 : (y 0).val < 1 := (y 0).isLt
  have hy1 : (y 1).val < 2048 := (y 1).isLt
  blk_simp
  rw [after0_3]
  have e : (win0_3.blk t).view.emb y = (ix2 0 ⟨(y 1).val, hy1⟩ : S1x2048.Idx) := by
    blk_ext [idx t]
  have ey : y = (ix2 0 ⟨(y 1).val, hy1⟩ : S1x2048.Idx) := by blk_ext
  refine Eq.trans ?_ ((congrArg X e).trans (hX _)).symm
  exact (congrArg _ ey).trans (parts_at m c t A B h7 hA hB _)

/-- The model's output, as an array of entries. -/
abbrev a0 : S2048x2048.Idx → EReal := m ((c.tc : Thread nD τ).loc main_arg0)
/-- The target. -/
abbrev a1 : S2048x2048.Idx → EReal := m ((c.tc : Thread nD τ).loc main_arg1)

/-- The arguments, as the call finds them. -/
theorem args : V m c main_arg0 = a0 m c ∧ V m c main_arg1 = a1 m c := by
  constructor
  · entry_read
    rfl
  · entry_read
    rfl

/-- The gradient: the call's result is the reference's. -/
theorem same_grad (A B : FVec Ideal S2048x2048 .f32) (hA : A = a0 m c) (hB : B = a1 m c) (X : FVec Ideal S2048x2048 .f32)
    (hX : X = Cert.LossRef.grad A B) : (dats m 0 c).arrAt 2 cfg0.N = X := by
  subst hX
  exact final_grad m c A B ((args m c).1.trans hA.symm) ((args m c).2.trans hB.symm) _ (grad_ref A B)

/-- The features' parts of the loss: the call's result is the reference's. -/
theorem same_parts (A B : FVec Ideal S2048x2048 .f32) (hA : A = a0 m c) (hB : B = a1 m c) (X : FVec Ideal S1x2048 .f32)
    (hX : X = Cert.LossRef.parts A B) : (dats m 0 c).arrAt 3 cfg0.N = X := by
  subst hX
  exact final_parts m c A B ((args m c).1.trans hA.symm) ((args m c).2.trans hB.symm) _ (parts_ref A B)

attribute [local instance] Cert.LossIdeal.Gen.facts Cert.LossRefIdeal.Gen.facts in
/-- From arguments that agree, the call's results are the reference's. -/
theorem algebraic : Cert.algebraic_LossIdeal_LossRefIdeal := by
  pair_intro
  · run_from Cert.LossIdeal.Value.run_blocks m g
  · run_from Cert.LossRef.run m' g'
    · exact (same_grad m _ _ _ rfl rfl _ rfl).symm
    · exact (same_parts m _ _ _ rfl rfl _ rfl).symm

end Cert.LossMain

end
-- ==== Proof.AdamMain.lean ====
module

public import proofs.«01_k».proof.Proof.Gen.AdamIdeal.Value
public import proofs.«01_k».proof.Proof.Gen.AdamRefIdeal.Run
public import proofs.«01_k».proof.Defs
public import Idealize.ShloMosaic.Adequacy
public import Idealize.ShloMosaic.Init

@[expose] public section

set_option maxRecDepth 16384

noncomputable section

/-! The optimiser's step: the two programs write the same formula, entry by entry. -/

namespace Cert.AdamMain

open Idealize.ShloMosaic Idealize.ShloMosaic.TcCoe Idealize.SL.Sem

attribute [local instance] Cert.AdamIdeal.Gen.facts Cert.AdamRefIdeal.Gen.facts in
/-- From arguments that agree, the optimiser's call leaves the reference's results. -/
theorem algebraic : Cert.algebraic_AdamIdeal_AdamRefIdeal := by
  pair_intro
  · run_from Cert.AdamIdeal.Value.run m g
  · run_from Cert.AdamRefIdeal.Value.run m' g'
    all_goals rfl

end Cert.AdamMain

end
-- ==== Proof.NormsMain.lean ====
module

public import proofs.«01_k».proof.Proof.NormMain
public import proofs.«01_k».proof.Proof.Gen.NormsIdeal.Value
public import proofs.«01_k».proof.Proof.Gen.NormsRefIdeal.Run

@[expose] public section

set_option maxRecDepth 16384

noncomputable section

/-! The backward pass of two norms in one call: the norm before the next part of the layer, whose gradient is added to the gradient that passes it by, and then the norm after this part, which that sum enters. Eight grid points add up the gradients of the two weights over the rows. -/

namespace Cert.NormsRef

open Idealize.ShloMosaic Idealize.ShloMosaic.TcCoe Idealize.SL.Sem
open Cert.NormsRefIdeal Cert.NormsRefIdeal.Gen
open Cert.NormReal (ms ref)
open Cert.NormRef (rows wt facs dx dg rows_at wt_at facs_at)

/-- The reference's gradient of a norm's row, with nothing added to it. -/
def dy (H X : FVec Ideal S2048x2048 .f32) (G : FVec Ideal S2048 .f32) : FVec Ideal S2048x2048 .f32 :=
  addf (addf (mulf (wt H G) (broadcastInDim S2048x2048 ![0, 1] bcast_S2048x1_S2048x2048_0_1 (Host.rsqrt (rows X)))) (mulf X (facs H X G))) (mulf (facs H X G) X)
/-- The same, rounded to half the width. -/
def dyh (H X : FVec Ideal S2048x2048 .f32) (G : FVec Ideal S2048 .f32) : FVec Ideal S2048x2048 .bf16 :=
  truncf .bf16 (dy H X G) bitsLt_bf16_f32

/-- An entry of that gradient. -/
theorem dyh_at (H X : FVec Ideal S2048x2048 .f32) (G : FVec Ideal S2048 .f32) (i j : Fin 2048) :
    dyh H X G (ix2 i j) = ref (Ideal.rsqrt (ms fun k => X (ix2 i k))) (ms fun k => X (ix2 i k)) 0 (fun k => H (ix2 i k) * G (ix1 k)) (fun k => X (ix2 i k)) j := by
  unfold ref
  rw [zero_add, ← facs_at H X G i j, ← rows_at]
  dsimp only
  rw [← wt_at]
  unfold dyh dy
  generalize facs H X G = C
  generalize wt H G = D
  generalize rows X = R
  pointwise

/-- The reference's run, with its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = dx (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v73) = dyh (dx (m ((c.tc : Thread nD τ).loc main_arg0)) (m ((c.tc : Thread nD τ).loc main_arg1)) (m ((c.tc : Thread nD τ).loc main_arg2)) (m ((c.tc : Thread nD τ).loc main_arg5))) (m ((c.tc : Thread nD τ).loc main_arg3)) (m ((c.tc : Thread nD τ).loc main_arg4))
      ∧ r.2.mem ((c.tc : Thread nD τ).loc main_v74) = dg (dx (m ((c.tc : Thread nD τ).loc main_arg0)) (m ((c.tc : Thread nD τ).loc main_arg1)) (m ((c.tc : Thread nD τ).loc main_arg2)) (m ((c.tc : Thread nD τ).loc main_arg5))) (m ((c.tc : Thread nD τ).loc main_arg3))
      ∧ r.2.mem ((c.tc : Thread nD τ).loc main_v75) = dg (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2.1.trans rfl, (h c).2.2.1.trans rfl, (h c).2.2.2.1.trans rfl, (h c).2.2.2.2⟩) (Cert.NormsRefIdeal.Value.run m ρ)

end Cert.NormsRef

namespace Cert.NormsMain

open Idealize.ShloMosaic Idealize.ShloMosaic.TcCoe Idealize.SL.Sem
open Cert.NormsIdeal Cert.NormsIdeal.Gen
open Cert.NormReal (ms ker)
open Cert.NormMain (off2 term)

variable (m : (ℓ : Loc nD τ sig) → Buf (Elt Ideal) ℓ) (c : Dev nD)

/-- The block indices of the windows at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0]
    ∧ win0_6.index t = ![t.val, 0] ∧ win0_7.index t = ![t.val, 0] ∧ win0_8.index t = ![0, 0] ∧ win0_9.index t = ![0, 0] :=
  (by decide +kernel : ∀ t : Fin grid0.N, _)

/-! ## What a grid point computes -/

variable (a x h : S256x2048.Idx → EReal) (w : S1x2048.Idx → EReal)

/-- The gradient of the row that entered the next norm: the single norm's. -/
theorem pay9 : k0_pay9 (F := Ideal) a x w h = Cert.NormIdeal.Gen.k0_pay4 (F := Ideal) a x w h := rfl
/-- The next norm's weight's gradient over the point's rows. -/
theorem pay8 : k0_pay8 (F := Ideal) x h = Cert.NormIdeal.Gen.k0_pay3 (F := Ideal) x h := rfl
/-- The same, added to what was there. -/
theorem pay10 (z : S1x2048.Idx → EReal) : k0_pay10 (F := Ideal) x h z = Cert.NormIdeal.Gen.k0_pay5 (F := Ideal) x h z := rfl
/-- The other norm's weight's gradient over the point's rows. -/
theorem pay3 : k0_pay3 (F := Ideal) h x = Cert.NormIdeal.Gen.k0_pay3 (F := Ideal) x h := rfl
/-- The same, added to what was there. -/
theorem pay5 (z : S1x2048.Idx → EReal) : k0_pay5 (F := Ideal) h x z = Cert.NormIdeal.Gen.k0_pay5 (F := Ideal) x h z := rfl
/-- One over the root of a row's mean square. -/
theorem pay1 (i : Fin 256) : k0_pay1 (F := Ideal) x (ix2 i 0) = Ideal.rsqrt (ms fun k => x (ix2 i k)) := Cert.NormMain.pay1 x i
/-- An entry of the normalised row. -/
theorem pay2 (i : Fin 256) (j : Fin 2048) : k0_pay2 (F := Ideal) x (ix2 i j) = x (ix2 i j) * Ideal.rsqrt (ms fun k => x (ix2 i k)) := Cert.NormMain.pay2 x i j
/-- An entry of the other norm's gradient, with nothing added to it. -/
theorem pay4 (i : Fin 256) (j : Fin 2048) : k0_pay4 (F := Ideal) h x w (ix2 i j)
    = ker (Ideal.rsqrt (ms fun k => x (ix2 i k))) 0 (fun k => h (ix2 i k) * w (ix2 0 k)) (fun k => x (ix2 i k)) j := by
  unfold ker
  rw [zero_add]
  simp only [← pay2]
  rw [← pay1]
  unfold k0_pay4
  generalize k0_pay2 (F := Ideal) x = Y
  generalize k0_pay1 (F := Ideal) x = R
  pointwise

variable (t : Fin cfg0.N)

/-- The block of the gradient of the row that entered the next norm. -/
abbrev blk : S256x2048.Idx → EReal := k0_pay9 (F := Ideal) (iblk m c 0 t) (iblk m c 2 t) (iblk m c 5 t) (iblk m c 1 t)

/-- The gradients' blocks that a point writes. -/
theorem blocks : (outsAt0 m c t.val t.isLt).1 = blk m c t ∧ (outsAt0 m c t.val t.isLt).2.1 = k0_pay4 (F := Ideal) (blk m c t) (iblk m c 3 t) (iblk m c 4 t) := by
  have h8 : t.val < 8 := t.isLt
  by_cases h : t.val = 0
  · rw [outsAt0_A m c t (by omega) (by omega) (by omega) (by omega)]
    dsimp only
    unfold out0_A_6 out0_A_7
    rw [View.read_writes_eq_canon _ _ _ (cover0_A_6 _ _ _ _ _ _ _ _ _ _ _ _ _ _ _ _ _ _ _ _ _ _ _ _ _ _ _ _ _ _ _ _),
      View.read_writes_eq_canon _ _ _ (cover0_A_7 _ _ _ _ _ _ _ _ _ _ _ _ _ _ _ _ _ _ _ _ _ _ _ _ _ _ _ _ _ _ _ _)]
    unfold kernelRun0_A
    dsimp only
    rw [View.canon_unit_zero off2, View.canon_unit_zero off2]
    unfold kernelRun0_A.sl.r
    simp only [View.readAt_eq_ld, Memref.IsWhole.read_unread, View.ld_unit_zero (S := S256x2048) off2, View.ld_unit_zero (S := S1x2048) off2, and_self]
  · rw [outsAt0_B m c t (by omega) (by omega) (by omega) (by omega)]
    dsimp only
    unfold out0_B_6 out0_B_7
    rw [View.read_writes_eq_canon _ _ _ (cover0_B_6 _ _ _ _ _ _ _ _ _ _ _ _ _ _ _ _ _ _ _ _ _ _ _ _ _ _ _ _ _ _ _ _ _ _),
      View.read_writes_eq_canon _ _ _ (cover0_B_7 _ _ _ _ _ _ _ _ _ _ _ _ _ _ _ _ _ _ _ _ _ _ _ _ _ _ _ _ _ _ _ _ _ _)]
    unfold kernelRun0_B
    dsimp only
    rw [View.canon_unit_zero off2, View.canon_unit_zero off2]
    unfold kernelRun0_B.sl.r
    simp only [View.readAt_eq_ld, Memref.IsWhole.read_unread, View.ld_unit_zero (S := S256x2048) off2, View.ld_unit_zero (S := S1x2048) off2, and_self]

/-- The weights' gradients after the first point. -/
theorem dg_first (h : t.val = 0) : (outsAt0 m c t.val t.isLt).2.2.1 = k0_pay3 (F := Ideal) (blk m c t) (iblk m c 3 t)
    ∧ (outsAt0 m c t.val t.isLt).2.2.2 = k0_pay8 (iblk m c 2 t) (iblk m c 1 t) := by
  rw [outsAt0_A m c t (by omega) (by omega) (by omega) (by omega)]
  dsimp only
  unfold out0_A_8 out0_A_9
  rw [View.read_writes_eq_canon _ _ _ (cover0_A_8 _ _ _ _ _ _ _ _ _ _ _ _ _ _ _ _ _ _ _ _ _ _ _ _ _ _ _ _ _ _ _ _),
    View.read_writes_eq_canon _ _ _ (cover0_A_9 _ _ _ _ _ _ _ _ _ _ _ _ _ _ _ _ _ _ _ _ _ _ _ _ _ _ _ _ _ _ _ _)]
  unfold kernelRun0_A
  dsimp only
  rw [View.canon_unit_zero off2, View.canon_unit_zero off2]
  unfold kernelRun0_A.sl.r
  simp only [View.readAt_eq_ld, Memref.IsWhole.read_unread, View.ld_unit_zero (S := S256x2048) off2, View.ld_unit_zero (S := S1x2048) off2, and_self]

/-- The weights' gradients after a later point. -/
theorem dg_later (h : 1 ≤ t.val) :
    (outsAt0 m c t.val t.isLt).2.2.1 = k0_pay5 (F := Ideal) (blk m c t) (iblk m c 3 t) (outsAt0 m c (t.val - 1) (by have := t.isLt; omega)).2.2.1
    ∧ (outsAt0 m c t.val t.isLt).2.2.2 = k0_pay10 (iblk m c 2 t) (iblk m c 1 t) (outsAt0 m c (t.val - 1) (by have := t.isLt; omega)).2.2.2 := by
  have h8 : t.val < 8 := t.isLt
  rw [outsAt0_B m c t (by omega) h (by omega) h]
  dsimp only
  unfold out0_B_8 out0_B_9
  rw [View.read_writes_eq_canon _ _ _ (cover0_B_8 _ _ _ _ _ _ _ _ _ _ _ _ _ _ _ _ _ _ _ _ _ _ _ _ _ _ _ _ _ _ _ _ _ _),
    View.read_writes_eq_canon _ _ _ (cover0_B_9 _ _ _ _ _ _ _ _ _ _ _ _ _ _ _ _ _ _ _ _ _ _ _ _ _ _ _ _ _ _ _ _ _ _)]
  unfold kernelRun0_B
  dsimp only
  rw [View.canon_unit_zero off2, View.canon_unit_zero off2]
  unfold kernelRun0_B.sl.r
  simp only [View.readAt_eq_ld, Memref.IsWhole.read_unread, View.ld_unit_zero (S := S256x2048) off2, View.ld_unit_zero (S := S1x2048) off2, and_self]

/-! ## The result arrays -/

variable (A H X O : S2048x2048.Idx → EReal) (P G : S2048.Idx → EReal)

/-- The array's row at a block's row. -/
abbrev row (i : Fin 256) : Fin 2048 := ⟨t.val * 256 + i.val, by have : t.val < 8 := t.isLt; omega⟩

/-- The arrays that the call reads hold these entries. -/
structure Reads : Prop where
  /-- The gradient that passes by. -/
  a : V m c main_arg0 = A
  /-- The next norm's gradient. -/
  h : V m c main_arg1 = H
  /-- The next norm's argument. -/
  x : V m c main_arg2 = X
  /-- The other norm's argument. -/
  o : V m c main_arg3 = O
  /-- The other norm's weight. -/
  p : ∀ j : Fin 2048, (V m c main_v0 : S1x2048.Idx → EReal) (ix2 0 j) = P (ix1 j)
  /-- The next norm's weight. -/
  g : ∀ j : Fin 2048, (V m c main_v1 : S1x2048.Idx → EReal) (ix2 0 j) = G (ix1 j)

variable {m c A H X O P G} (hR : Reads m c A H X O P G)
include hR

/-- An entry of the block of the gradient that passes by. -/
theorem blk0 (i : Fin 256) (j : Fin 2048) : (iblk m c 0 t : S256x2048.Idx → EReal) (ix2 i j) = A (ix2 (row t i) j) := by
  have := hR.a
  subst this
  blk_ext [iblk, V, idx t]
/-- An entry of the block of the next norm's gradient. -/
theorem blk1 (i : Fin 256) (j : Fin 2048) : (iblk m c 1 t : S256x2048.Idx → EReal) (ix2 i j) = H (ix2 (row t i) j) := by
  have := hR.h
  subst this
  blk_ext [iblk, V, idx t]
/-- An entry of the block of the next norm's argument. -/
theorem blk2 (i : Fin 256) (j : Fin 2048) : (iblk m c 2 t : S256x2048.Idx → EReal) (ix2 i j) = X (ix2 (row t i) j) := by
  have := hR.x
  subst this
  blk_ext [iblk, V, idx t]
/-- An entry of the block of the other norm's argument. -/
theorem blk3 (i : Fin 256) (j : Fin 2048) : (iblk m c 3 t : S256x2048.Idx → EReal) (ix2 i j) = O (ix2 (row t i) j) := by
  have := hR.o
  subst this
  blk_ext [iblk, V, idx t]
/-- An entry of the other norm's weight's block. -/
theorem blk4 (j : Fin 2048) : (iblk m c 4 t : S1x2048.Idx → EReal) (ix2 0 j) = P (ix1 j) := by
  refine Eq.trans ?_ (hR.p j)
  blk_ext [iblk, idx t]
/-- An entry of the next norm's weight's block. -/
theorem blk5 (j : Fin 2048) : (iblk m c 5 t : S1x2048.Idx → EReal) (ix2 0 j) = G (ix1 j) := by
  refine Eq.trans ?_ (hR.g j)
  blk_ext [iblk, idx t]

variable {D : S2048x2048.Idx → EReal}
  (hD : ∀ i j : Fin 2048, D (ix2 i j) = ker (Ideal.rsqrt (ms fun k => X (ix2 i k))) (A (ix2 i j)) (fun k => H (ix2 i k) * G (ix1 k)) (fun k => X (ix2 i k)) j)
include hD

/-- An entry of the block of the row's gradient. -/
theorem blk_at (i : Fin 256) (j : Fin 2048) : blk m c t (ix2 i j) = D (ix2 (row t i) j) := by
  refine (Cert.NormMain.pay4 _ _ _ _ _ _).trans (Eq.trans ?_ (hD _ _).symm)
  simp only [blk0 t hR, blk1 t hR, blk2 t hR, blk5 t hR]

omit hD in
/-- A point's part of the next norm's weight's gradient. -/
theorem partn_at (j : Fin 2048) : Cert.NormIdeal.Gen.k0_pay3 (F := Ideal) (iblk m c 2 t) (iblk m c 1 t) (ix2 0 j) = ∑ i : Fin 256, term H X j (row t i) := by
  rw [Cert.NormMain.pay3]
  refine Finset.sum_congr rfl fun i _ => ?_
  simp only [blk1 t hR, blk2 t hR]
/-- A point's part of the other norm's weight's gradient. -/
theorem partp_at (j : Fin 2048) : Cert.NormIdeal.Gen.k0_pay3 (F := Ideal) (iblk m c 3 t) (blk m c t) (ix2 0 j) = ∑ i : Fin 256, term D O j (row t i) := by
  rw [Cert.NormMain.pay3]
  refine Finset.sum_congr rfl fun i _ => ?_
  simp only [blk3 t hR, blk_at t hR hD]

omit hD in
/-- The next norm's weight's gradient after the last point. -/
theorem dgn_at (h : t.val = 7) (j : Fin 2048) : (outsAt0 m c t.val t.isLt).2.2.2 (ix2 0 j) = ∑ k : Fin 2048, term H X j k := by
  obtain rfl : t = ⟨7, by decide⟩ := Fin.ext h
  refine Tiles.last _ (fun n h => (outsAt0 m c n h).2.2.2 (ix2 0 j)) ?_ fun n h => ?_
  · rw [(dg_first m c ⟨0, by decide⟩ rfl).2]
    exact partn_at ⟨0, by decide⟩ hR j
  · refine (congrFun (dg_later m c ⟨n + 1, h⟩ (by dsimp only; omega)).2 _).trans ((Cert.NormMain.pay5 _ _ _ _).trans ?_)
    exact congrArg _ (partn_at ⟨n + 1, h⟩ hR j)
/-- The other norm's weight's gradient after the last point. -/
theorem dgp_at (h : t.val = 7) (j : Fin 2048) : (outsAt0 m c t.val t.isLt).2.2.1 (ix2 0 j) = ∑ k : Fin 2048, term D O j k := by
  obtain rfl : t = ⟨7, by decide⟩ := Fin.ext h
  refine Tiles.last _ (fun n h => (outsAt0 m c n h).2.2.1 (ix2 0 j)) ?_ fun n h => ?_
  · rw [(dg_first m c ⟨0, by decide⟩ rfl).1]
    exact partp_at ⟨0, by decide⟩ hR hD j
  · refine (congrFun (dg_later m c ⟨n + 1, h⟩ (by dsimp only; omega)).1 _).trans ((Cert.NormMain.pay5 _ _ _ _).trans ?_)
    exact congrArg _ (partp_at ⟨n + 1, h⟩ hR hD j)

/-- The array of the row's gradient. -/
theorem final_dx : (dats m 0 c).arrAt 6 cfg0.N = D := by
  refine (dats m 0 c).arrAt_eq_of_covers 6 _ (by decide +kernel) fun t _ y => ?_
  have ht : t.val < 8 := t.isLt
  have hy0 : (y 0).val < 256 := (y 0).isLt
  have hy1 : (y 1).val < 2048 := (y 1).isLt
  blk_simp
  rw [after0_6, (blocks m c t).1]
  have e : (win0_6.blk t).view.emb y = (ix2 (row t ⟨(y 0).val, hy0⟩) ⟨(y 1).val, hy1⟩ : S2048x2048.Idx) := by
    blk_ext [idx t]
  have ey : y = (ix2 ⟨(y 0).val, hy0⟩ ⟨(y 1).val, hy1⟩ : S256x2048.Idx) := by blk_ext
  refine Eq.trans ?_ (congrArg D e).symm
  exact (congrArg (blk m c t) ey).trans (blk_at t hR hD _ _)

/-- The array of the other norm's argument's gradient. -/
theorem final_do (Z : FVec Ideal S2048x2048 .bf16)
    (hZ : ∀ i j : Fin 2048, Z (ix2 i j) = ker (Ideal.rsqrt (ms fun k => O (ix2 i k))) 0 (fun k => D (ix2 i k) * P (ix1 k)) (fun k => O (ix2 i k)) j) :
    (dats m 0 c).arrAt 7 cfg0.N = Z := by
  refine (dats m 0 c).arrAt_eq_of_covers 7 _ (by decide +kernel) fun t _ y => ?_
  have ht : t.val < 8 := t.isLt
  have hy0 : (y 0).val < 256 := (y 0).isLt
  have hy1 : (y 1).val < 2048 := (y 1).isLt
  blk_simp
  rw [after0_7, (blocks m c t).2]
  have e : (win0_7.blk t).view.emb y = (ix2 (row t ⟨(y 0).val, hy0⟩) ⟨(y 1).val, hy1⟩ : S2048x2048.Idx) := by
    blk_ext [idx t]
  have ey : y = (ix2 ⟨(y 0).val, hy0⟩ ⟨(y 1).val, hy1⟩ : S256x2048.Idx) := by blk_ext
  refine Eq.trans ?_ ((congrArg Z e).trans (hZ _ _)).symm
  refine (congrArg (k0_pay4 (F := Ideal) _ _ _) ey).trans ((pay4 _ _ _ _ _).trans ?_)
  simp only [blk3 t hR, blk4 t hR, blk_at t hR hD]

/-- The array of the other norm's weight's gradient. -/
theorem final_dgp (Z : FVec Ideal S1x2048 .f32) (hZ : ∀ j : Fin 2048, Z (ix2 0 j) = ∑ k : Fin 2048, term D O j k) :
    (dats m 0 c).arrAt 8 cfg0.N = Z := by
  refine (dats m 0 c).arrAt_eq_of_covers 8 _ (by decide +kernel) fun t hf y => ?_
  have h7 : t.val = 7 := (by decide +kernel : ∀ t : Fin cfg0.N, (cfg0.win 8).flush t = true → t.val = 7) t hf
  have hy0 : (y 0).val < 1 := (y 0).isLt
  have hy1 : (y 1).val < 2048 := (y 1).isLt
  blk_simp
  rw [after0_8]
  have e : (win0_8.blk t).view.emb y = (ix2 0 ⟨(y 1).val, hy1⟩ : S1x2048.Idx) := by
    blk_ext [idx t]
  have ey : y = (ix2 0 ⟨(y 1).val, hy1⟩ : S1x2048.Idx) := by blk_ext
  refine Eq.trans ?_ ((congrArg Z e).trans (hZ _)).symm
  exact (congrArg _ ey).trans (dgp_at t hR hD h7 _)

omit hD in
/-- The array of the next norm's weight's gradient. -/
theorem final_dgn (Z : FVec Ideal S1x2048 .f32) (hZ : ∀ j : Fin 2048, Z (ix2 0 j) = ∑ k : Fin 2048, term H X j k) :
    (dats m 0 c).arrAt 9 cfg0.N = Z := by
  refine (dats m 0 c).arrAt_eq_of_covers 9 _ (by decide +kernel) fun t hf y => ?_
  have h7 : t.val = 7 := (by decide +kernel : ∀ t : Fin cfg0.N, (cfg0.win 9).flush t = true → t.val = 7) t hf
  have hy0 : (y 0).val < 1 := (y 0).isLt
  have hy1 : (y 1).val < 2048 := (y 1).isLt
  blk_simp
  rw [after0_9]
  have e : (win0_9.blk t).view.emb y = (ix2 0 ⟨(y 1).val, hy1⟩ : S1x2048.Idx) := by
    blk_ext [idx t]
  have ey : y = (ix2 0 ⟨(y 1).val, hy1⟩ : S1x2048.Idx) := by blk_ext
  refine Eq.trans ?_ ((congrArg Z e).trans (hZ _)).symm
  exact (congrArg _ ey).trans (dgn_at t hR h7 _)

omit hR hD

variable (m c)

/-- The gradient that passes by, as an array of entries. -/
abbrev a0 : S2048x2048.Idx → EReal := m ((c.tc : Thread nD τ).loc main_arg0)
/-- The next norm's gradient. -/
abbrev a1 : S2048x2048.Idx → EReal := m ((c.tc : Thread nD τ).loc main_arg1)
/-- The next norm's argument. -/
abbrev a2 : S2048x2048.Idx → EReal := m ((c.tc : Thread nD τ).loc main_arg2)
/-- The other norm's argument. -/
abbrev a3 : S2048x2048.Idx → EReal := m ((c.tc : Thread nD τ).loc main_arg3)
/-- The other norm's weight. -/
abbrev a4 : S2048.Idx → EReal := m ((c.tc : Thread nD τ).loc main_arg4)
/-- The next norm's weight. -/
abbrev a5 : S2048.Idx → EReal := m ((c.tc : Thread nD τ).loc main_arg5)

/-- The arguments, as the call finds them. -/
theorem reads : Reads m c (a0 m c) (a1 m c) (a2 m c) (a3 m c) (a4 m c) (a5 m c) where
  a := by
    entry_read
    rfl
  h := by
    entry_read
    rfl
  x := by
    entry_read
    rfl
  o := by
    entry_read
    rfl
  p j := by
    entry_read
    pointwise
  g j := by
    entry_read
    pointwise

/-- The call's four results are the reference's. -/
theorem same (A H X O : FVec Ideal S2048x2048 .f32) (P G : FVec Ideal S2048 .f32) (hA : A = a0 m c) (hH : H = a1 m c) (hX : X = a2 m c) (hO : O = a3 m c) (hP : P = a4 m c) (hG : G = a5 m c) :
    (dats m 0 c).arrAt 6 cfg0.N = Cert.NormRef.dx A H X G
    ∧ (dats m 0 c).arrAt 7 cfg0.N = Cert.NormsRef.dyh (Cert.NormRef.dx A H X G) O P
    ∧ (dats m 0 c).arrAt 8 cfg0.N = Cert.NormRef.dg (Cert.NormRef.dx A H X G) O
    ∧ (dats m 0 c).arrAt 9 cfg0.N = Cert.NormRef.dg H X := by
  subst hA hH hX hO hP hG
  have hD := fun i j => (Cert.NormRef.dx_at (a0 m c) (a1 m c) (a2 m c) (a5 m c) i j).trans (Cert.NormReal.same _ _ _ _).symm
  refine ⟨final_dx (reads m c) hD, final_do (reads m c) hD _ fun i j => ?_, final_dgp (reads m c) hD _ (Cert.NormRef.dg_at _ _), final_dgn (reads m c) _ (Cert.NormRef.dg_at _ _)⟩
  exact (Cert.NormsRef.dyh_at _ _ _ i j).trans (Cert.NormReal.same _ _ _ _).symm

attribute [local instance] Cert.NormsIdeal.Gen.facts Cert.NormsRefIdeal.Gen.facts in
/-- From arguments that agree, the call's results are the reference's. -/
theorem algebraic : Cert.algebraic_NormsIdeal_NormsRefIdeal := by
  pair_intro
  · run_from Cert.NormsIdeal.Value.run_blocks m g
  · run_from Cert.NormsRef.run m' g'
    · exact (same m _ _ _ _ _ _ _ rfl rfl rfl rfl rfl rfl).1.symm
    · exact (same m _ _ _ _ _ _ _ rfl rfl rfl rfl rfl rfl).2.1.symm
    · exact (same m _ _ _ _ _ _ _ rfl rfl rfl rfl rfl rfl).2.2.1.symm
    · exact (same m _ _ _ _ _ _ _ rfl rfl rfl rfl rfl rfl).2.2.2.symm

end Cert.NormsMain

end
-- ==== Proof.MemnMain.lean ====
module

public import proofs.«01_k».proof.Proof.NormMain
public import proofs.«01_k».proof.Proof.Gen.MemnIdeal.Value
public import proofs.«01_k».proof.Proof.Gen.MemnRefIdeal.Run

@[expose] public section

set_option maxRecDepth 16384

noncomputable section

/-! The backward pass of the memory's norm: one grid point computes the gradient of the memory's rows and of the norm's weight. -/

namespace Cert.MemnRef

open Idealize.ShloMosaic Idealize.ShloMosaic.TcCoe Idealize.SL.Sem
open Cert.MemnRefIdeal Cert.MemnRefIdeal.Gen
open Cert.NormReal (ms fac ref)

/-! ## The reference -/

/-- The mean squares of the rows, with the small constant. -/
def rows (X : FVec Ideal S256x2048 .f32) : FVec Ideal S256x1 .f32 :=
  addf (Host.divf (broadcastInDim S256x1 ![0] bcast_S256_S256x1_0 (Host.reduceAdd (mulf X X) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32))
/-- The gradient with the weight's factor. -/
def wt (H : FVec Ideal S256x2048 .f32) (G : FVec Ideal S2048 .f32) : FVec Ideal S256x2048 .f32 :=
  mulf H (broadcastInDim S256x2048 ![0, 1] bcast_S1x2048_S256x2048_0_1 (broadcastInDim S1x2048 ![1] bcast_S2048_S1x2048_1 G))
/-- The factors of the rows. -/
def facs (H X : FVec Ideal S256x2048 .f32) (G : FVec Ideal S2048 .f32) : FVec Ideal S256x2048 .f32 :=
  broadcastInDim S256x2048 ![0] bcast_S256_S256x2048_0 (Host.reduceAdd (Host.divf (mulf (shapeCast _ (Host.reduceAdd (mulf X (wt H G)) (constant S_ .f32 0x00000000#32) reducesTo_S256x2048_S256_d1 h_S_) shapeCasts_S256_S256x1) (mulf (broadcastInDim S256x1 ![] bcast_S_S256x1 (constant S_ .f32 0xBF000000#32)) (Host.divf (Host.rsqrt (rows X)) (rows X)))) (broadcastInDim S256x1 ![] bcast_S_S256x1 (constant S_ .f32 0x45000000#32))) (constant S_ .f32 0x00000000#32) reducesTo_S256x1_S256_d1 h_S_)
/-- The reference's gradient of the row. -/
def dx (H X : FVec Ideal S256x2048 .f32) (G : FVec Ideal S2048 .f32) : FVec Ideal S256x2048 .f32 :=
  addf (addf (mulf (wt H G) (broadcastInDim S256x2048 ![0, 1] bcast_S256x1_S256x2048_0_1 (Host.rsqrt (rows X)))) (mulf X (facs H X G))) (mulf (facs H X G) X)
/-- The reference's gradient of the weight. -/
def dg (H X : FVec Ideal S256x2048 .f32) : FVec Ideal S1x2048 .f32 :=
  shapeCast _ (Host.reduceAdd (shapeCast _ (Host.reduceAdd (mulf (mulf X (broadcastInDim S256x2048 ![0, 1] bcast_S256x1_S256x2048_0_1 (Host.rsqrt (rows X)))) H) (constant S_ .f32 0x00000000#32) reducesTo_S256x2048_S2048_d0 h_S_) shapeCasts_S2048_S1x2048) (constant S_ .f32 0x00000000#32) reducesTo_S1x2048_S2048_d0 h_S_) shapeCasts_S2048_S1x2048

/-- A row's mean square. -/
theorem rows_at (X : FVec Ideal S256x2048 .f32) (i : Fin 256) : rows X (ix2 i 0) = ms fun k => X (ix2 i k) := by
  unfold ms
  pointwise [rows]
/-- An entry with the weight's factor. -/
theorem wt_at (H : FVec Ideal S256x2048 .f32) (G : FVec Ideal S2048 .f32) (i : Fin 256) (j : Fin 2048) : wt H G (ix2 i j) = H (ix2 i j) * G (ix1 j) := by
  pointwise [wt]
/-- A row's factor. -/
theorem facs_at (H X : FVec Ideal S256x2048 .f32) (G : FVec Ideal S2048 .f32) (i : Fin 256) (j : Fin 2048) :
    facs H X G (ix2 i j) = fac (Ideal.rsqrt (ms fun k => X (ix2 i k))) (ms fun k => X (ix2 i k)) (fun k => H (ix2 i k) * G (ix1 k)) fun k => X (ix2 i k) := by
  rw [← rows_at]
  simp only [← wt_at]
  unfold facs fac
  generalize wt H G = D
  generalize rows X = R
  pointwise
  exact Fintype.sum_unique _
/-- An entry of the gradient of the row. -/
theorem dx_at (H X : FVec Ideal S256x2048 .f32) (G : FVec Ideal S2048 .f32) (i : Fin 256) (j : Fin 2048) :
    dx H X G (ix2 i j) = ref (Ideal.rsqrt (ms fun k => X (ix2 i k))) (ms fun k => X (ix2 i k)) 0 (fun k => H (ix2 i k) * G (ix1 k)) (fun k => X (ix2 i k)) j := by
  unfold ref
  rw [zero_add, ← facs_at H X G i j, ← rows_at]
  dsimp only
  rw [← wt_at]
  unfold dx
  generalize facs H X G = C
  generalize wt H G = D
  generalize rows X = R
  pointwise
/-- An entry of the gradient of the weight. -/
theorem dg_at (H X : FVec Ideal S256x2048 .f32) (j : Fin 2048) :
    dg H X (ix2 0 j) = ∑ i : Fin 256, H (ix2 i j) * (X (ix2 i j) * Ideal.rsqrt (ms fun k => X (ix2 i k))) := by
  have h : dg H X (ix2 0 j) = ∑ i : Fin 256, (X (ix2 i j) * Ideal.rsqrt (rows X (ix2 i 0))) * H (ix2 i j) := by
    unfold dg
    generalize rows X = R
    pointwise
    exact Fintype.sum_unique _
  rw [h]
  exact Finset.sum_congr rfl fun i _ => by rw [rows_at, mul_comm]

/-- The reference's run, with its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = dx (m ((c.tc : Thread nD τ).loc main_arg0)) (m ((c.tc : Thread nD τ).loc main_arg1)) (m ((c.tc : Thread nD τ).loc main_arg2))
      ∧ r.2.mem ((c.tc : Thread nD τ).loc main_v36) = dg (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2⟩) (Cert.MemnRefIdeal.Value.run m ρ)

end Cert.MemnRef

namespace Cert.MemnMain

open Idealize.ShloMosaic Idealize.ShloMosaic.TcCoe Idealize.SL.Sem
open Cert.MemnIdeal Cert.MemnIdeal.Gen
open Cert.NormReal (ms ker)
open Cert.NormMain (off2)

variable (m : (ℓ : Loc nD τ sig) → Buf (Elt Ideal) ℓ) (c : Dev nD)

/-- The block indices of the windows at the one grid point. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-! ## What the grid point computes -/

variable (x h : S256x2048.Idx → EReal) (w : S1x2048.Idx → EReal)

/-- One over the root of a row's mean square. -/
theorem pay1 (i : Fin 256) : k0_pay1 (F := Ideal) x (ix2 i 0) = Ideal.rsqrt (ms fun k => x (ix2 i k)) := Cert.NormMain.pay1 x i
/-- An entry of the normalised row. -/
theorem pay2 (i : Fin 256) (j : Fin 2048) : k0_pay2 (F := Ideal) x (ix2 i j) = x (ix2 i j) * Ideal.rsqrt (ms fun k => x (ix2 i k)) := Cert.NormMain.pay2 x i j
/-- A weight's gradient over the rows. -/
theorem pay4 (j : Fin 2048) : k0_pay4 (F := Ideal) x h (ix2 0 j) = ∑ i : Fin 256, h (ix2 i j) * (x (ix2 i j) * Ideal.rsqrt (ms fun k => x (ix2 i k))) := Cert.NormMain.pay3 x h j
/-- An entry of the gradient of the rows. -/
theorem pay3 (i : Fin 256) (j : Fin 2048) : k0_pay3 (F := Ideal) x w h (ix2 i j)
    = ker (Ideal.rsqrt (ms fun k => x (ix2 i k))) 0 (fun k => h (ix2 i k) * w (ix2 0 k)) (fun k => x (ix2 i k)) j := by
  unfold ker
  rw [zero_add]
  simp only [← pay2]
  rw [← pay1]
  unfold k0_pay3
  generalize k0_pay2 (F := Ideal) x = Y
  generalize k0_pay1 (F := Ideal) x = R
  pointwise

variable (t : Fin cfg0.N)

/-- What the point writes. -/
theorem blocks : (outsAt0 m c t).1 = k0_pay3 (iblk m c 1 t) (iblk m c 2 t) (iblk m c 0 t) ∧ (outsAt0 m c t).2 = k0_pay4 (iblk m c 1 t) (iblk m c 0 t) := by
  unfold outsAt0
  dsimp only
  unfold out0_A_3 out0_A_4
  rw [View.read_writes_eq_canon _ _ _ (cover0_A_3 _ _ _ _ _ _ _ _ _ _ _ _ _ _ _ _ _),
    View.read_writes_eq_canon _ _ _ (cover0_A_4 _ _ _ _ _ _ _ _ _ _ _ _ _ _ _ _ _)]
  unfold kernelRun0_A
  dsimp only
  rw [View.canon_unit_zero off2, View.canon_unit_zero off2]
  simp only [View.readAt_eq_ld, Memref.IsWhole.read_unread, View.ld_unit_zero (S := S256x2048) off2, View.ld_unit_zero (S := S1x2048) off2, and_self]

/-! ## The result arrays -/

variable (H X : S256x2048.Idx → EReal) (G : S2048.Idx → EReal)

/-- An entry of the block of the norm's gradient. -/
theorem blk0 (hH : V m c main_arg0 = H) (i : Fin 256) (j : Fin 2048) : (iblk m c 0 t : S256x2048.Idx → EReal) (ix2 i j) = H (ix2 i j) := by
  subst hH
  blk_ext [iblk, V, idx t]
/-- An entry of the memory's block. -/
theorem blk1 (hX : V m c main_arg1 = X) (i : Fin 256) (j : Fin 2048) : (iblk m c 1 t : S256x2048.Idx → EReal) (ix2 i j) = X (ix2 i j) := by
  subst hX
  blk_ext [iblk, V, idx t]
/-- An entry of the weight's block. -/
theorem blk2 (hG : ∀ j : Fin 2048, (V m c main_v0 : S1x2048.Idx → EReal) (ix2 0 j) = G (ix1 j)) (j : Fin 2048) :
    (iblk m c 2 t : S1x2048.Idx → EReal) (ix2 0 j) = G (ix1 j) := by
  refine Eq.trans ?_ (hG j)
  blk_ext [iblk, idx t]

/-- The array of the rows' gradient. -/
theorem final_dx (hH : V m c main_arg0 = H) (hX : V m c main_arg1 = X)
    (hG : ∀ j : Fin 2048, (V m c main_v0 : S1x2048.Idx → EReal) (ix2 0 j) = G (ix1 j)) (Z : FVec Ideal S256x2048 .f32)
    (hZ : ∀ (i : Fin 256) (j : Fin 2048), Z (ix2 i j) = ker (Ideal.rsqrt (ms fun k => X (ix2 i k))) 0 (fun k => H (ix2 i k) * G (ix1 k)) (fun k => X (ix2 i k)) j) :
    (dats m 0 c).arrAt 3 cfg0.N = Z := by
  refine (dats m 0 c).arrAt_eq_of_covers 3 _ (by decide +kernel) fun t _ y => ?_
  have hy0 : (y 0).val < 256 := (y 0).isLt
  have hy1 : (y 1).val < 2048 := (y 1).isLt
  blk_simp
  rw [after0_3, (blocks m c t).1]
  have e : (win0_3.blk t).view.emb y = (ix2 ⟨(y 0).val, hy0⟩ ⟨(y 1).val, hy1⟩ : S256x2048.Idx) := by
    blk_ext [idx t]
  have ey : y = (ix2 ⟨(y 0).val, hy0⟩ ⟨(y 1).val, hy1⟩ : S256x2048.Idx) := by blk_ext
  refine Eq.trans ?_ ((congrArg Z e).trans (hZ _ _)).symm
  refine (congrArg (k0_pay3 (F := Ideal) _ _ _) ey).trans ((pay3 _ _ _ _ _).trans ?_)
  simp only [blk0 m c t H hH, blk1 m c t X hX, blk2 m c t G hG]

/-- The array of the weight's gradient. -/
theorem final_dg (hH : V m c main_arg0 = H) (hX : V m c main_arg1 = X) (Z : FVec Ideal S1x2048 .f32)
    (hZ : ∀ j : Fin 2048, Z (ix2 0 j) = ∑ i : Fin 256, H (ix2 i j) * (X (ix2 i j) * Ideal.rsqrt (ms fun k => X (ix2 i k)))) :
    (dats m 0 c).arrAt 4 cfg0.N = Z := by
  refine (dats m 0 c).arrAt_eq_of_covers 4 _ (by decide +kernel) fun t _ y => ?_
  have hy0 : (y 0).val < 1 := (y 0).isLt
  have hy1 : (y 1).val < 2048 := (y 1).isLt
  blk_simp
  rw [after0_4, (blocks m c t).2]
  have e : (win0_4.blk t).view.emb y = (ix2 0 ⟨(y 1).val, hy1⟩ : S1x2048.Idx) := by
    blk_ext [idx t]
  have ey : y = (ix2 0 ⟨(y 1).val, hy1⟩ : S1x2048.Idx) := by blk_ext
  refine Eq.trans ?_ ((congrArg Z e).trans (hZ _)).symm
  refine (congrArg (k0_pay4 (F := Ideal) _ _) ey).trans ((pay4 _ _ _).trans ?_)
  simp only [blk0 m c t H hH, blk1 m c t X hX]

/-- The norm's gradient, as an array of entries. -/
abbrev a0 : S256x2048.Idx → EReal := m ((c.tc : Thread nD τ).loc main_arg0)
/-- The memory. -/
abbrev a1 : S256x2048.Idx → EReal := m ((c.tc : Thread nD τ).loc main_arg1)
/-- The norm's weight. -/
abbrev a2 : S2048.Idx → EReal := m ((c.tc : Thread nD τ).loc main_arg2)

/-- The arguments, as the call finds them. -/
theorem args : V m c main_arg0 = a0 m c ∧ V m c main_arg1 = a1 m c := by
  refine ⟨?_, ?_⟩
  · entry_read
    rfl
  · entry_read
    rfl

/-- The weight, as the call finds it. -/
theorem weight (j : Fin 2048) : (V m c main_v0 : S1x2048.Idx → EReal) (ix2 0 j) = a2 m c (ix1 j) := by
  entry_read
  pointwise

/-- The call's two results are the reference's. -/
theorem same (H X : FVec Ideal S256x2048 .f32) (G : FVec Ideal S2048 .f32) (hH : H = a0 m c) (hX : X = a1 m c) (hG : G = a2 m c) :
    (dats m 0 c).arrAt 3 cfg0.N = Cert.MemnRef.dx H X G ∧ (dats m 0 c).arrAt 4 cfg0.N = Cert.MemnRef.dg H X := by
  subst hH hX hG
  exact ⟨final_dx m c _ _ _ (args m c).1 (args m c).2 (weight m c) _ fun i j => (Cert.MemnRef.dx_at _ _ _ i j).trans (Cert.NormReal.same _ _ _ _).symm,
    final_dg m c _ _ (args m c).1 (args m c).2 _ (Cert.MemnRef.dg_at _ _)⟩

attribute [local instance] Cert.MemnIdeal.Gen.facts Cert.MemnRefIdeal.Gen.facts in
/-- From arguments that agree, the call's results are the reference's. -/
theorem algebraic : Cert.algebraic_MemnIdeal_MemnRefIdeal := by
  pair_intro
  · run_from Cert.MemnIdeal.Value.run_blocks m g
  · run_from Cert.MemnRef.run m' g'
    · exact (same m _ _ _ _ rfl rfl rfl).1.symm
    · exact (same m _ _ _ _ rfl rfl rfl).2.symm

end Cert.MemnMain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Updx
public import proofs.«01_k».proof.Proof.Gen.Updx.Skeleton
public import proofs.«01_k».proof.Proof.Gen.Updx.Launch
public import proofs.«01_k».proof.Proof.Gen.Updx.Points
public import proofs.«01_k».proof.Proof.Gen.Updx.Frame
public import proofs.«01_k».proof.Proof.Gen.UpdxIdeal
public import proofs.«01_k».proof.Proof.Gen.UpdxIdeal.Skeleton
public import proofs.«01_k».proof.Proof.Gen.UpdxIdeal.Launch
public import proofs.«01_k».proof.Proof.Gen.UpdxIdeal.Points
public import proofs.«01_k».proof.Proof.Gen.UpdxIdeal.Frame
public import proofs.«01_k».proof.Proof.Gen.UpdxIdeal.Value
public import proofs.«01_k».proof.Proof.Gen.UpdxRefIdeal
public import proofs.«01_k».proof.Proof.Gen.UpdxRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Indx
public import proofs.«01_k».proof.Proof.Gen.Indx.Skeleton
public import proofs.«01_k».proof.Proof.Gen.Indx.Launch
public import proofs.«01_k».proof.Proof.Gen.Indx.Points
public import proofs.«01_k».proof.Proof.Gen.Indx.Frame
public import proofs.«01_k».proof.Proof.Gen.IndxIdeal
public import proofs.«01_k».proof.Proof.Gen.IndxIdeal.Skeleton
public import proofs.«01_k».proof.Proof.Gen.IndxIdeal.Launch
public import proofs.«01_k».proof.Proof.Gen.IndxIdeal.Points
public import proofs.«01_k».proof.Proof.Gen.IndxIdeal.Frame
public import proofs.«01_k».proof.Proof.Gen.IndxIdeal.Value
public import proofs.«01_k».proof.Proof.Gen.IndxRefIdeal
public import proofs.«01_k».proof.Proof.Gen.IndxRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Gen.Xatt
public import proofs.«01_k».proof.Proof.Gen.Xatt.Skeleton
public import proofs.«01_k».proof.Proof.Gen.Xatt.Launch
public import proofs.«01_k».proof.Proof.Gen.Xatt.Points
public import proofs.«01_k».proof.Proof.Gen.Xatt.Frame
public import proofs.«01_k».proof.Proof.Gen.XattIdeal
public import proofs.«01_k».proof.Proof.Gen.XattIdeal.Skeleton
public import proofs.«01_k».proof.Proof.Gen.XattIdeal.Launch
public import proofs.«01_k».proof.Proof.Gen.XattIdeal.Points
public import proofs.«01_k».proof.Proof.Gen.XattIdeal.Frame
public import proofs.«01_k».proof.Proof.Gen.XattRefIdeal
public import proofs.«01_k».proof.Proof.Gen.XattRefIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.Norms
public import proofs.«01_k».proof.Proof.Gen.Norms.Skeleton
public import proofs.«01_k».proof.Proof.Gen.Norms.Launch
public import proofs.«01_k».proof.Proof.Gen.Norms.Points
public import proofs.«01_k».proof.Proof.Gen.Norms.Frame
public import proofs.«01_k».proof.Proof.Gen.NormsIdeal
public import proofs.«01_k».proof.Proof.Gen.NormsIdeal.Skeleton
public import proofs.«01_k».proof.Proof.Gen.NormsIdeal.Launch
public import proofs.«01_k».proof.Proof.Gen.NormsIdeal.Points
public import proofs.«01_k».proof.Proof.Gen.NormsIdeal.Frame
public import proofs.«01_k».proof.Proof.Gen.NormsIdeal.Value
public import proofs.«01_k».proof.Proof.Gen.NormsRefIdeal
public import proofs.«01_k».proof.Proof.Gen.NormsRefIdeal.Run
public import proofs.«01_k».proof.Proof.Gen.Memn
public import proofs.«01_k».proof.Proof.Gen.Memn.Skeleton
public import proofs.«01_k».proof.Proof.Gen.Memn.Launch
public import proofs.«01_k».proof.Proof.Gen.Memn.Points
public import proofs.«01_k».proof.Proof.Gen.Memn.Frame
public import proofs.«01_k».proof.Proof.Gen.MemnIdeal
public import proofs.«01_k».proof.Proof.Gen.MemnIdeal.Skeleton
public import proofs.«01_k».proof.Proof.Gen.MemnIdeal.Launch
public import proofs.«01_k».proof.Proof.Gen.MemnIdeal.Points
public import proofs.«01_k».proof.Proof.Gen.MemnIdeal.Frame
public import proofs.«01_k».proof.Proof.Gen.MemnIdeal.Value
public import proofs.«01_k».proof.Proof.Gen.MemnRefIdeal
public import proofs.«01_k».proof.Proof.Gen.MemnRefIdeal.Run
public import proofs.«01_k».proof.Proof.GmlpMain
public import proofs.«01_k».proof.Proof.FfnMain
public import proofs.«01_k».proof.Proof.UpdxMain
public import proofs.«01_k».proof.Proof.DownMain
public import proofs.«01_k».proof.Proof.IndxMain
public import proofs.«01_k».proof.Proof.MixMain
public import proofs.«01_k».proof.Proof.XattMain
public import proofs.«01_k».proof.Proof.AttnMain
public import proofs.«01_k».proof.Proof.NormMain
public import proofs.«01_k».proof.Proof.LossMain
public import proofs.«01_k».proof.Proof.AdamMain
public import proofs.«01_k».proof.Proof.NormsMain
public import proofs.«01_k».proof.Proof.MemnMain
public import Idealize.ShloMosaic.Adequacy
public import Idealize.ShloMosaic.Init

@[expose] public section

noncomputable section

namespace Cert.Proof

open Idealize.ShloMosaic Idealize.SL.Sem Cert.Kernel

/-- The reference terminates with its arguments unchanged; it declares no counter. -/
theorem quiet_reference : @Cert.quiescent_ReferenceIdeal Cert.ReferenceIdeal.Gen.facts := fun m ρ _ =>
  θ_run_mono (Cert.ReferenceIdeal.Value.run m ρ) fun _ h => ⟨fun c => (h c).2.2.2.2.2, funext fun s => nomatch s.2⟩

/-- The feed-forward part's reference terminates with its arguments unchanged; it declares no counter. -/
theorem quiet_ffn : @Cert.quiescent_FfnRefIdeal Cert.FfnRefIdeal.Gen.facts := fun m ρ _ =>
  θ_run_mono (Cert.FfnRefIdeal.Value.run m ρ) fun _ h => ⟨fun c => (h c).2.2.2, funext fun s => nomatch s.2⟩

/-- The reference of the feed-forward input's gradient terminates with its arguments unchanged; it declares no counter. -/
theorem quiet_updx : @Cert.quiescent_UpdxRefIdeal Cert.UpdxRefIdeal.Gen.facts := fun m ρ _ =>
  θ_run_mono (Cert.UpdxRefIdeal.Value.run m ρ) fun _ h => ⟨fun c => (h c).2, funext fun s => nomatch s.2⟩

/-- The reference of the product down terminates with its arguments unchanged; it declares no counter. -/
theorem quiet_down : @Cert.quiescent_DownRefIdeal Cert.DownRefIdeal.Gen.facts := fun m ρ _ =>
  θ_run_mono (Cert.DownRefIdeal.Value.run m ρ) fun _ h => ⟨fun c => (h c).2, funext fun s => nomatch s.2⟩

/-- The reference of the gradient of the mixers' input terminates with its arguments unchanged; it declares no counter. -/
theorem quiet_indx : @Cert.quiescent_IndxRefIdeal Cert.IndxRefIdeal.Gen.facts := fun m ρ _ =>
  θ_run_mono (Cert.IndxRefIdeal.Value.run m ρ) fun _ h => ⟨fun c => (h c).2, funext fun s => nomatch s.2⟩

/-- The reference of the products of the mixers' part terminates with its arguments unchanged; it declares no counter. -/
theorem quiet_mix : @Cert.quiescent_MixRefIdeal Cert.MixRefIdeal.Gen.facts := fun m ρ _ =>
  θ_run_mono (Cert.MixRefIdeal.Value.run m ρ) fun _ h => ⟨fun c => (h c).2.2.2.2.2, funext fun s => nomatch s.2⟩

/-- The reference of the products of the attention's projections terminates with its arguments unchanged; it declares no counter. -/
theorem quiet_xatt : @Cert.quiescent_XattRefIdeal Cert.XattRefIdeal.Gen.facts := fun m ρ _ =>
  θ_run_mono (Cert.XattRefIdeal.Value.run m ρ) fun _ h => ⟨fun c => (h c).2.2.2.2.2, funext fun s => nomatch s.2⟩

/-- The cross-attention's reference terminates with its arguments unchanged; it declares no counter. -/
theorem quiet_attn : @Cert.quiescent_AttnRefIdeal Cert.AttnRefIdeal.Gen.facts := fun m ρ _ =>
  θ_run_mono (Cert.AttnRefIdeal.Att.run m ρ) fun _ h => ⟨fun c => (h c).2.2.2.2, funext fun s => nomatch s.2⟩

/-- The first norm's reference terminates with its arguments unchanged; it declares no counter. -/
theorem quiet_norm : @Cert.quiescent_NormRefIdeal Cert.NormRefIdeal.Gen.facts := fun m ρ _ =>
  θ_run_mono (Cert.NormRef.run m ρ) fun _ h => ⟨fun c => (h c).2.2, funext fun s => nomatch s.2⟩

/-- The loss head's reference terminates with its arguments unchanged; it declares no counter. -/
theorem quiet_loss : @Cert.quiescent_LossRefIdeal Cert.LossRefIdeal.Gen.facts := fun m ρ _ =>
  θ_run_mono (Cert.LossRef.run m ρ) fun _ h => ⟨fun c => (h c).2.2, funext fun s => nomatch s.2⟩

/-- The optimiser's reference terminates with its arguments unchanged; it declares no counter. -/
theorem quiet_adam : @Cert.quiescent_AdamRefIdeal Cert.AdamRefIdeal.Gen.facts := fun m ρ _ =>
  θ_run_mono (Cert.AdamRefIdeal.Value.run m ρ) fun _ h => ⟨fun c => (h c).2.2.2, funext fun s => nomatch s.2⟩

/-- The two norms' reference terminates with its arguments unchanged; it declares no counter. -/
theorem quiet_norms : @Cert.quiescent_NormsRefIdeal Cert.NormsRefIdeal.Gen.facts := fun m ρ _ =>
  θ_run_mono (Cert.NormsRef.run m ρ) fun _ h => ⟨fun c => (h c).2.2.2.2, funext fun s => nomatch s.2⟩

/-- The memory's norm's reference terminates with its arguments unchanged; it declares no counter. -/
theorem quiet_memn : @Cert.quiescent_MemnRefIdeal Cert.MemnRefIdeal.Gen.facts := fun m ρ _ =>
  θ_run_mono (Cert.MemnRef.run m ρ) fun _ h => ⟨fun c => (h c).2.2, funext fun s => nomatch s.2⟩

/-- Every claim of the statement holds. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts, Cert.Updx.Gen.facts, Cert.UpdxIdeal.Gen.facts, Cert.UpdxRefIdeal.Gen.facts,
  Cert.Down.Gen.facts, Cert.DownIdeal.Gen.facts, Cert.DownRefIdeal.Gen.facts,
  Cert.Indx.Gen.facts, Cert.IndxIdeal.Gen.facts, Cert.IndxRefIdeal.Gen.facts,
  Cert.Mix.Gen.facts, Cert.MixIdeal.Gen.facts, Cert.MixRefIdeal.Gen.facts,
  Cert.Xatt.Gen.facts, Cert.XattIdeal.Gen.facts, Cert.XattRefIdeal.Gen.facts,
  Cert.Attn.Gen.facts, Cert.AttnIdeal.Gen.facts, Cert.AttnRefIdeal.Gen.facts,
  Cert.Norm.Gen.facts, Cert.NormIdeal.Gen.facts, Cert.NormRefIdeal.Gen.facts,
  Cert.Loss.Gen.facts, Cert.LossIdeal.Gen.facts, Cert.LossRefIdeal.Gen.facts,
  Cert.Adam.Gen.facts, Cert.AdamIdeal.Gen.facts, Cert.AdamRefIdeal.Gen.facts,
  Cert.Norms.Gen.facts, Cert.NormsIdeal.Gen.facts, Cert.NormsRefIdeal.Gen.facts,
  Cert.Memn.Gen.facts, Cert.MemnIdeal.Gen.facts, Cert.MemnRefIdeal.Gen.facts,
  Cert.GmlpMath.preFacts, Cert.AttnMain.preFacts,
  fun m ρ _ => Cert.Kernel.Gen.frame m ρ,
  fun m ρ _ => Cert.KernelIdeal.Gen.frame m ρ,
  fun m ρ _ => Cert.KernelIdeal.Gen.frame m ρ,
  quiet_reference,
  fun m ρ _ => quiet_reference m ρ trivial,
  fun m ρ _ => Cert.Ffn.Gen.frame m ρ,
  fun m ρ _ => Cert.FfnIdeal.Gen.frame m ρ,
  quiet_ffn,
  fun m ρ _ => Cert.Updx.Gen.frame m ρ,
  fun m ρ _ => Cert.UpdxIdeal.Gen.frame m ρ,
  quiet_updx,
  fun m ρ _ => Cert.Down.Gen.frame m ρ,
  fun m ρ _ => Cert.DownIdeal.Gen.frame m ρ,
  quiet_down,
  fun m ρ _ => Cert.Indx.Gen.frame m ρ,
  fun m ρ _ => Cert.IndxIdeal.Gen.frame m ρ,
  quiet_indx,
  fun m ρ _ => Cert.Mix.Gen.frame m ρ,
  fun m ρ _ => Cert.MixIdeal.Gen.frame m ρ,
  quiet_mix,
  fun m ρ _ => Cert.Xatt.Gen.frame m ρ,
  fun m ρ _ => Cert.XattIdeal.Gen.frame m ρ,
  quiet_xatt,
  fun m ρ _ => Cert.Attn.Gen.frame m ρ,
  fun m ρ _ => Cert.AttnIdeal.Gen.frame m ρ,
  fun m ρ _ => Cert.AttnIdeal.Gen.frame m ρ,
  quiet_attn,
  fun m ρ _ => quiet_attn m ρ trivial,
  fun m ρ _ => Cert.Norm.Gen.frame m ρ,
  fun m ρ _ => Cert.NormIdeal.Gen.frame m ρ,
  quiet_norm,
  fun m ρ _ => Cert.Loss.Gen.frame m ρ,
  fun m ρ _ => Cert.LossIdeal.Gen.frame m ρ,
  quiet_loss,
  fun m ρ _ => Cert.Adam.Gen.frame m ρ,
  fun m ρ _ => Cert.AdamIdeal.Gen.frame m ρ,
  quiet_adam,
  fun m ρ _ => Cert.Norms.Gen.frame m ρ,
  fun m ρ _ => Cert.NormsIdeal.Gen.frame m ρ,
  quiet_norms,
  fun m ρ _ => Cert.Memn.Gen.frame m ρ,
  fun m ρ _ => Cert.MemnIdeal.Gen.frame m ρ,
  quiet_memn,
  trivial,
  Cert.GmlpMain.algebraic,
  trivial,
  Cert.FfnMain.algebraic,
  trivial,
  Cert.UpdxMain.algebraic,
  trivial,
  Cert.DownMain.algebraic,
  trivial,
  Cert.IndxMain.algebraic,
  trivial,
  Cert.MixMain.algebraic,
  trivial,
  Cert.XattMain.algebraic,
  trivial,
  Cert.AttnMain.algebraic,
  trivial,
  Cert.NormMain.algebraic,
  trivial,
  Cert.LossMain.algebraic,
  trivial,
  Cert.AdamMain.algebraic,
  trivial,
  Cert.NormsMain.algebraic,
  trivial,
  Cert.MemnMain.algebraic⟩

end Cert.Proof

end
